-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S32 : Shape := ⟨1, ![32]⟩
abbrev S11 : Shape := ⟨1, ![11]⟩
abbrev S1 : Shape := ⟨1, ![1]⟩
abbrev S_ : Shape := ⟨0, ![]⟩
abbrev S128x1024 : Shape := ⟨2, ![128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .bf16⟩
  | .local _ .vmem, ⟨1, _⟩ => ⟨S4096x1024, .f32⟩
  | .local _ .vmem, ⟨2, _⟩ => ⟨S4096x1024, .bf16⟩
  | .local _ .vmem, ⟨3, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 109 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | _ => false

abbrev sig : RefSig :=
  (ofTc nBuf bufTy 1 109 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_103 : BitVec 32 := 0#32
  let v138 : BitVec 1 := Scalar.cmpi .eq v8 c0_i32_103
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_104 : BitVec 32 := 0#32
  let v139 : BitVec 1 := Scalar.cmpi .eq v2 c0_i32_104
  let v140 : BitVec 1 := Scalar.andi v138 v139
  let v141 : BitVec 32 := Scalar.extui v140
  let c0_i32_137 : BitVec 32 := 0#32
  let v142 : BitVec 1 := Scalar.cmpi .ne v141 c0_i32_137
  v142

def k0_dev1 (d0 : Dev nD) : Nat :=
  let c0_i32_388 : BitVec 32 := 0#32
  let c0_i32_385 : BitVec 32 := 0#32
  let c8_i32_387 : BitVec 32 := 8#32
  let v179 : BitVec 32 := Scalar.muli c0_i32_385 c8_i32_387
  let v180 : BitVec 32 := Scalar.addi c0_i32_388 v179
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_389 : BitVec 32 := 4#32
  let v181 : BitVec 32 := Scalar.muli v178 c4_i32_389
  let v182 : BitVec 32 := Scalar.addi v180 v181
  let c0_i32_386 : BitVec 32 := 0#32
  let c1_i32_390 : BitVec 32 := 1#32
  let v183 : BitVec 32 := Scalar.muli c0_i32_386 c1_i32_390
  let v184 : BitVec 32 := Scalar.addi v182 v183
  v184.toNat
def k0_dev2 (d0 : Dev nD) : Nat :=
  let c0_i32_395 : BitVec 32 := 0#32
  let c1_i32_392 : BitVec 32 := 1#32
  let c8_i32_394 : BitVec 32 := 8#32
  let v185 : BitVec 32 := Scalar.muli c1_i32_392 c8_i32_394
  let v186 : BitVec 32 := Scalar.addi c0_i32_395 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v187 : BitVec 32 := Scalar.muli v5 c4_i32_396
  let v188 : BitVec 32 := Scalar.addi v186 v187
  let c0_i32_393 : BitVec 32 := 0#32
  let c1_i32_397 : BitVec 32 := 1#32
  let v189 : BitVec 32 := Scalar.muli c0_i32_393 c1_i32_397
  let v190 : BitVec 32 := Scalar.addi v188 v189
  v190.toNat
def k0_dev3 (d0 : Dev nD) : Nat :=
  let c0_i32_402 : BitVec 32 := 0#32
  let c0_i32_399 : BitVec 32 := 0#32
  let c8_i32_401 : BitVec 32 := 8#32
  let v191 : BitVec 32 := Scalar.muli c0_i32_399 c8_i32_401
  let v192 : BitVec 32 := Scalar.addi c0_i32_402 v191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v193 : BitVec 32 := Scalar.muli v5 c4_i32_403
  let v194 : BitVec 32 := Scalar.addi v192 v193
  let c1_i32_400 : BitVec 32 := 1#32
  let c1_i32_404 : BitVec 32 := 1#32
  let v195 : BitVec 32 := Scalar.muli c1_i32_400 c1_i32_404
  let v196 : BitVec 32 := Scalar.addi v194 v195
  v196.toNat
def k0_dev4 (d0 : Dev nD) : Nat :=
  let c0_i32_439 : BitVec 32 := 0#32
  let c0_i32_436 : BitVec 32 := 0#32
  let c8_i32_438 : BitVec 32 := 8#32
  let v233 : BitVec 32 := Scalar.muli c0_i32_436 c8_i32_438
  let v234 : BitVec 32 := Scalar.addi c0_i32_439 v233
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_440 : BitVec 32 := 4#32
  let v235 : BitVec 32 := Scalar.muli v178 c4_i32_440
  let v236 : BitVec 32 := Scalar.addi v234 v235
  let c0_i32_437 : BitVec 32 := 0#32
  let c1_i32_441 : BitVec 32 := 1#32
  let v237 : BitVec 32 := Scalar.muli c0_i32_437 c1_i32_441
  let v238 : BitVec 32 := Scalar.addi v236 v237
  v238.toNat
def k0_dev5 (d0 : Dev nD) : Nat :=
  let c0_i32_479 : BitVec 32 := 0#32
  let c0_i32_476 : BitVec 32 := 0#32
  let c8_i32_478 : BitVec 32 := 8#32
  let v281 : BitVec 32 := Scalar.muli c0_i32_476 c8_i32_478
  let v282 : BitVec 32 := Scalar.addi c0_i32_479 v281
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_480 : BitVec 32 := 4#32
  let v283 : BitVec 32 := Scalar.muli v178 c4_i32_480
  let v284 : BitVec 32 := Scalar.addi v282 v283
  let c0_i32_477 : BitVec 32 := 0#32
  let c1_i32_481 : BitVec 32 := 1#32
  let v285 : BitVec 32 := Scalar.muli c0_i32_477 c1_i32_481
  let v286 : BitVec 32 := Scalar.addi v284 v285
  v286.toNat
def k0_dev6 (d0 : Dev nD) : Nat :=
  let c0_i32_519 : BitVec 32 := 0#32
  let c0_i32_516 : BitVec 32 := 0#32
  let c8_i32_518 : BitVec 32 := 8#32
  let v329 : BitVec 32 := Scalar.muli c0_i32_516 c8_i32_518
  let v330 : BitVec 32 := Scalar.addi c0_i32_519 v329
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_520 : BitVec 32 := 4#32
  let v331 : BitVec 32 := Scalar.muli v178 c4_i32_520
  let v332 : BitVec 32 := Scalar.addi v330 v331
  let c0_i32_517 : BitVec 32 := 0#32
  let c1_i32_521 : BitVec 32 := 1#32
  let v333 : BitVec 32 := Scalar.muli c0_i32_517 c1_i32_521
  let v334 : BitVec 32 := Scalar.addi v332 v333
  v334.toNat
def k0_dev7 (d0 : Dev nD) : Nat :=
  let c0_i32_559 : BitVec 32 := 0#32
  let c0_i32_556 : BitVec 32 := 0#32
  let c8_i32_558 : BitVec 32 := 8#32
  let v377 : BitVec 32 := Scalar.muli c0_i32_556 c8_i32_558
  let v378 : BitVec 32 := Scalar.addi c0_i32_559 v377
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_560 : BitVec 32 := 4#32
  let v379 : BitVec 32 := Scalar.muli v178 c4_i32_560
  let v380 : BitVec 32 := Scalar.addi v378 v379
  let c0_i32_557 : BitVec 32 := 0#32
  let c1_i32_561 : BitVec 32 := 1#32
  let v381 : BitVec 32 := Scalar.muli c0_i32_557 c1_i32_561
  let v382 : BitVec 32 := Scalar.addi v380 v381
  v382.toNat
def k0_dev8 (d0 : Dev nD) : Nat :=
  let c0_i32_599 : BitVec 32 := 0#32
  let c0_i32_596 : BitVec 32 := 0#32
  let c8_i32_598 : BitVec 32 := 8#32
  let v425 : BitVec 32 := Scalar.muli c0_i32_596 c8_i32_598
  let v426 : BitVec 32 := Scalar.addi c0_i32_599 v425
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_600 : BitVec 32 := 4#32
  let v427 : BitVec 32 := Scalar.muli v178 c4_i32_600
  let v428 : BitVec 32 := Scalar.addi v426 v427
  let c0_i32_597 : BitVec 32 := 0#32
  let c1_i32_601 : BitVec 32 := 1#32
  let v429 : BitVec 32 := Scalar.muli c0_i32_597 c1_i32_601
  let v430 : BitVec 32 := Scalar.addi v428 v429
  v430.toNat
def k0_dev9 (d0 : Dev nD) : Nat :=
  let c0_i32_625 : BitVec 32 := 0#32
  let c0_i32_622 : BitVec 32 := 0#32
  let c8_i32_624 : BitVec 32 := 8#32
  let v455 : BitVec 32 := Scalar.muli c0_i32_622 c8_i32_624
  let v456 : BitVec 32 := Scalar.addi c0_i32_625 v455
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_626 : BitVec 32 := 4#32
  let v457 : BitVec 32 := Scalar.muli v178 c4_i32_626
  let v458 : BitVec 32 := Scalar.addi v456 v457
  let c0_i32_623 : BitVec 32 := 0#32
  let c1_i32_627 : BitVec 32 := 1#32
  let v459 : BitVec 32 := Scalar.muli c0_i32_623 c1_i32_627
  let v460 : BitVec 32 := Scalar.addi v458 v459
  v460.toNat
def k0_dev10 (d0 : Dev nD) : Nat :=
  let c0_i32_651 : BitVec 32 := 0#32
  let c0_i32_648 : BitVec 32 := 0#32
  let c8_i32_650 : BitVec 32 := 8#32
  let v485 : BitVec 32 := Scalar.muli c0_i32_648 c8_i32_650
  let v486 : BitVec 32 := Scalar.addi c0_i32_651 v485
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_652 : BitVec 32 := 4#32
  let v487 : BitVec 32 := Scalar.muli v178 c4_i32_652
  let v488 : BitVec 32 := Scalar.addi v486 v487
  let c0_i32_649 : BitVec 32 := 0#32
  let c1_i32_653 : BitVec 32 := 1#32
  let v489 : BitVec 32 := Scalar.muli c0_i32_649 c1_i32_653
  let v490 : BitVec 32 := Scalar.addi v488 v489
  v490.toNat
def k0_dev11 (d0 : Dev nD) : Nat :=
  let c0_i32_677 : BitVec 32 := 0#32
  let c0_i32_674 : BitVec 32 := 0#32
  let c8_i32_676 : BitVec 32 := 8#32
  let v515 : BitVec 32 := Scalar.muli c0_i32_674 c8_i32_676
  let v516 : BitVec 32 := Scalar.addi c0_i32_677 v515
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_678 : BitVec 32 := 4#32
  let v517 : BitVec 32 := Scalar.muli v178 c4_i32_678
  let v518 : BitVec 32 := Scalar.addi v516 v517
  let c0_i32_675 : BitVec 32 := 0#32
  let c1_i32_679 : BitVec 32 := 1#32
  let v519 : BitVec 32 := Scalar.muli c0_i32_675 c1_i32_679
  let v520 : BitVec 32 := Scalar.addi v518 v519
  v520.toNat
def k0_dev12 (d0 : Dev nD) : Nat :=
  let c0_i32_703 : BitVec 32 := 0#32
  let c0_i32_700 : BitVec 32 := 0#32
  let c8_i32_702 : BitVec 32 := 8#32
  let v545 : BitVec 32 := Scalar.muli c0_i32_700 c8_i32_702
  let v546 : BitVec 32 := Scalar.addi c0_i32_703 v545
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_704 : BitVec 32 := 4#32
  let v547 : BitVec 32 := Scalar.muli v178 c4_i32_704
  let v548 : BitVec 32 := Scalar.addi v546 v547
  let c0_i32_701 : BitVec 32 := 0#32
  let c1_i32_705 : BitVec 32 := 1#32
  let v549 : BitVec 32 := Scalar.muli c0_i32_701 c1_i32_705
  let v550 : BitVec 32 := Scalar.addi v548 v549
  v550.toNat
def k0_dev13 (d0 : Dev nD) : Nat :=
  let c0_i32_729 : BitVec 32 := 0#32
  let c0_i32_726 : BitVec 32 := 0#32
  let c8_i32_728 : BitVec 32 := 8#32
  let v575 : BitVec 32 := Scalar.muli c0_i32_726 c8_i32_728
  let v576 : BitVec 32 := Scalar.addi c0_i32_729 v575
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_730 : BitVec 32 := 4#32
  let v577 : BitVec 32 := Scalar.muli v178 c4_i32_730
  let v578 : BitVec 32 := Scalar.addi v576 v577
  let c0_i32_727 : BitVec 32 := 0#32
  let c1_i32_731 : BitVec 32 := 1#32
  let v579 : BitVec 32 := Scalar.muli c0_i32_727 c1_i32_731
  let v580 : BitVec 32 := Scalar.addi v578 v579
  v580.toNat
def k0_dev14 (d0 : Dev nD) : Nat :=
  let c0_i32_755 : BitVec 32 := 0#32
  let c0_i32_752 : BitVec 32 := 0#32
  let c8_i32_754 : BitVec 32 := 8#32
  let v605 : BitVec 32 := Scalar.muli c0_i32_752 c8_i32_754
  let v606 : BitVec 32 := Scalar.addi c0_i32_755 v605
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_756 : BitVec 32 := 4#32
  let v607 : BitVec 32 := Scalar.muli v178 c4_i32_756
  let v608 : BitVec 32 := Scalar.addi v606 v607
  let c0_i32_753 : BitVec 32 := 0#32
  let c1_i32_757 : BitVec 32 := 1#32
  let v609 : BitVec 32 := Scalar.muli c0_i32_753 c1_i32_757
  let v610 : BitVec 32 := Scalar.addi v608 v609
  v610.toNat
def k0_dev15 (d0 : Dev nD) : Nat :=
  let c0_i32_779 : BitVec 32 := 0#32
  let c1_i32_776 : BitVec 32 := 1#32
  let c8_i32_778 : BitVec 32 := 8#32
  let v627 : BitVec 32 := Scalar.muli c1_i32_776 c8_i32_778
  let v628 : BitVec 32 := Scalar.addi c0_i32_779 v627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_780 : BitVec 32 := 4#32
  let v629 : BitVec 32 := Scalar.muli v5 c4_i32_780
  let v630 : BitVec 32 := Scalar.addi v628 v629
  let c0_i32_777 : BitVec 32 := 0#32
  let c1_i32_781 : BitVec 32 := 1#32
  let v631 : BitVec 32 := Scalar.muli c0_i32_777 c1_i32_781
  let v632 : BitVec 32 := Scalar.addi v630 v631
  v632.toNat
def k0_dev16 (d0 : Dev nD) : Nat :=
  let c0_i32_791 : BitVec 32 := 0#32
  let c0_i32_788 : BitVec 32 := 0#32
  let c8_i32_790 : BitVec 32 := 8#32
  let v639 : BitVec 32 := Scalar.muli c0_i32_788 c8_i32_790
  let v640 : BitVec 32 := Scalar.addi c0_i32_791 v639
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_792 : BitVec 32 := 4#32
  let v641 : BitVec 32 := Scalar.muli v5 c4_i32_792
  let v642 : BitVec 32 := Scalar.addi v640 v641
  let c1_i32_789 : BitVec 32 := 1#32
  let c1_i32_793 : BitVec 32 := 1#32
  let v643 : BitVec 32 := Scalar.muli c1_i32_789 c1_i32_793
  let v644 : BitVec 32 := Scalar.addi v642 v643
  v644.toNat
def k0_dev17 (d0 : Dev nD) : Nat :=
  let c0_i32_821 : BitVec 32 := 0#32
  let c1_i32_818 : BitVec 32 := 1#32
  let c8_i32_820 : BitVec 32 := 8#32
  let v665 : BitVec 32 := Scalar.muli c1_i32_818 c8_i32_820
  let v666 : BitVec 32 := Scalar.addi c0_i32_821 v665
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_822 : BitVec 32 := 4#32
  let v667 : BitVec 32 := Scalar.muli v5 c4_i32_822
  let v668 : BitVec 32 := Scalar.addi v666 v667
  let c0_i32_819 : BitVec 32 := 0#32
  let c1_i32_823 : BitVec 32 := 1#32
  let v669 : BitVec 32 := Scalar.muli c0_i32_819 c1_i32_823
  let v670 : BitVec 32 := Scalar.addi v668 v669
  v670.toNat
def k0_dev18 (d0 : Dev nD) : Nat :=
  let c0_i32_833 : BitVec 32 := 0#32
  let c0_i32_830 : BitVec 32 := 0#32
  let c8_i32_832 : BitVec 32 := 8#32
  let v677 : BitVec 32 := Scalar.muli c0_i32_830 c8_i32_832
  let v678 : BitVec 32 := Scalar.addi c0_i32_833 v677
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_834 : BitVec 32 := 4#32
  let v679 : BitVec 32 := Scalar.muli v5 c4_i32_834
  let v680 : BitVec 32 := Scalar.addi v678 v679
  let c1_i32_831 : BitVec 32 := 1#32
  let c1_i32_835 : BitVec 32 := 1#32
  let v681 : BitVec 32 := Scalar.muli c1_i32_831 c1_i32_835
  let v682 : BitVec 32 := Scalar.addi v680 v681
  v682.toNat
def k0_dev19 (d0 : Dev nD) : Nat :=
  let c0_i32_863 : BitVec 32 := 0#32
  let c1_i32_860 : BitVec 32 := 1#32
  let c8_i32_862 : BitVec 32 := 8#32
  let v703 : BitVec 32 := Scalar.muli c1_i32_860 c8_i32_862
  let v704 : BitVec 32 := Scalar.addi c0_i32_863 v703
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_864 : BitVec 32 := 4#32
  let v705 : BitVec 32 := Scalar.muli v5 c4_i32_864
  let v706 : BitVec 32 := Scalar.addi v704 v705
  let c0_i32_861 : BitVec 32 := 0#32
  let c1_i32_865 : BitVec 32 := 1#32
  let v707 : BitVec 32 := Scalar.muli c0_i32_861 c1_i32_865
  let v708 : BitVec 32 := Scalar.addi v706 v707
  v708.toNat
def k0_dev20 (d0 : Dev nD) : Nat :=
  let c0_i32_875 : BitVec 32 := 0#32
  let c0_i32_872 : BitVec 32 := 0#32
  let c8_i32_874 : BitVec 32 := 8#32
  let v715 : BitVec 32 := Scalar.muli c0_i32_872 c8_i32_874
  let v716 : BitVec 32 := Scalar.addi c0_i32_875 v715
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_876 : BitVec 32 := 4#32
  let v717 : BitVec 32 := Scalar.muli v5 c4_i32_876
  let v718 : BitVec 32 := Scalar.addi v716 v717
  let c1_i32_873 : BitVec 32 := 1#32
  let c1_i32_877 : BitVec 32 := 1#32
  let v719 : BitVec 32 := Scalar.muli c1_i32_873 c1_i32_877
  let v720 : BitVec 32 := Scalar.addi v718 v719
  v720.toNat
def k0_dev21 (d0 : Dev nD) : Nat :=
  let c0_i32_923 : BitVec 32 := 0#32
  let c1_i32_920 : BitVec 32 := 1#32
  let c8_i32_922 : BitVec 32 := 8#32
  let v755 : BitVec 32 := Scalar.muli c1_i32_920 c8_i32_922
  let v756 : BitVec 32 := Scalar.addi c0_i32_923 v755
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_924 : BitVec 32 := 4#32
  let v757 : BitVec 32 := Scalar.muli v5 c4_i32_924
  let v758 : BitVec 32 := Scalar.addi v756 v757
  let c0_i32_921 : BitVec 32 := 0#32
  let c1_i32_925 : BitVec 32 := 1#32
  let v759 : BitVec 32 := Scalar.muli c0_i32_921 c1_i32_925
  let v760 : BitVec 32 := Scalar.addi v758 v759
  v760.toNat
def k0_dev22 (d0 : Dev nD) : Nat :=
  let c0_i32_935 : BitVec 32 := 0#32
  let c0_i32_932 : BitVec 32 := 0#32
  let c8_i32_934 : BitVec 32 := 8#32
  let v767 : BitVec 32 := Scalar.muli c0_i32_932 c8_i32_934
  let v768 : BitVec 32 := Scalar.addi c0_i32_935 v767
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_936 : BitVec 32 := 4#32
  let v769 : BitVec 32 := Scalar.muli v5 c4_i32_936
  let v770 : BitVec 32 := Scalar.addi v768 v769
  let c1_i32_933 : BitVec 32 := 1#32
  let c1_i32_937 : BitVec 32 := 1#32
  let v771 : BitVec 32 := Scalar.muli c1_i32_933 c1_i32_937
  let v772 : BitVec 32 := Scalar.addi v770 v771
  v772.toNat
def k0_dev23 (d0 : Dev nD) : Nat :=
  let c0_i32_983 : BitVec 32 := 0#32
  let c1_i32_980 : BitVec 32 := 1#32
  let c8_i32_982 : BitVec 32 := 8#32
  let v807 : BitVec 32 := Scalar.muli c1_i32_980 c8_i32_982
  let v808 : BitVec 32 := Scalar.addi c0_i32_983 v807
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_984 : BitVec 32 := 4#32
  let v809 : BitVec 32 := Scalar.muli v5 c4_i32_984
  let v810 : BitVec 32 := Scalar.addi v808 v809
  let c0_i32_981 : BitVec 32 := 0#32
  let c1_i32_985 : BitVec 32 := 1#32
  let v811 : BitVec 32 := Scalar.muli c0_i32_981 c1_i32_985
  let v812 : BitVec 32 := Scalar.addi v810 v811
  v812.toNat
def k0_dev24 (d0 : Dev nD) : Nat :=
  let c0_i32_995 : BitVec 32 := 0#32
  let c0_i32_992 : BitVec 32 := 0#32
  let c8_i32_994 : BitVec 32 := 8#32
  let v819 : BitVec 32 := Scalar.muli c0_i32_992 c8_i32_994
  let v820 : BitVec 32 := Scalar.addi c0_i32_995 v819
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_996 : BitVec 32 := 4#32
  let v821 : BitVec 32 := Scalar.muli v5 c4_i32_996
  let v822 : BitVec 32 := Scalar.addi v820 v821
  let c1_i32_993 : BitVec 32 := 1#32
  let c1_i32_997 : BitVec 32 := 1#32
  let v823 : BitVec 32 := Scalar.muli c1_i32_993 c1_i32_997
  let v824 : BitVec 32 := Scalar.addi v822 v823
  v824.toNat
def k0_dev25 (d0 : Dev nD) : Nat :=
  let c0_i32_1043 : BitVec 32 := 0#32
  let c1_i32_1040 : BitVec 32 := 1#32
  let c8_i32_1042 : BitVec 32 := 8#32
  let v859 : BitVec 32 := Scalar.muli c1_i32_1040 c8_i32_1042
  let v860 : BitVec 32 := Scalar.addi c0_i32_1043 v859
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1044 : BitVec 32 := 4#32
  let v861 : BitVec 32 := Scalar.muli v5 c4_i32_1044
  let v862 : BitVec 32 := Scalar.addi v860 v861
  let c0_i32_1041 : BitVec 32 := 0#32
  let c1_i32_1045 : BitVec 32 := 1#32
  let v863 : BitVec 32 := Scalar.muli c0_i32_1041 c1_i32_1045
  let v864 : BitVec 32 := Scalar.addi v862 v863
  v864.toNat
def k0_dev26 (d0 : Dev nD) : Nat :=
  let c0_i32_1055 : BitVec 32 := 0#32
  let c0_i32_1052 : BitVec 32 := 0#32
  let c8_i32_1054 : BitVec 32 := 8#32
  let v871 : BitVec 32 := Scalar.muli c0_i32_1052 c8_i32_1054
  let v872 : BitVec 32 := Scalar.addi c0_i32_1055 v871
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1056 : BitVec 32 := 4#32
  let v873 : BitVec 32 := Scalar.muli v5 c4_i32_1056
  let v874 : BitVec 32 := Scalar.addi v872 v873
  let c1_i32_1053 : BitVec 32 := 1#32
  let c1_i32_1057 : BitVec 32 := 1#32
  let v875 : BitVec 32 := Scalar.muli c1_i32_1053 c1_i32_1057
  let v876 : BitVec 32 := Scalar.addi v874 v875
  v876.toNat
def k0_dev27 (d0 : Dev nD) : Nat :=
  let c0_i32_1103 : BitVec 32 := 0#32
  let c1_i32_1100 : BitVec 32 := 1#32
  let c8_i32_1102 : BitVec 32 := 8#32
  let v911 : BitVec 32 := Scalar.muli c1_i32_1100 c8_i32_1102
  let v912 : BitVec 32 := Scalar.addi c0_i32_1103 v911
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1104 : BitVec 32 := 4#32
  let v913 : BitVec 32 := Scalar.muli v5 c4_i32_1104
  let v914 : BitVec 32 := Scalar.addi v912 v913
  let c0_i32_1101 : BitVec 32 := 0#32
  let c1_i32_1105 : BitVec 32 := 1#32
  let v915 : BitVec 32 := Scalar.muli c0_i32_1101 c1_i32_1105
  let v916 : BitVec 32 := Scalar.addi v914 v915
  v916.toNat
def k0_dev28 (d0 : Dev nD) : Nat :=
  let c0_i32_1115 : BitVec 32 := 0#32
  let c0_i32_1112 : BitVec 32 := 0#32
  let c8_i32_1114 : BitVec 32 := 8#32
  let v923 : BitVec 32 := Scalar.muli c0_i32_1112 c8_i32_1114
  let v924 : BitVec 32 := Scalar.addi c0_i32_1115 v923
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1116 : BitVec 32 := 4#32
  let v925 : BitVec 32 := Scalar.muli v5 c4_i32_1116
  let v926 : BitVec 32 := Scalar.addi v924 v925
  let c1_i32_1113 : BitVec 32 := 1#32
  let c1_i32_1117 : BitVec 32 := 1#32
  let v927 : BitVec 32 := Scalar.muli c1_i32_1113 c1_i32_1117
  let v928 : BitVec 32 := Scalar.addi v926 v927
  v928.toNat
def k0_dev29 (d0 : Dev nD) : Nat :=
  let c0_i32_1163 : BitVec 32 := 0#32
  let c1_i32_1160 : BitVec 32 := 1#32
  let c8_i32_1162 : BitVec 32 := 8#32
  let v963 : BitVec 32 := Scalar.muli c1_i32_1160 c8_i32_1162
  let v964 : BitVec 32 := Scalar.addi c0_i32_1163 v963
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1164 : BitVec 32 := 4#32
  let v965 : BitVec 32 := Scalar.muli v5 c4_i32_1164
  let v966 : BitVec 32 := Scalar.addi v964 v965
  let c0_i32_1161 : BitVec 32 := 0#32
  let c1_i32_1165 : BitVec 32 := 1#32
  let v967 : BitVec 32 := Scalar.muli c0_i32_1161 c1_i32_1165
  let v968 : BitVec 32 := Scalar.addi v966 v967
  v968.toNat
def k0_dev30 (d0 : Dev nD) : Nat :=
  let c0_i32_1175 : BitVec 32 := 0#32
  let c0_i32_1172 : BitVec 32 := 0#32
  let c8_i32_1174 : BitVec 32 := 8#32
  let v975 : BitVec 32 := Scalar.muli c0_i32_1172 c8_i32_1174
  let v976 : BitVec 32 := Scalar.addi c0_i32_1175 v975
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1176 : BitVec 32 := 4#32
  let v977 : BitVec 32 := Scalar.muli v5 c4_i32_1176
  let v978 : BitVec 32 := Scalar.addi v976 v977
  let c1_i32_1173 : BitVec 32 := 1#32
  let c1_i32_1177 : BitVec 32 := 1#32
  let v979 : BitVec 32 := Scalar.muli c1_i32_1173 c1_i32_1177
  let v980 : BitVec 32 := Scalar.addi v978 v979
  v980.toNat
def k0_dev31 (d0 : Dev nD) : Nat :=
  let c0_i32_1223 : BitVec 32 := 0#32
  let c1_i32_1220 : BitVec 32 := 1#32
  let c8_i32_1222 : BitVec 32 := 8#32
  let v1015 : BitVec 32 := Scalar.muli c1_i32_1220 c8_i32_1222
  let v1016 : BitVec 32 := Scalar.addi c0_i32_1223 v1015
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1224 : BitVec 32 := 4#32
  let v1017 : BitVec 32 := Scalar.muli v5 c4_i32_1224
  let v1018 : BitVec 32 := Scalar.addi v1016 v1017
  let c0_i32_1221 : BitVec 32 := 0#32
  let c1_i32_1225 : BitVec 32 := 1#32
  let v1019 : BitVec 32 := Scalar.muli c0_i32_1221 c1_i32_1225
  let v1020 : BitVec 32 := Scalar.addi v1018 v1019
  v1020.toNat
def k0_dev32 (d0 : Dev nD) : Nat :=
  let c0_i32_1235 : BitVec 32 := 0#32
  let c0_i32_1232 : BitVec 32 := 0#32
  let c8_i32_1234 : BitVec 32 := 8#32
  let v1027 : BitVec 32 := Scalar.muli c0_i32_1232 c8_i32_1234
  let v1028 : BitVec 32 := Scalar.addi c0_i32_1235 v1027
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1236 : BitVec 32 := 4#32
  let v1029 : BitVec 32 := Scalar.muli v5 c4_i32_1236
  let v1030 : BitVec 32 := Scalar.addi v1028 v1029
  let c1_i32_1233 : BitVec 32 := 1#32
  let c1_i32_1237 : BitVec 32 := 1#32
  let v1031 : BitVec 32 := Scalar.muli c1_i32_1233 c1_i32_1237
  let v1032 : BitVec 32 := Scalar.addi v1030 v1031
  v1032.toNat
def k0_dev33 (d0 : Dev nD) : Nat :=
  let c0_i32_1283 : BitVec 32 := 0#32
  let c1_i32_1280 : BitVec 32 := 1#32
  let c8_i32_1282 : BitVec 32 := 8#32
  let v1067 : BitVec 32 := Scalar.muli c1_i32_1280 c8_i32_1282
  let v1068 : BitVec 32 := Scalar.addi c0_i32_1283 v1067
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1284 : BitVec 32 := 4#32
  let v1069 : BitVec 32 := Scalar.muli v5 c4_i32_1284
  let v1070 : BitVec 32 := Scalar.addi v1068 v1069
  let c0_i32_1281 : BitVec 32 := 0#32
  let c1_i32_1285 : BitVec 32 := 1#32
  let v1071 : BitVec 32 := Scalar.muli c0_i32_1281 c1_i32_1285
  let v1072 : BitVec 32 := Scalar.addi v1070 v1071
  v1072.toNat
def k0_dev34 (d0 : Dev nD) : Nat :=
  let c0_i32_1295 : BitVec 32 := 0#32
  let c0_i32_1292 : BitVec 32 := 0#32
  let c8_i32_1294 : BitVec 32 := 8#32
  let v1079 : BitVec 32 := Scalar.muli c0_i32_1292 c8_i32_1294
  let v1080 : BitVec 32 := Scalar.addi c0_i32_1295 v1079
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1296 : BitVec 32 := 4#32
  let v1081 : BitVec 32 := Scalar.muli v5 c4_i32_1296
  let v1082 : BitVec 32 := Scalar.addi v1080 v1081
  let c1_i32_1293 : BitVec 32 := 1#32
  let c1_i32_1297 : BitVec 32 := 1#32
  let v1083 : BitVec 32 := Scalar.muli c1_i32_1293 c1_i32_1297
  let v1084 : BitVec 32 := Scalar.addi v1082 v1083
  v1084.toNat
def k0_dev35 (d0 : Dev nD) : Nat :=
  let c0_i32_1343 : BitVec 32 := 0#32
  let c1_i32_1340 : BitVec 32 := 1#32
  let c8_i32_1342 : BitVec 32 := 8#32
  let v1119 : BitVec 32 := Scalar.muli c1_i32_1340 c8_i32_1342
  let v1120 : BitVec 32 := Scalar.addi c0_i32_1343 v1119
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1344 : BitVec 32 := 4#32
  let v1121 : BitVec 32 := Scalar.muli v5 c4_i32_1344
  let v1122 : BitVec 32 := Scalar.addi v1120 v1121
  let c0_i32_1341 : BitVec 32 := 0#32
  let c1_i32_1345 : BitVec 32 := 1#32
  let v1123 : BitVec 32 := Scalar.muli c0_i32_1341 c1_i32_1345
  let v1124 : BitVec 32 := Scalar.addi v1122 v1123
  v1124.toNat
def k0_dev36 (d0 : Dev nD) : Nat :=
  let c0_i32_1355 : BitVec 32 := 0#32
  let c0_i32_1352 : BitVec 32 := 0#32
  let c8_i32_1354 : BitVec 32 := 8#32
  let v1131 : BitVec 32 := Scalar.muli c0_i32_1352 c8_i32_1354
  let v1132 : BitVec 32 := Scalar.addi c0_i32_1355 v1131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1356 : BitVec 32 := 4#32
  let v1133 : BitVec 32 := Scalar.muli v5 c4_i32_1356
  let v1134 : BitVec 32 := Scalar.addi v1132 v1133
  let c1_i32_1353 : BitVec 32 := 1#32
  let c1_i32_1357 : BitVec 32 := 1#32
  let v1135 : BitVec 32 := Scalar.muli c1_i32_1353 c1_i32_1357
  let v1136 : BitVec 32 := Scalar.addi v1134 v1135
  v1136.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_138 : BitVec 32 := 0#32
  let v143 : BitVec 1 := Scalar.cmpi .eq v8 c0_i32_138
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_139 : BitVec 32 := 1#32
  let v144 : BitVec 1 := Scalar.cmpi .eq v2 c1_i32_139
  let v145 : BitVec 1 := Scalar.andi v143 v144
  let v146 : BitVec 32 := Scalar.extui v145
  let c0_i32_172 : BitVec 32 := 0#32
  let v147 : BitVec 1 := Scalar.cmpi .ne v146 c0_i32_172
  v147

def k0_dev37 (d0 : Dev nD) : Nat :=
  let c0_i32_388 : BitVec 32 := 0#32
  let c1_i32_385 : BitVec 32 := 1#32
  let c8_i32_387 : BitVec 32 := 8#32
  let v179 : BitVec 32 := Scalar.muli c1_i32_385 c8_i32_387
  let v180 : BitVec 32 := Scalar.addi c0_i32_388 v179
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_389 : BitVec 32 := 4#32
  let v181 : BitVec 32 := Scalar.muli v178 c4_i32_389
  let v182 : BitVec 32 := Scalar.addi v180 v181
  let c0_i32_386 : BitVec 32 := 0#32
  let c1_i32_390 : BitVec 32 := 1#32
  let v183 : BitVec 32 := Scalar.muli c0_i32_386 c1_i32_390
  let v184 : BitVec 32 := Scalar.addi v182 v183
  v184.toNat
def k0_dev38 (d0 : Dev nD) : Nat :=
  let c0_i32_395 : BitVec 32 := 0#32
  let c0_i32_392 : BitVec 32 := 0#32
  let c8_i32_394 : BitVec 32 := 8#32
  let v185 : BitVec 32 := Scalar.muli c0_i32_392 c8_i32_394
  let v186 : BitVec 32 := Scalar.addi c0_i32_395 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v187 : BitVec 32 := Scalar.muli v5 c4_i32_396
  let v188 : BitVec 32 := Scalar.addi v186 v187
  let c0_i32_393 : BitVec 32 := 0#32
  let c1_i32_397 : BitVec 32 := 1#32
  let v189 : BitVec 32 := Scalar.muli c0_i32_393 c1_i32_397
  let v190 : BitVec 32 := Scalar.addi v188 v189
  v190.toNat
def k0_dev39 (d0 : Dev nD) : Nat :=
  let c0_i32_402 : BitVec 32 := 0#32
  let c1_i32_399 : BitVec 32 := 1#32
  let c8_i32_401 : BitVec 32 := 8#32
  let v191 : BitVec 32 := Scalar.muli c1_i32_399 c8_i32_401
  let v192 : BitVec 32 := Scalar.addi c0_i32_402 v191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v193 : BitVec 32 := Scalar.muli v5 c4_i32_403
  let v194 : BitVec 32 := Scalar.addi v192 v193
  let c1_i32_400 : BitVec 32 := 1#32
  let c1_i32_404 : BitVec 32 := 1#32
  let v195 : BitVec 32 := Scalar.muli c1_i32_400 c1_i32_404
  let v196 : BitVec 32 := Scalar.addi v194 v195
  v196.toNat
def k0_dev40 (d0 : Dev nD) : Nat :=
  let c0_i32_439 : BitVec 32 := 0#32
  let c1_i32_436 : BitVec 32 := 1#32
  let c8_i32_438 : BitVec 32 := 8#32
  let v233 : BitVec 32 := Scalar.muli c1_i32_436 c8_i32_438
  let v234 : BitVec 32 := Scalar.addi c0_i32_439 v233
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_440 : BitVec 32 := 4#32
  let v235 : BitVec 32 := Scalar.muli v178 c4_i32_440
  let v236 : BitVec 32 := Scalar.addi v234 v235
  let c0_i32_437 : BitVec 32 := 0#32
  let c1_i32_441 : BitVec 32 := 1#32
  let v237 : BitVec 32 := Scalar.muli c0_i32_437 c1_i32_441
  let v238 : BitVec 32 := Scalar.addi v236 v237
  v238.toNat
def k0_dev41 (d0 : Dev nD) : Nat :=
  let c0_i32_479 : BitVec 32 := 0#32
  let c1_i32_476 : BitVec 32 := 1#32
  let c8_i32_478 : BitVec 32 := 8#32
  let v281 : BitVec 32 := Scalar.muli c1_i32_476 c8_i32_478
  let v282 : BitVec 32 := Scalar.addi c0_i32_479 v281
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_480 : BitVec 32 := 4#32
  let v283 : BitVec 32 := Scalar.muli v178 c4_i32_480
  let v284 : BitVec 32 := Scalar.addi v282 v283
  let c0_i32_477 : BitVec 32 := 0#32
  let c1_i32_481 : BitVec 32 := 1#32
  let v285 : BitVec 32 := Scalar.muli c0_i32_477 c1_i32_481
  let v286 : BitVec 32 := Scalar.addi v284 v285
  v286.toNat
def k0_dev42 (d0 : Dev nD) : Nat :=
  let c0_i32_519 : BitVec 32 := 0#32
  let c1_i32_516 : BitVec 32 := 1#32
  let c8_i32_518 : BitVec 32 := 8#32
  let v329 : BitVec 32 := Scalar.muli c1_i32_516 c8_i32_518
  let v330 : BitVec 32 := Scalar.addi c0_i32_519 v329
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_520 : BitVec 32 := 4#32
  let v331 : BitVec 32 := Scalar.muli v178 c4_i32_520
  let v332 : BitVec 32 := Scalar.addi v330 v331
  let c0_i32_517 : BitVec 32 := 0#32
  let c1_i32_521 : BitVec 32 := 1#32
  let v333 : BitVec 32 := Scalar.muli c0_i32_517 c1_i32_521
  let v334 : BitVec 32 := Scalar.addi v332 v333
  v334.toNat
def k0_dev43 (d0 : Dev nD) : Nat :=
  let c0_i32_559 : BitVec 32 := 0#32
  let c1_i32_556 : BitVec 32 := 1#32
  let c8_i32_558 : BitVec 32 := 8#32
  let v377 : BitVec 32 := Scalar.muli c1_i32_556 c8_i32_558
  let v378 : BitVec 32 := Scalar.addi c0_i32_559 v377
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_560 : BitVec 32 := 4#32
  let v379 : BitVec 32 := Scalar.muli v178 c4_i32_560
  let v380 : BitVec 32 := Scalar.addi v378 v379
  let c0_i32_557 : BitVec 32 := 0#32
  let c1_i32_561 : BitVec 32 := 1#32
  let v381 : BitVec 32 := Scalar.muli c0_i32_557 c1_i32_561
  let v382 : BitVec 32 := Scalar.addi v380 v381
  v382.toNat
def k0_dev44 (d0 : Dev nD) : Nat :=
  let c0_i32_599 : BitVec 32 := 0#32
  let c1_i32_596 : BitVec 32 := 1#32
  let c8_i32_598 : BitVec 32 := 8#32
  let v425 : BitVec 32 := Scalar.muli c1_i32_596 c8_i32_598
  let v426 : BitVec 32 := Scalar.addi c0_i32_599 v425
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_600 : BitVec 32 := 4#32
  let v427 : BitVec 32 := Scalar.muli v178 c4_i32_600
  let v428 : BitVec 32 := Scalar.addi v426 v427
  let c0_i32_597 : BitVec 32 := 0#32
  let c1_i32_601 : BitVec 32 := 1#32
  let v429 : BitVec 32 := Scalar.muli c0_i32_597 c1_i32_601
  let v430 : BitVec 32 := Scalar.addi v428 v429
  v430.toNat
def k0_dev45 (d0 : Dev nD) : Nat :=
  let c0_i32_625 : BitVec 32 := 0#32
  let c1_i32_622 : BitVec 32 := 1#32
  let c8_i32_624 : BitVec 32 := 8#32
  let v455 : BitVec 32 := Scalar.muli c1_i32_622 c8_i32_624
  let v456 : BitVec 32 := Scalar.addi c0_i32_625 v455
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_626 : BitVec 32 := 4#32
  let v457 : BitVec 32 := Scalar.muli v178 c4_i32_626
  let v458 : BitVec 32 := Scalar.addi v456 v457
  let c0_i32_623 : BitVec 32 := 0#32
  let c1_i32_627 : BitVec 32 := 1#32
  let v459 : BitVec 32 := Scalar.muli c0_i32_623 c1_i32_627
  let v460 : BitVec 32 := Scalar.addi v458 v459
  v460.toNat
def k0_dev46 (d0 : Dev nD) : Nat :=
  let c0_i32_651 : BitVec 32 := 0#32
  let c1_i32_648 : BitVec 32 := 1#32
  let c8_i32_650 : BitVec 32 := 8#32
  let v485 : BitVec 32 := Scalar.muli c1_i32_648 c8_i32_650
  let v486 : BitVec 32 := Scalar.addi c0_i32_651 v485
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_652 : BitVec 32 := 4#32
  let v487 : BitVec 32 := Scalar.muli v178 c4_i32_652
  let v488 : BitVec 32 := Scalar.addi v486 v487
  let c0_i32_649 : BitVec 32 := 0#32
  let c1_i32_653 : BitVec 32 := 1#32
  let v489 : BitVec 32 := Scalar.muli c0_i32_649 c1_i32_653
  let v490 : BitVec 32 := Scalar.addi v488 v489
  v490.toNat
def k0_dev47 (d0 : Dev nD) : Nat :=
  let c0_i32_677 : BitVec 32 := 0#32
  let c1_i32_674 : BitVec 32 := 1#32
  let c8_i32_676 : BitVec 32 := 8#32
  let v515 : BitVec 32 := Scalar.muli c1_i32_674 c8_i32_676
  let v516 : BitVec 32 := Scalar.addi c0_i32_677 v515
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_678 : BitVec 32 := 4#32
  let v517 : BitVec 32 := Scalar.muli v178 c4_i32_678
  let v518 : BitVec 32 := Scalar.addi v516 v517
  let c0_i32_675 : BitVec 32 := 0#32
  let c1_i32_679 : BitVec 32 := 1#32
  let v519 : BitVec 32 := Scalar.muli c0_i32_675 c1_i32_679
  let v520 : BitVec 32 := Scalar.addi v518 v519
  v520.toNat
def k0_dev48 (d0 : Dev nD) : Nat :=
  let c0_i32_703 : BitVec 32 := 0#32
  let c1_i32_700 : BitVec 32 := 1#32
  let c8_i32_702 : BitVec 32 := 8#32
  let v545 : BitVec 32 := Scalar.muli c1_i32_700 c8_i32_702
  let v546 : BitVec 32 := Scalar.addi c0_i32_703 v545
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_704 : BitVec 32 := 4#32
  let v547 : BitVec 32 := Scalar.muli v178 c4_i32_704
  let v548 : BitVec 32 := Scalar.addi v546 v547
  let c0_i32_701 : BitVec 32 := 0#32
  let c1_i32_705 : BitVec 32 := 1#32
  let v549 : BitVec 32 := Scalar.muli c0_i32_701 c1_i32_705
  let v550 : BitVec 32 := Scalar.addi v548 v549
  v550.toNat
def k0_dev49 (d0 : Dev nD) : Nat :=
  let c0_i32_729 : BitVec 32 := 0#32
  let c1_i32_726 : BitVec 32 := 1#32
  let c8_i32_728 : BitVec 32 := 8#32
  let v575 : BitVec 32 := Scalar.muli c1_i32_726 c8_i32_728
  let v576 : BitVec 32 := Scalar.addi c0_i32_729 v575
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_730 : BitVec 32 := 4#32
  let v577 : BitVec 32 := Scalar.muli v178 c4_i32_730
  let v578 : BitVec 32 := Scalar.addi v576 v577
  let c0_i32_727 : BitVec 32 := 0#32
  let c1_i32_731 : BitVec 32 := 1#32
  let v579 : BitVec 32 := Scalar.muli c0_i32_727 c1_i32_731
  let v580 : BitVec 32 := Scalar.addi v578 v579
  v580.toNat
def k0_dev50 (d0 : Dev nD) : Nat :=
  let c0_i32_755 : BitVec 32 := 0#32
  let c1_i32_752 : BitVec 32 := 1#32
  let c8_i32_754 : BitVec 32 := 8#32
  let v605 : BitVec 32 := Scalar.muli c1_i32_752 c8_i32_754
  let v606 : BitVec 32 := Scalar.addi c0_i32_755 v605
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_756 : BitVec 32 := 4#32
  let v607 : BitVec 32 := Scalar.muli v178 c4_i32_756
  let v608 : BitVec 32 := Scalar.addi v606 v607
  let c0_i32_753 : BitVec 32 := 0#32
  let c1_i32_757 : BitVec 32 := 1#32
  let v609 : BitVec 32 := Scalar.muli c0_i32_753 c1_i32_757
  let v610 : BitVec 32 := Scalar.addi v608 v609
  v610.toNat
def k0_dev51 (d0 : Dev nD) : Nat :=
  let c0_i32_779 : BitVec 32 := 0#32
  let c0_i32_776 : BitVec 32 := 0#32
  let c8_i32_778 : BitVec 32 := 8#32
  let v627 : BitVec 32 := Scalar.muli c0_i32_776 c8_i32_778
  let v628 : BitVec 32 := Scalar.addi c0_i32_779 v627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_780 : BitVec 32 := 4#32
  let v629 : BitVec 32 := Scalar.muli v5 c4_i32_780
  let v630 : BitVec 32 := Scalar.addi v628 v629
  let c0_i32_777 : BitVec 32 := 0#32
  let c1_i32_781 : BitVec 32 := 1#32
  let v631 : BitVec 32 := Scalar.muli c0_i32_777 c1_i32_781
  let v632 : BitVec 32 := Scalar.addi v630 v631
  v632.toNat
def k0_dev52 (d0 : Dev nD) : Nat :=
  let c0_i32_809 : BitVec 32 := 0#32
  let c0_i32_806 : BitVec 32 := 0#32
  let c8_i32_808 : BitVec 32 := 8#32
  let v653 : BitVec 32 := Scalar.muli c0_i32_806 c8_i32_808
  let v654 : BitVec 32 := Scalar.addi c0_i32_809 v653
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_810 : BitVec 32 := 4#32
  let v655 : BitVec 32 := Scalar.muli v5 c4_i32_810
  let v656 : BitVec 32 := Scalar.addi v654 v655
  let c0_i32_807 : BitVec 32 := 0#32
  let c1_i32_811 : BitVec 32 := 1#32
  let v657 : BitVec 32 := Scalar.muli c0_i32_807 c1_i32_811
  let v658 : BitVec 32 := Scalar.addi v656 v657
  v658.toNat
def k0_dev53 (d0 : Dev nD) : Nat :=
  let c0_i32_839 : BitVec 32 := 0#32
  let c0_i32_836 : BitVec 32 := 0#32
  let c8_i32_838 : BitVec 32 := 8#32
  let v679 : BitVec 32 := Scalar.muli c0_i32_836 c8_i32_838
  let v680 : BitVec 32 := Scalar.addi c0_i32_839 v679
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v681 : BitVec 32 := Scalar.muli v5 c4_i32_840
  let v682 : BitVec 32 := Scalar.addi v680 v681
  let c0_i32_837 : BitVec 32 := 0#32
  let c1_i32_841 : BitVec 32 := 1#32
  let v683 : BitVec 32 := Scalar.muli c0_i32_837 c1_i32_841
  let v684 : BitVec 32 := Scalar.addi v682 v683
  v684.toNat
def k0_dev54 (d0 : Dev nD) : Nat :=
  let c0_i32_869 : BitVec 32 := 0#32
  let c1_i32_866 : BitVec 32 := 1#32
  let c8_i32_868 : BitVec 32 := 8#32
  let v705 : BitVec 32 := Scalar.muli c1_i32_866 c8_i32_868
  let v706 : BitVec 32 := Scalar.addi c0_i32_869 v705
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_870 : BitVec 32 := 4#32
  let v707 : BitVec 32 := Scalar.muli v5 c4_i32_870
  let v708 : BitVec 32 := Scalar.addi v706 v707
  let c1_i32_867 : BitVec 32 := 1#32
  let c1_i32_871 : BitVec 32 := 1#32
  let v709 : BitVec 32 := Scalar.muli c1_i32_867 c1_i32_871
  let v710 : BitVec 32 := Scalar.addi v708 v709
  v710.toNat
def k0_dev55 (d0 : Dev nD) : Nat :=
  let c0_i32_899 : BitVec 32 := 0#32
  let c0_i32_896 : BitVec 32 := 0#32
  let c8_i32_898 : BitVec 32 := 8#32
  let v731 : BitVec 32 := Scalar.muli c0_i32_896 c8_i32_898
  let v732 : BitVec 32 := Scalar.addi c0_i32_899 v731
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_900 : BitVec 32 := 4#32
  let v733 : BitVec 32 := Scalar.muli v5 c4_i32_900
  let v734 : BitVec 32 := Scalar.addi v732 v733
  let c0_i32_897 : BitVec 32 := 0#32
  let c1_i32_901 : BitVec 32 := 1#32
  let v735 : BitVec 32 := Scalar.muli c0_i32_897 c1_i32_901
  let v736 : BitVec 32 := Scalar.addi v734 v735
  v736.toNat
def k0_dev56 (d0 : Dev nD) : Nat :=
  let c0_i32_929 : BitVec 32 := 0#32
  let c1_i32_926 : BitVec 32 := 1#32
  let c8_i32_928 : BitVec 32 := 8#32
  let v757 : BitVec 32 := Scalar.muli c1_i32_926 c8_i32_928
  let v758 : BitVec 32 := Scalar.addi c0_i32_929 v757
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_930 : BitVec 32 := 4#32
  let v759 : BitVec 32 := Scalar.muli v5 c4_i32_930
  let v760 : BitVec 32 := Scalar.addi v758 v759
  let c1_i32_927 : BitVec 32 := 1#32
  let c1_i32_931 : BitVec 32 := 1#32
  let v761 : BitVec 32 := Scalar.muli c1_i32_927 c1_i32_931
  let v762 : BitVec 32 := Scalar.addi v760 v761
  v762.toNat
def k0_dev57 (d0 : Dev nD) : Nat :=
  let c0_i32_959 : BitVec 32 := 0#32
  let c0_i32_956 : BitVec 32 := 0#32
  let c8_i32_958 : BitVec 32 := 8#32
  let v783 : BitVec 32 := Scalar.muli c0_i32_956 c8_i32_958
  let v784 : BitVec 32 := Scalar.addi c0_i32_959 v783
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_960 : BitVec 32 := 4#32
  let v785 : BitVec 32 := Scalar.muli v5 c4_i32_960
  let v786 : BitVec 32 := Scalar.addi v784 v785
  let c0_i32_957 : BitVec 32 := 0#32
  let c1_i32_961 : BitVec 32 := 1#32
  let v787 : BitVec 32 := Scalar.muli c0_i32_957 c1_i32_961
  let v788 : BitVec 32 := Scalar.addi v786 v787
  v788.toNat
def k0_dev58 (d0 : Dev nD) : Nat :=
  let c0_i32_989 : BitVec 32 := 0#32
  let c1_i32_986 : BitVec 32 := 1#32
  let c8_i32_988 : BitVec 32 := 8#32
  let v809 : BitVec 32 := Scalar.muli c1_i32_986 c8_i32_988
  let v810 : BitVec 32 := Scalar.addi c0_i32_989 v809
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_990 : BitVec 32 := 4#32
  let v811 : BitVec 32 := Scalar.muli v5 c4_i32_990
  let v812 : BitVec 32 := Scalar.addi v810 v811
  let c1_i32_987 : BitVec 32 := 1#32
  let c1_i32_991 : BitVec 32 := 1#32
  let v813 : BitVec 32 := Scalar.muli c1_i32_987 c1_i32_991
  let v814 : BitVec 32 := Scalar.addi v812 v813
  v814.toNat
def k0_dev59 (d0 : Dev nD) : Nat :=
  let c0_i32_1019 : BitVec 32 := 0#32
  let c0_i32_1016 : BitVec 32 := 0#32
  let c8_i32_1018 : BitVec 32 := 8#32
  let v835 : BitVec 32 := Scalar.muli c0_i32_1016 c8_i32_1018
  let v836 : BitVec 32 := Scalar.addi c0_i32_1019 v835
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1020 : BitVec 32 := 4#32
  let v837 : BitVec 32 := Scalar.muli v5 c4_i32_1020
  let v838 : BitVec 32 := Scalar.addi v836 v837
  let c0_i32_1017 : BitVec 32 := 0#32
  let c1_i32_1021 : BitVec 32 := 1#32
  let v839 : BitVec 32 := Scalar.muli c0_i32_1017 c1_i32_1021
  let v840 : BitVec 32 := Scalar.addi v838 v839
  v840.toNat
def k0_dev60 (d0 : Dev nD) : Nat :=
  let c0_i32_1049 : BitVec 32 := 0#32
  let c1_i32_1046 : BitVec 32 := 1#32
  let c8_i32_1048 : BitVec 32 := 8#32
  let v861 : BitVec 32 := Scalar.muli c1_i32_1046 c8_i32_1048
  let v862 : BitVec 32 := Scalar.addi c0_i32_1049 v861
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1050 : BitVec 32 := 4#32
  let v863 : BitVec 32 := Scalar.muli v5 c4_i32_1050
  let v864 : BitVec 32 := Scalar.addi v862 v863
  let c1_i32_1047 : BitVec 32 := 1#32
  let c1_i32_1051 : BitVec 32 := 1#32
  let v865 : BitVec 32 := Scalar.muli c1_i32_1047 c1_i32_1051
  let v866 : BitVec 32 := Scalar.addi v864 v865
  v866.toNat
def k0_dev61 (d0 : Dev nD) : Nat :=
  let c0_i32_1079 : BitVec 32 := 0#32
  let c0_i32_1076 : BitVec 32 := 0#32
  let c8_i32_1078 : BitVec 32 := 8#32
  let v887 : BitVec 32 := Scalar.muli c0_i32_1076 c8_i32_1078
  let v888 : BitVec 32 := Scalar.addi c0_i32_1079 v887
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1080 : BitVec 32 := 4#32
  let v889 : BitVec 32 := Scalar.muli v5 c4_i32_1080
  let v890 : BitVec 32 := Scalar.addi v888 v889
  let c0_i32_1077 : BitVec 32 := 0#32
  let c1_i32_1081 : BitVec 32 := 1#32
  let v891 : BitVec 32 := Scalar.muli c0_i32_1077 c1_i32_1081
  let v892 : BitVec 32 := Scalar.addi v890 v891
  v892.toNat
def k0_dev62 (d0 : Dev nD) : Nat :=
  let c0_i32_1109 : BitVec 32 := 0#32
  let c1_i32_1106 : BitVec 32 := 1#32
  let c8_i32_1108 : BitVec 32 := 8#32
  let v913 : BitVec 32 := Scalar.muli c1_i32_1106 c8_i32_1108
  let v914 : BitVec 32 := Scalar.addi c0_i32_1109 v913
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1110 : BitVec 32 := 4#32
  let v915 : BitVec 32 := Scalar.muli v5 c4_i32_1110
  let v916 : BitVec 32 := Scalar.addi v914 v915
  let c1_i32_1107 : BitVec 32 := 1#32
  let c1_i32_1111 : BitVec 32 := 1#32
  let v917 : BitVec 32 := Scalar.muli c1_i32_1107 c1_i32_1111
  let v918 : BitVec 32 := Scalar.addi v916 v917
  v918.toNat
def k0_dev63 (d0 : Dev nD) : Nat :=
  let c0_i32_1139 : BitVec 32 := 0#32
  let c0_i32_1136 : BitVec 32 := 0#32
  let c8_i32_1138 : BitVec 32 := 8#32
  let v939 : BitVec 32 := Scalar.muli c0_i32_1136 c8_i32_1138
  let v940 : BitVec 32 := Scalar.addi c0_i32_1139 v939
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1140 : BitVec 32 := 4#32
  let v941 : BitVec 32 := Scalar.muli v5 c4_i32_1140
  let v942 : BitVec 32 := Scalar.addi v940 v941
  let c0_i32_1137 : BitVec 32 := 0#32
  let c1_i32_1141 : BitVec 32 := 1#32
  let v943 : BitVec 32 := Scalar.muli c0_i32_1137 c1_i32_1141
  let v944 : BitVec 32 := Scalar.addi v942 v943
  v944.toNat
def k0_dev64 (d0 : Dev nD) : Nat :=
  let c0_i32_1169 : BitVec 32 := 0#32
  let c1_i32_1166 : BitVec 32 := 1#32
  let c8_i32_1168 : BitVec 32 := 8#32
  let v965 : BitVec 32 := Scalar.muli c1_i32_1166 c8_i32_1168
  let v966 : BitVec 32 := Scalar.addi c0_i32_1169 v965
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1170 : BitVec 32 := 4#32
  let v967 : BitVec 32 := Scalar.muli v5 c4_i32_1170
  let v968 : BitVec 32 := Scalar.addi v966 v967
  let c1_i32_1167 : BitVec 32 := 1#32
  let c1_i32_1171 : BitVec 32 := 1#32
  let v969 : BitVec 32 := Scalar.muli c1_i32_1167 c1_i32_1171
  let v970 : BitVec 32 := Scalar.addi v968 v969
  v970.toNat
def k0_dev65 (d0 : Dev nD) : Nat :=
  let c0_i32_1199 : BitVec 32 := 0#32
  let c0_i32_1196 : BitVec 32 := 0#32
  let c8_i32_1198 : BitVec 32 := 8#32
  let v991 : BitVec 32 := Scalar.muli c0_i32_1196 c8_i32_1198
  let v992 : BitVec 32 := Scalar.addi c0_i32_1199 v991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1200 : BitVec 32 := 4#32
  let v993 : BitVec 32 := Scalar.muli v5 c4_i32_1200
  let v994 : BitVec 32 := Scalar.addi v992 v993
  let c0_i32_1197 : BitVec 32 := 0#32
  let c1_i32_1201 : BitVec 32 := 1#32
  let v995 : BitVec 32 := Scalar.muli c0_i32_1197 c1_i32_1201
  let v996 : BitVec 32 := Scalar.addi v994 v995
  v996.toNat
def k0_dev66 (d0 : Dev nD) : Nat :=
  let c0_i32_1229 : BitVec 32 := 0#32
  let c1_i32_1226 : BitVec 32 := 1#32
  let c8_i32_1228 : BitVec 32 := 8#32
  let v1017 : BitVec 32 := Scalar.muli c1_i32_1226 c8_i32_1228
  let v1018 : BitVec 32 := Scalar.addi c0_i32_1229 v1017
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1230 : BitVec 32 := 4#32
  let v1019 : BitVec 32 := Scalar.muli v5 c4_i32_1230
  let v1020 : BitVec 32 := Scalar.addi v1018 v1019
  let c1_i32_1227 : BitVec 32 := 1#32
  let c1_i32_1231 : BitVec 32 := 1#32
  let v1021 : BitVec 32 := Scalar.muli c1_i32_1227 c1_i32_1231
  let v1022 : BitVec 32 := Scalar.addi v1020 v1021
  v1022.toNat
def k0_dev67 (d0 : Dev nD) : Nat :=
  let c0_i32_1259 : BitVec 32 := 0#32
  let c0_i32_1256 : BitVec 32 := 0#32
  let c8_i32_1258 : BitVec 32 := 8#32
  let v1043 : BitVec 32 := Scalar.muli c0_i32_1256 c8_i32_1258
  let v1044 : BitVec 32 := Scalar.addi c0_i32_1259 v1043
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1260 : BitVec 32 := 4#32
  let v1045 : BitVec 32 := Scalar.muli v5 c4_i32_1260
  let v1046 : BitVec 32 := Scalar.addi v1044 v1045
  let c0_i32_1257 : BitVec 32 := 0#32
  let c1_i32_1261 : BitVec 32 := 1#32
  let v1047 : BitVec 32 := Scalar.muli c0_i32_1257 c1_i32_1261
  let v1048 : BitVec 32 := Scalar.addi v1046 v1047
  v1048.toNat
def k0_dev68 (d0 : Dev nD) : Nat :=
  let c0_i32_1289 : BitVec 32 := 0#32
  let c1_i32_1286 : BitVec 32 := 1#32
  let c8_i32_1288 : BitVec 32 := 8#32
  let v1069 : BitVec 32 := Scalar.muli c1_i32_1286 c8_i32_1288
  let v1070 : BitVec 32 := Scalar.addi c0_i32_1289 v1069
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1290 : BitVec 32 := 4#32
  let v1071 : BitVec 32 := Scalar.muli v5 c4_i32_1290
  let v1072 : BitVec 32 := Scalar.addi v1070 v1071
  let c1_i32_1287 : BitVec 32 := 1#32
  let c1_i32_1291 : BitVec 32 := 1#32
  let v1073 : BitVec 32 := Scalar.muli c1_i32_1287 c1_i32_1291
  let v1074 : BitVec 32 := Scalar.addi v1072 v1073
  v1074.toNat
def k0_dev69 (d0 : Dev nD) : Nat :=
  let c0_i32_1319 : BitVec 32 := 0#32
  let c0_i32_1316 : BitVec 32 := 0#32
  let c8_i32_1318 : BitVec 32 := 8#32
  let v1095 : BitVec 32 := Scalar.muli c0_i32_1316 c8_i32_1318
  let v1096 : BitVec 32 := Scalar.addi c0_i32_1319 v1095
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1320 : BitVec 32 := 4#32
  let v1097 : BitVec 32 := Scalar.muli v5 c4_i32_1320
  let v1098 : BitVec 32 := Scalar.addi v1096 v1097
  let c0_i32_1317 : BitVec 32 := 0#32
  let c1_i32_1321 : BitVec 32 := 1#32
  let v1099 : BitVec 32 := Scalar.muli c0_i32_1317 c1_i32_1321
  let v1100 : BitVec 32 := Scalar.addi v1098 v1099
  v1100.toNat
def k0_dev70 (d0 : Dev nD) : Nat :=
  let c0_i32_1349 : BitVec 32 := 0#32
  let c1_i32_1346 : BitVec 32 := 1#32
  let c8_i32_1348 : BitVec 32 := 8#32
  let v1121 : BitVec 32 := Scalar.muli c1_i32_1346 c8_i32_1348
  let v1122 : BitVec 32 := Scalar.addi c0_i32_1349 v1121
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1350 : BitVec 32 := 4#32
  let v1123 : BitVec 32 := Scalar.muli v5 c4_i32_1350
  let v1124 : BitVec 32 := Scalar.addi v1122 v1123
  let c1_i32_1347 : BitVec 32 := 1#32
  let c1_i32_1351 : BitVec 32 := 1#32
  let v1125 : BitVec 32 := Scalar.muli c1_i32_1347 c1_i32_1351
  let v1126 : BitVec 32 := Scalar.addi v1124 v1125
  v1126.toNat
def k0_dev71 (d0 : Dev nD) : Nat :=
  let c0_i32_1379 : BitVec 32 := 0#32
  let c1_i32_1376 : BitVec 32 := 1#32
  let c8_i32_1378 : BitVec 32 := 8#32
  let v1147 : BitVec 32 := Scalar.muli c1_i32_1376 c8_i32_1378
  let v1148 : BitVec 32 := Scalar.addi c0_i32_1379 v1147
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1380 : BitVec 32 := 4#32
  let v1149 : BitVec 32 := Scalar.muli v5 c4_i32_1380
  let v1150 : BitVec 32 := Scalar.addi v1148 v1149
  let c1_i32_1377 : BitVec 32 := 1#32
  let c1_i32_1381 : BitVec 32 := 1#32
  let v1151 : BitVec 32 := Scalar.muli c1_i32_1377 c1_i32_1381
  let v1152 : BitVec 32 := Scalar.addi v1150 v1151
  v1152.toNat
def k0_dev72 (d0 : Dev nD) : Nat :=
  let c0_i32_1409 : BitVec 32 := 0#32
  let c1_i32_1406 : BitVec 32 := 1#32
  let c8_i32_1408 : BitVec 32 := 8#32
  let v1173 : BitVec 32 := Scalar.muli c1_i32_1406 c8_i32_1408
  let v1174 : BitVec 32 := Scalar.addi c0_i32_1409 v1173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1410 : BitVec 32 := 4#32
  let v1175 : BitVec 32 := Scalar.muli v5 c4_i32_1410
  let v1176 : BitVec 32 := Scalar.addi v1174 v1175
  let c1_i32_1407 : BitVec 32 := 1#32
  let c1_i32_1411 : BitVec 32 := 1#32
  let v1177 : BitVec 32 := Scalar.muli c1_i32_1407 c1_i32_1411
  let v1178 : BitVec 32 := Scalar.addi v1176 v1177
  v1178.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v148 : BitVec 1 := Scalar.cmpi .eq v8 c1_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_174 : BitVec 32 := 0#32
  let v149 : BitVec 1 := Scalar.cmpi .eq v2 c0_i32_174
  let v150 : BitVec 1 := Scalar.andi v148 v149
  let v151 : BitVec 32 := Scalar.extui v150
  let c0_i32_207 : BitVec 32 := 0#32
  let v152 : BitVec 1 := Scalar.cmpi .ne v151 c0_i32_207
  v152

def k0_dev73 (d0 : Dev nD) : Nat :=
  let c0_i32_388 : BitVec 32 := 0#32
  let c0_i32_385 : BitVec 32 := 0#32
  let c8_i32_387 : BitVec 32 := 8#32
  let v179 : BitVec 32 := Scalar.muli c0_i32_385 c8_i32_387
  let v180 : BitVec 32 := Scalar.addi c0_i32_388 v179
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_389 : BitVec 32 := 4#32
  let v181 : BitVec 32 := Scalar.muli v178 c4_i32_389
  let v182 : BitVec 32 := Scalar.addi v180 v181
  let c1_i32_386 : BitVec 32 := 1#32
  let c1_i32_390 : BitVec 32 := 1#32
  let v183 : BitVec 32 := Scalar.muli c1_i32_386 c1_i32_390
  let v184 : BitVec 32 := Scalar.addi v182 v183
  v184.toNat
def k0_dev74 (d0 : Dev nD) : Nat :=
  let c0_i32_395 : BitVec 32 := 0#32
  let c1_i32_392 : BitVec 32 := 1#32
  let c8_i32_394 : BitVec 32 := 8#32
  let v185 : BitVec 32 := Scalar.muli c1_i32_392 c8_i32_394
  let v186 : BitVec 32 := Scalar.addi c0_i32_395 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v187 : BitVec 32 := Scalar.muli v5 c4_i32_396
  let v188 : BitVec 32 := Scalar.addi v186 v187
  let c1_i32_393 : BitVec 32 := 1#32
  let c1_i32_397 : BitVec 32 := 1#32
  let v189 : BitVec 32 := Scalar.muli c1_i32_393 c1_i32_397
  let v190 : BitVec 32 := Scalar.addi v188 v189
  v190.toNat
def k0_dev75 (d0 : Dev nD) : Nat :=
  let c0_i32_402 : BitVec 32 := 0#32
  let c0_i32_399 : BitVec 32 := 0#32
  let c8_i32_401 : BitVec 32 := 8#32
  let v191 : BitVec 32 := Scalar.muli c0_i32_399 c8_i32_401
  let v192 : BitVec 32 := Scalar.addi c0_i32_402 v191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v193 : BitVec 32 := Scalar.muli v5 c4_i32_403
  let v194 : BitVec 32 := Scalar.addi v192 v193
  let c0_i32_400 : BitVec 32 := 0#32
  let c1_i32_404 : BitVec 32 := 1#32
  let v195 : BitVec 32 := Scalar.muli c0_i32_400 c1_i32_404
  let v196 : BitVec 32 := Scalar.addi v194 v195
  v196.toNat
def k0_dev76 (d0 : Dev nD) : Nat :=
  let c0_i32_409 : BitVec 32 := 0#32
  let c0_i32_406 : BitVec 32 := 0#32
  let c8_i32_408 : BitVec 32 := 8#32
  let v197 : BitVec 32 := Scalar.muli c0_i32_406 c8_i32_408
  let v198 : BitVec 32 := Scalar.addi c0_i32_409 v197
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_410 : BitVec 32 := 4#32
  let v199 : BitVec 32 := Scalar.muli v5 c4_i32_410
  let v200 : BitVec 32 := Scalar.addi v198 v199
  let c2_i32_407 : BitVec 32 := 2#32
  let c1_i32_411 : BitVec 32 := 1#32
  let v201 : BitVec 32 := Scalar.muli c2_i32_407 c1_i32_411
  let v202 : BitVec 32 := Scalar.addi v200 v201
  v202.toNat
def k0_dev77 (d0 : Dev nD) : Nat :=
  let c0_i32_446 : BitVec 32 := 0#32
  let c0_i32_443 : BitVec 32 := 0#32
  let c8_i32_445 : BitVec 32 := 8#32
  let v239 : BitVec 32 := Scalar.muli c0_i32_443 c8_i32_445
  let v240 : BitVec 32 := Scalar.addi c0_i32_446 v239
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_447 : BitVec 32 := 4#32
  let v241 : BitVec 32 := Scalar.muli v178 c4_i32_447
  let v242 : BitVec 32 := Scalar.addi v240 v241
  let c1_i32_444 : BitVec 32 := 1#32
  let c1_i32_448 : BitVec 32 := 1#32
  let v243 : BitVec 32 := Scalar.muli c1_i32_444 c1_i32_448
  let v244 : BitVec 32 := Scalar.addi v242 v243
  v244.toNat
def k0_dev78 (d0 : Dev nD) : Nat :=
  let c0_i32_486 : BitVec 32 := 0#32
  let c0_i32_483 : BitVec 32 := 0#32
  let c8_i32_485 : BitVec 32 := 8#32
  let v287 : BitVec 32 := Scalar.muli c0_i32_483 c8_i32_485
  let v288 : BitVec 32 := Scalar.addi c0_i32_486 v287
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_487 : BitVec 32 := 4#32
  let v289 : BitVec 32 := Scalar.muli v178 c4_i32_487
  let v290 : BitVec 32 := Scalar.addi v288 v289
  let c1_i32_484 : BitVec 32 := 1#32
  let c1_i32_488 : BitVec 32 := 1#32
  let v291 : BitVec 32 := Scalar.muli c1_i32_484 c1_i32_488
  let v292 : BitVec 32 := Scalar.addi v290 v291
  v292.toNat
def k0_dev79 (d0 : Dev nD) : Nat :=
  let c0_i32_526 : BitVec 32 := 0#32
  let c0_i32_523 : BitVec 32 := 0#32
  let c8_i32_525 : BitVec 32 := 8#32
  let v335 : BitVec 32 := Scalar.muli c0_i32_523 c8_i32_525
  let v336 : BitVec 32 := Scalar.addi c0_i32_526 v335
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_527 : BitVec 32 := 4#32
  let v337 : BitVec 32 := Scalar.muli v178 c4_i32_527
  let v338 : BitVec 32 := Scalar.addi v336 v337
  let c1_i32_524 : BitVec 32 := 1#32
  let c1_i32_528 : BitVec 32 := 1#32
  let v339 : BitVec 32 := Scalar.muli c1_i32_524 c1_i32_528
  let v340 : BitVec 32 := Scalar.addi v338 v339
  v340.toNat
def k0_dev80 (d0 : Dev nD) : Nat :=
  let c0_i32_566 : BitVec 32 := 0#32
  let c0_i32_563 : BitVec 32 := 0#32
  let c8_i32_565 : BitVec 32 := 8#32
  let v383 : BitVec 32 := Scalar.muli c0_i32_563 c8_i32_565
  let v384 : BitVec 32 := Scalar.addi c0_i32_566 v383
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_567 : BitVec 32 := 4#32
  let v385 : BitVec 32 := Scalar.muli v178 c4_i32_567
  let v386 : BitVec 32 := Scalar.addi v384 v385
  let c1_i32_564 : BitVec 32 := 1#32
  let c1_i32_568 : BitVec 32 := 1#32
  let v387 : BitVec 32 := Scalar.muli c1_i32_564 c1_i32_568
  let v388 : BitVec 32 := Scalar.addi v386 v387
  v388.toNat
def k0_dev81 (d0 : Dev nD) : Nat :=
  let c0_i32_606 : BitVec 32 := 0#32
  let c0_i32_603 : BitVec 32 := 0#32
  let c8_i32_605 : BitVec 32 := 8#32
  let v431 : BitVec 32 := Scalar.muli c0_i32_603 c8_i32_605
  let v432 : BitVec 32 := Scalar.addi c0_i32_606 v431
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_607 : BitVec 32 := 4#32
  let v433 : BitVec 32 := Scalar.muli v178 c4_i32_607
  let v434 : BitVec 32 := Scalar.addi v432 v433
  let c1_i32_604 : BitVec 32 := 1#32
  let c1_i32_608 : BitVec 32 := 1#32
  let v435 : BitVec 32 := Scalar.muli c1_i32_604 c1_i32_608
  let v436 : BitVec 32 := Scalar.addi v434 v435
  v436.toNat
def k0_dev82 (d0 : Dev nD) : Nat :=
  let c0_i32_714 : BitVec 32 := 0#32
  let c1_i32_711 : BitVec 32 := 1#32
  let c8_i32_713 : BitVec 32 := 8#32
  let v561 : BitVec 32 := Scalar.muli c1_i32_711 c8_i32_713
  let v562 : BitVec 32 := Scalar.addi c0_i32_714 v561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_715 : BitVec 32 := 4#32
  let v563 : BitVec 32 := Scalar.muli v5 c4_i32_715
  let v564 : BitVec 32 := Scalar.addi v562 v563
  let c1_i32_712 : BitVec 32 := 1#32
  let c1_i32_716 : BitVec 32 := 1#32
  let v565 : BitVec 32 := Scalar.muli c1_i32_712 c1_i32_716
  let v566 : BitVec 32 := Scalar.addi v564 v565
  v566.toNat
def k0_dev83 (d0 : Dev nD) : Nat :=
  let c0_i32_726 : BitVec 32 := 0#32
  let c0_i32_723 : BitVec 32 := 0#32
  let c8_i32_725 : BitVec 32 := 8#32
  let v573 : BitVec 32 := Scalar.muli c0_i32_723 c8_i32_725
  let v574 : BitVec 32 := Scalar.addi c0_i32_726 v573
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_727 : BitVec 32 := 4#32
  let v575 : BitVec 32 := Scalar.muli v5 c4_i32_727
  let v576 : BitVec 32 := Scalar.addi v574 v575
  let c0_i32_724 : BitVec 32 := 0#32
  let c1_i32_728 : BitVec 32 := 1#32
  let v577 : BitVec 32 := Scalar.muli c0_i32_724 c1_i32_728
  let v578 : BitVec 32 := Scalar.addi v576 v577
  v578.toNat
def k0_dev84 (d0 : Dev nD) : Nat :=
  let c0_i32_756 : BitVec 32 := 0#32
  let c1_i32_753 : BitVec 32 := 1#32
  let c8_i32_755 : BitVec 32 := 8#32
  let v599 : BitVec 32 := Scalar.muli c1_i32_753 c8_i32_755
  let v600 : BitVec 32 := Scalar.addi c0_i32_756 v599
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_757 : BitVec 32 := 4#32
  let v601 : BitVec 32 := Scalar.muli v5 c4_i32_757
  let v602 : BitVec 32 := Scalar.addi v600 v601
  let c1_i32_754 : BitVec 32 := 1#32
  let c1_i32_758 : BitVec 32 := 1#32
  let v603 : BitVec 32 := Scalar.muli c1_i32_754 c1_i32_758
  let v604 : BitVec 32 := Scalar.addi v602 v603
  v604.toNat
def k0_dev85 (d0 : Dev nD) : Nat :=
  let c0_i32_768 : BitVec 32 := 0#32
  let c0_i32_765 : BitVec 32 := 0#32
  let c8_i32_767 : BitVec 32 := 8#32
  let v611 : BitVec 32 := Scalar.muli c0_i32_765 c8_i32_767
  let v612 : BitVec 32 := Scalar.addi c0_i32_768 v611
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_769 : BitVec 32 := 4#32
  let v613 : BitVec 32 := Scalar.muli v5 c4_i32_769
  let v614 : BitVec 32 := Scalar.addi v612 v613
  let c0_i32_766 : BitVec 32 := 0#32
  let c1_i32_770 : BitVec 32 := 1#32
  let v615 : BitVec 32 := Scalar.muli c0_i32_766 c1_i32_770
  let v616 : BitVec 32 := Scalar.addi v614 v615
  v616.toNat
def k0_dev86 (d0 : Dev nD) : Nat :=
  let c0_i32_798 : BitVec 32 := 0#32
  let c1_i32_795 : BitVec 32 := 1#32
  let c8_i32_797 : BitVec 32 := 8#32
  let v637 : BitVec 32 := Scalar.muli c1_i32_795 c8_i32_797
  let v638 : BitVec 32 := Scalar.addi c0_i32_798 v637
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_799 : BitVec 32 := 4#32
  let v639 : BitVec 32 := Scalar.muli v5 c4_i32_799
  let v640 : BitVec 32 := Scalar.addi v638 v639
  let c1_i32_796 : BitVec 32 := 1#32
  let c1_i32_800 : BitVec 32 := 1#32
  let v641 : BitVec 32 := Scalar.muli c1_i32_796 c1_i32_800
  let v642 : BitVec 32 := Scalar.addi v640 v641
  v642.toNat
def k0_dev87 (d0 : Dev nD) : Nat :=
  let c0_i32_810 : BitVec 32 := 0#32
  let c0_i32_807 : BitVec 32 := 0#32
  let c8_i32_809 : BitVec 32 := 8#32
  let v649 : BitVec 32 := Scalar.muli c0_i32_807 c8_i32_809
  let v650 : BitVec 32 := Scalar.addi c0_i32_810 v649
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_811 : BitVec 32 := 4#32
  let v651 : BitVec 32 := Scalar.muli v5 c4_i32_811
  let v652 : BitVec 32 := Scalar.addi v650 v651
  let c0_i32_808 : BitVec 32 := 0#32
  let c1_i32_812 : BitVec 32 := 1#32
  let v653 : BitVec 32 := Scalar.muli c0_i32_808 c1_i32_812
  let v654 : BitVec 32 := Scalar.addi v652 v653
  v654.toNat
def k0_dev88 (d0 : Dev nD) : Nat :=
  let c0_i32_840 : BitVec 32 := 0#32
  let c0_i32_837 : BitVec 32 := 0#32
  let c8_i32_839 : BitVec 32 := 8#32
  let v675 : BitVec 32 := Scalar.muli c0_i32_837 c8_i32_839
  let v676 : BitVec 32 := Scalar.addi c0_i32_840 v675
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_841 : BitVec 32 := 4#32
  let v677 : BitVec 32 := Scalar.muli v5 c4_i32_841
  let v678 : BitVec 32 := Scalar.addi v676 v677
  let c0_i32_838 : BitVec 32 := 0#32
  let c1_i32_842 : BitVec 32 := 1#32
  let v679 : BitVec 32 := Scalar.muli c0_i32_838 c1_i32_842
  let v680 : BitVec 32 := Scalar.addi v678 v679
  v680.toNat
def k0_dev89 (d0 : Dev nD) : Nat :=
  let c0_i32_870 : BitVec 32 := 0#32
  let c1_i32_867 : BitVec 32 := 1#32
  let c8_i32_869 : BitVec 32 := 8#32
  let v701 : BitVec 32 := Scalar.muli c1_i32_867 c8_i32_869
  let v702 : BitVec 32 := Scalar.addi c0_i32_870 v701
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_871 : BitVec 32 := 4#32
  let v703 : BitVec 32 := Scalar.muli v5 c4_i32_871
  let v704 : BitVec 32 := Scalar.addi v702 v703
  let c1_i32_868 : BitVec 32 := 1#32
  let c1_i32_872 : BitVec 32 := 1#32
  let v705 : BitVec 32 := Scalar.muli c1_i32_868 c1_i32_872
  let v706 : BitVec 32 := Scalar.addi v704 v705
  v706.toNat
def k0_dev90 (d0 : Dev nD) : Nat :=
  let c0_i32_882 : BitVec 32 := 0#32
  let c0_i32_879 : BitVec 32 := 0#32
  let c8_i32_881 : BitVec 32 := 8#32
  let v713 : BitVec 32 := Scalar.muli c0_i32_879 c8_i32_881
  let v714 : BitVec 32 := Scalar.addi c0_i32_882 v713
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_883 : BitVec 32 := 4#32
  let v715 : BitVec 32 := Scalar.muli v5 c4_i32_883
  let v716 : BitVec 32 := Scalar.addi v714 v715
  let c0_i32_880 : BitVec 32 := 0#32
  let c1_i32_884 : BitVec 32 := 1#32
  let v717 : BitVec 32 := Scalar.muli c0_i32_880 c1_i32_884
  let v718 : BitVec 32 := Scalar.addi v716 v717
  v718.toNat
def k0_dev91 (d0 : Dev nD) : Nat :=
  let c0_i32_912 : BitVec 32 := 0#32
  let c0_i32_909 : BitVec 32 := 0#32
  let c8_i32_911 : BitVec 32 := 8#32
  let v739 : BitVec 32 := Scalar.muli c0_i32_909 c8_i32_911
  let v740 : BitVec 32 := Scalar.addi c0_i32_912 v739
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_913 : BitVec 32 := 4#32
  let v741 : BitVec 32 := Scalar.muli v5 c4_i32_913
  let v742 : BitVec 32 := Scalar.addi v740 v741
  let c0_i32_910 : BitVec 32 := 0#32
  let c1_i32_914 : BitVec 32 := 1#32
  let v743 : BitVec 32 := Scalar.muli c0_i32_910 c1_i32_914
  let v744 : BitVec 32 := Scalar.addi v742 v743
  v744.toNat
def k0_dev92 (d0 : Dev nD) : Nat :=
  let c0_i32_942 : BitVec 32 := 0#32
  let c1_i32_939 : BitVec 32 := 1#32
  let c8_i32_941 : BitVec 32 := 8#32
  let v765 : BitVec 32 := Scalar.muli c1_i32_939 c8_i32_941
  let v766 : BitVec 32 := Scalar.addi c0_i32_942 v765
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_943 : BitVec 32 := 4#32
  let v767 : BitVec 32 := Scalar.muli v5 c4_i32_943
  let v768 : BitVec 32 := Scalar.addi v766 v767
  let c1_i32_940 : BitVec 32 := 1#32
  let c1_i32_944 : BitVec 32 := 1#32
  let v769 : BitVec 32 := Scalar.muli c1_i32_940 c1_i32_944
  let v770 : BitVec 32 := Scalar.addi v768 v769
  v770.toNat
def k0_dev93 (d0 : Dev nD) : Nat :=
  let c0_i32_954 : BitVec 32 := 0#32
  let c0_i32_951 : BitVec 32 := 0#32
  let c8_i32_953 : BitVec 32 := 8#32
  let v777 : BitVec 32 := Scalar.muli c0_i32_951 c8_i32_953
  let v778 : BitVec 32 := Scalar.addi c0_i32_954 v777
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_955 : BitVec 32 := 4#32
  let v779 : BitVec 32 := Scalar.muli v5 c4_i32_955
  let v780 : BitVec 32 := Scalar.addi v778 v779
  let c0_i32_952 : BitVec 32 := 0#32
  let c1_i32_956 : BitVec 32 := 1#32
  let v781 : BitVec 32 := Scalar.muli c0_i32_952 c1_i32_956
  let v782 : BitVec 32 := Scalar.addi v780 v781
  v782.toNat
def k0_dev94 (d0 : Dev nD) : Nat :=
  let c0_i32_984 : BitVec 32 := 0#32
  let c0_i32_981 : BitVec 32 := 0#32
  let c8_i32_983 : BitVec 32 := 8#32
  let v803 : BitVec 32 := Scalar.muli c0_i32_981 c8_i32_983
  let v804 : BitVec 32 := Scalar.addi c0_i32_984 v803
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_985 : BitVec 32 := 4#32
  let v805 : BitVec 32 := Scalar.muli v5 c4_i32_985
  let v806 : BitVec 32 := Scalar.addi v804 v805
  let c0_i32_982 : BitVec 32 := 0#32
  let c1_i32_986 : BitVec 32 := 1#32
  let v807 : BitVec 32 := Scalar.muli c0_i32_982 c1_i32_986
  let v808 : BitVec 32 := Scalar.addi v806 v807
  v808.toNat
def k0_dev95 (d0 : Dev nD) : Nat :=
  let c0_i32_1014 : BitVec 32 := 0#32
  let c0_i32_1011 : BitVec 32 := 0#32
  let c8_i32_1013 : BitVec 32 := 8#32
  let v829 : BitVec 32 := Scalar.muli c0_i32_1011 c8_i32_1013
  let v830 : BitVec 32 := Scalar.addi c0_i32_1014 v829
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1015 : BitVec 32 := 4#32
  let v831 : BitVec 32 := Scalar.muli v5 c4_i32_1015
  let v832 : BitVec 32 := Scalar.addi v830 v831
  let c0_i32_1012 : BitVec 32 := 0#32
  let c1_i32_1016 : BitVec 32 := 1#32
  let v833 : BitVec 32 := Scalar.muli c0_i32_1012 c1_i32_1016
  let v834 : BitVec 32 := Scalar.addi v832 v833
  v834.toNat
def k0_dev96 (d0 : Dev nD) : Nat :=
  let c0_i32_1044 : BitVec 32 := 0#32
  let c0_i32_1041 : BitVec 32 := 0#32
  let c8_i32_1043 : BitVec 32 := 8#32
  let v855 : BitVec 32 := Scalar.muli c0_i32_1041 c8_i32_1043
  let v856 : BitVec 32 := Scalar.addi c0_i32_1044 v855
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1045 : BitVec 32 := 4#32
  let v857 : BitVec 32 := Scalar.muli v5 c4_i32_1045
  let v858 : BitVec 32 := Scalar.addi v856 v857
  let c0_i32_1042 : BitVec 32 := 0#32
  let c1_i32_1046 : BitVec 32 := 1#32
  let v859 : BitVec 32 := Scalar.muli c0_i32_1042 c1_i32_1046
  let v860 : BitVec 32 := Scalar.addi v858 v859
  v860.toNat
def k0_dev97 (d0 : Dev nD) : Nat :=
  let c0_i32_1074 : BitVec 32 := 0#32
  let c0_i32_1071 : BitVec 32 := 0#32
  let c8_i32_1073 : BitVec 32 := 8#32
  let v881 : BitVec 32 := Scalar.muli c0_i32_1071 c8_i32_1073
  let v882 : BitVec 32 := Scalar.addi c0_i32_1074 v881
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1075 : BitVec 32 := 4#32
  let v883 : BitVec 32 := Scalar.muli v5 c4_i32_1075
  let v884 : BitVec 32 := Scalar.addi v882 v883
  let c2_i32_1072 : BitVec 32 := 2#32
  let c1_i32_1076 : BitVec 32 := 1#32
  let v885 : BitVec 32 := Scalar.muli c2_i32_1072 c1_i32_1076
  let v886 : BitVec 32 := Scalar.addi v884 v885
  v886.toNat
def k0_dev98 (d0 : Dev nD) : Nat :=
  let c0_i32_1104 : BitVec 32 := 0#32
  let c0_i32_1101 : BitVec 32 := 0#32
  let c8_i32_1103 : BitVec 32 := 8#32
  let v907 : BitVec 32 := Scalar.muli c0_i32_1101 c8_i32_1103
  let v908 : BitVec 32 := Scalar.addi c0_i32_1104 v907
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1105 : BitVec 32 := 4#32
  let v909 : BitVec 32 := Scalar.muli v5 c4_i32_1105
  let v910 : BitVec 32 := Scalar.addi v908 v909
  let c2_i32_1102 : BitVec 32 := 2#32
  let c1_i32_1106 : BitVec 32 := 1#32
  let v911 : BitVec 32 := Scalar.muli c2_i32_1102 c1_i32_1106
  let v912 : BitVec 32 := Scalar.addi v910 v911
  v912.toNat
def k0_dev99 (d0 : Dev nD) : Nat :=
  let c0_i32_1134 : BitVec 32 := 0#32
  let c0_i32_1131 : BitVec 32 := 0#32
  let c8_i32_1133 : BitVec 32 := 8#32
  let v933 : BitVec 32 := Scalar.muli c0_i32_1131 c8_i32_1133
  let v934 : BitVec 32 := Scalar.addi c0_i32_1134 v933
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1135 : BitVec 32 := 4#32
  let v935 : BitVec 32 := Scalar.muli v5 c4_i32_1135
  let v936 : BitVec 32 := Scalar.addi v934 v935
  let c2_i32_1132 : BitVec 32 := 2#32
  let c1_i32_1136 : BitVec 32 := 1#32
  let v937 : BitVec 32 := Scalar.muli c2_i32_1132 c1_i32_1136
  let v938 : BitVec 32 := Scalar.addi v936 v937
  v938.toNat
def k0_dev100 (d0 : Dev nD) : Nat :=
  let c0_i32_1182 : BitVec 32 := 0#32
  let c0_i32_1179 : BitVec 32 := 0#32
  let c8_i32_1181 : BitVec 32 := 8#32
  let v973 : BitVec 32 := Scalar.muli c0_i32_1179 c8_i32_1181
  let v974 : BitVec 32 := Scalar.addi c0_i32_1182 v973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1183 : BitVec 32 := 4#32
  let v975 : BitVec 32 := Scalar.muli v5 c4_i32_1183
  let v976 : BitVec 32 := Scalar.addi v974 v975
  let c2_i32_1180 : BitVec 32 := 2#32
  let c1_i32_1184 : BitVec 32 := 1#32
  let v977 : BitVec 32 := Scalar.muli c2_i32_1180 c1_i32_1184
  let v978 : BitVec 32 := Scalar.addi v976 v977
  v978.toNat
def k0_dev101 (d0 : Dev nD) : Nat :=
  let c0_i32_1230 : BitVec 32 := 0#32
  let c0_i32_1227 : BitVec 32 := 0#32
  let c8_i32_1229 : BitVec 32 := 8#32
  let v1013 : BitVec 32 := Scalar.muli c0_i32_1227 c8_i32_1229
  let v1014 : BitVec 32 := Scalar.addi c0_i32_1230 v1013
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1231 : BitVec 32 := 4#32
  let v1015 : BitVec 32 := Scalar.muli v5 c4_i32_1231
  let v1016 : BitVec 32 := Scalar.addi v1014 v1015
  let c2_i32_1228 : BitVec 32 := 2#32
  let c1_i32_1232 : BitVec 32 := 1#32
  let v1017 : BitVec 32 := Scalar.muli c2_i32_1228 c1_i32_1232
  let v1018 : BitVec 32 := Scalar.addi v1016 v1017
  v1018.toNat
def k0_dev102 (d0 : Dev nD) : Nat :=
  let c0_i32_1278 : BitVec 32 := 0#32
  let c0_i32_1275 : BitVec 32 := 0#32
  let c8_i32_1277 : BitVec 32 := 8#32
  let v1053 : BitVec 32 := Scalar.muli c0_i32_1275 c8_i32_1277
  let v1054 : BitVec 32 := Scalar.addi c0_i32_1278 v1053
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1279 : BitVec 32 := 4#32
  let v1055 : BitVec 32 := Scalar.muli v5 c4_i32_1279
  let v1056 : BitVec 32 := Scalar.addi v1054 v1055
  let c2_i32_1276 : BitVec 32 := 2#32
  let c1_i32_1280 : BitVec 32 := 1#32
  let v1057 : BitVec 32 := Scalar.muli c2_i32_1276 c1_i32_1280
  let v1058 : BitVec 32 := Scalar.addi v1056 v1057
  v1058.toNat
def k0_dev103 (d0 : Dev nD) : Nat :=
  let c0_i32_1326 : BitVec 32 := 0#32
  let c0_i32_1323 : BitVec 32 := 0#32
  let c8_i32_1325 : BitVec 32 := 8#32
  let v1093 : BitVec 32 := Scalar.muli c0_i32_1323 c8_i32_1325
  let v1094 : BitVec 32 := Scalar.addi c0_i32_1326 v1093
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1327 : BitVec 32 := 4#32
  let v1095 : BitVec 32 := Scalar.muli v5 c4_i32_1327
  let v1096 : BitVec 32 := Scalar.addi v1094 v1095
  let c2_i32_1324 : BitVec 32 := 2#32
  let c1_i32_1328 : BitVec 32 := 1#32
  let v1097 : BitVec 32 := Scalar.muli c2_i32_1324 c1_i32_1328
  let v1098 : BitVec 32 := Scalar.addi v1096 v1097
  v1098.toNat
def k0_dev104 (d0 : Dev nD) : Nat :=
  let c0_i32_1374 : BitVec 32 := 0#32
  let c0_i32_1371 : BitVec 32 := 0#32
  let c8_i32_1373 : BitVec 32 := 8#32
  let v1133 : BitVec 32 := Scalar.muli c0_i32_1371 c8_i32_1373
  let v1134 : BitVec 32 := Scalar.addi c0_i32_1374 v1133
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1375 : BitVec 32 := 4#32
  let v1135 : BitVec 32 := Scalar.muli v5 c4_i32_1375
  let v1136 : BitVec 32 := Scalar.addi v1134 v1135
  let c2_i32_1372 : BitVec 32 := 2#32
  let c1_i32_1376 : BitVec 32 := 1#32
  let v1137 : BitVec 32 := Scalar.muli c2_i32_1372 c1_i32_1376
  let v1138 : BitVec 32 := Scalar.addi v1136 v1137
  v1138.toNat
def k0_dev105 (d0 : Dev nD) : Nat :=
  let c0_i32_1422 : BitVec 32 := 0#32
  let c0_i32_1419 : BitVec 32 := 0#32
  let c8_i32_1421 : BitVec 32 := 8#32
  let v1173 : BitVec 32 := Scalar.muli c0_i32_1419 c8_i32_1421
  let v1174 : BitVec 32 := Scalar.addi c0_i32_1422 v1173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1423 : BitVec 32 := 4#32
  let v1175 : BitVec 32 := Scalar.muli v5 c4_i32_1423
  let v1176 : BitVec 32 := Scalar.addi v1174 v1175
  let c2_i32_1420 : BitVec 32 := 2#32
  let c1_i32_1424 : BitVec 32 := 1#32
  let v1177 : BitVec 32 := Scalar.muli c2_i32_1420 c1_i32_1424
  let v1178 : BitVec 32 := Scalar.addi v1176 v1177
  v1178.toNat
def k0_dev106 (d0 : Dev nD) : Nat :=
  let c0_i32_1470 : BitVec 32 := 0#32
  let c0_i32_1467 : BitVec 32 := 0#32
  let c8_i32_1469 : BitVec 32 := 8#32
  let v1213 : BitVec 32 := Scalar.muli c0_i32_1467 c8_i32_1469
  let v1214 : BitVec 32 := Scalar.addi c0_i32_1470 v1213
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1471 : BitVec 32 := 4#32
  let v1215 : BitVec 32 := Scalar.muli v5 c4_i32_1471
  let v1216 : BitVec 32 := Scalar.addi v1214 v1215
  let c2_i32_1468 : BitVec 32 := 2#32
  let c1_i32_1472 : BitVec 32 := 1#32
  let v1217 : BitVec 32 := Scalar.muli c2_i32_1468 c1_i32_1472
  let v1218 : BitVec 32 := Scalar.addi v1216 v1217
  v1218.toNat
def k0_dev107 (d0 : Dev nD) : Nat :=
  let c0_i32_1518 : BitVec 32 := 0#32
  let c0_i32_1515 : BitVec 32 := 0#32
  let c8_i32_1517 : BitVec 32 := 8#32
  let v1253 : BitVec 32 := Scalar.muli c0_i32_1515 c8_i32_1517
  let v1254 : BitVec 32 := Scalar.addi c0_i32_1518 v1253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1519 : BitVec 32 := 4#32
  let v1255 : BitVec 32 := Scalar.muli v5 c4_i32_1519
  let v1256 : BitVec 32 := Scalar.addi v1254 v1255
  let c2_i32_1516 : BitVec 32 := 2#32
  let c1_i32_1520 : BitVec 32 := 1#32
  let v1257 : BitVec 32 := Scalar.muli c2_i32_1516 c1_i32_1520
  let v1258 : BitVec 32 := Scalar.addi v1256 v1257
  v1258.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v153 : BitVec 1 := Scalar.cmpi .eq v8 c1_i32_208
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_209 : BitVec 32 := 1#32
  let v154 : BitVec 1 := Scalar.cmpi .eq v2 c1_i32_209
  let v155 : BitVec 1 := Scalar.andi v153 v154
  let v156 : BitVec 32 := Scalar.extui v155
  let c0_i32_242 : BitVec 32 := 0#32
  let v157 : BitVec 1 := Scalar.cmpi .ne v156 c0_i32_242
  v157

def k0_dev108 (d0 : Dev nD) : Nat :=
  let c0_i32_388 : BitVec 32 := 0#32
  let c1_i32_385 : BitVec 32 := 1#32
  let c8_i32_387 : BitVec 32 := 8#32
  let v179 : BitVec 32 := Scalar.muli c1_i32_385 c8_i32_387
  let v180 : BitVec 32 := Scalar.addi c0_i32_388 v179
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_389 : BitVec 32 := 4#32
  let v181 : BitVec 32 := Scalar.muli v178 c4_i32_389
  let v182 : BitVec 32 := Scalar.addi v180 v181
  let c1_i32_386 : BitVec 32 := 1#32
  let c1_i32_390 : BitVec 32 := 1#32
  let v183 : BitVec 32 := Scalar.muli c1_i32_386 c1_i32_390
  let v184 : BitVec 32 := Scalar.addi v182 v183
  v184.toNat
def k0_dev109 (d0 : Dev nD) : Nat :=
  let c0_i32_395 : BitVec 32 := 0#32
  let c0_i32_392 : BitVec 32 := 0#32
  let c8_i32_394 : BitVec 32 := 8#32
  let v185 : BitVec 32 := Scalar.muli c0_i32_392 c8_i32_394
  let v186 : BitVec 32 := Scalar.addi c0_i32_395 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v187 : BitVec 32 := Scalar.muli v5 c4_i32_396
  let v188 : BitVec 32 := Scalar.addi v186 v187
  let c1_i32_393 : BitVec 32 := 1#32
  let c1_i32_397 : BitVec 32 := 1#32
  let v189 : BitVec 32 := Scalar.muli c1_i32_393 c1_i32_397
  let v190 : BitVec 32 := Scalar.addi v188 v189
  v190.toNat
def k0_dev110 (d0 : Dev nD) : Nat :=
  let c0_i32_402 : BitVec 32 := 0#32
  let c1_i32_399 : BitVec 32 := 1#32
  let c8_i32_401 : BitVec 32 := 8#32
  let v191 : BitVec 32 := Scalar.muli c1_i32_399 c8_i32_401
  let v192 : BitVec 32 := Scalar.addi c0_i32_402 v191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v193 : BitVec 32 := Scalar.muli v5 c4_i32_403
  let v194 : BitVec 32 := Scalar.addi v192 v193
  let c0_i32_400 : BitVec 32 := 0#32
  let c1_i32_404 : BitVec 32 := 1#32
  let v195 : BitVec 32 := Scalar.muli c0_i32_400 c1_i32_404
  let v196 : BitVec 32 := Scalar.addi v194 v195
  v196.toNat
def k0_dev111 (d0 : Dev nD) : Nat :=
  let c0_i32_409 : BitVec 32 := 0#32
  let c1_i32_406 : BitVec 32 := 1#32
  let c8_i32_408 : BitVec 32 := 8#32
  let v197 : BitVec 32 := Scalar.muli c1_i32_406 c8_i32_408
  let v198 : BitVec 32 := Scalar.addi c0_i32_409 v197
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_410 : BitVec 32 := 4#32
  let v199 : BitVec 32 := Scalar.muli v5 c4_i32_410
  let v200 : BitVec 32 := Scalar.addi v198 v199
  let c2_i32_407 : BitVec 32 := 2#32
  let c1_i32_411 : BitVec 32 := 1#32
  let v201 : BitVec 32 := Scalar.muli c2_i32_407 c1_i32_411
  let v202 : BitVec 32 := Scalar.addi v200 v201
  v202.toNat
def k0_dev112 (d0 : Dev nD) : Nat :=
  let c0_i32_446 : BitVec 32 := 0#32
  let c1_i32_443 : BitVec 32 := 1#32
  let c8_i32_445 : BitVec 32 := 8#32
  let v239 : BitVec 32 := Scalar.muli c1_i32_443 c8_i32_445
  let v240 : BitVec 32 := Scalar.addi c0_i32_446 v239
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_447 : BitVec 32 := 4#32
  let v241 : BitVec 32 := Scalar.muli v178 c4_i32_447
  let v242 : BitVec 32 := Scalar.addi v240 v241
  let c1_i32_444 : BitVec 32 := 1#32
  let c1_i32_448 : BitVec 32 := 1#32
  let v243 : BitVec 32 := Scalar.muli c1_i32_444 c1_i32_448
  let v244 : BitVec 32 := Scalar.addi v242 v243
  v244.toNat
def k0_dev113 (d0 : Dev nD) : Nat :=
  let c0_i32_486 : BitVec 32 := 0#32
  let c1_i32_483 : BitVec 32 := 1#32
  let c8_i32_485 : BitVec 32 := 8#32
  let v287 : BitVec 32 := Scalar.muli c1_i32_483 c8_i32_485
  let v288 : BitVec 32 := Scalar.addi c0_i32_486 v287
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_487 : BitVec 32 := 4#32
  let v289 : BitVec 32 := Scalar.muli v178 c4_i32_487
  let v290 : BitVec 32 := Scalar.addi v288 v289
  let c1_i32_484 : BitVec 32 := 1#32
  let c1_i32_488 : BitVec 32 := 1#32
  let v291 : BitVec 32 := Scalar.muli c1_i32_484 c1_i32_488
  let v292 : BitVec 32 := Scalar.addi v290 v291
  v292.toNat
def k0_dev114 (d0 : Dev nD) : Nat :=
  let c0_i32_526 : BitVec 32 := 0#32
  let c1_i32_523 : BitVec 32 := 1#32
  let c8_i32_525 : BitVec 32 := 8#32
  let v335 : BitVec 32 := Scalar.muli c1_i32_523 c8_i32_525
  let v336 : BitVec 32 := Scalar.addi c0_i32_526 v335
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_527 : BitVec 32 := 4#32
  let v337 : BitVec 32 := Scalar.muli v178 c4_i32_527
  let v338 : BitVec 32 := Scalar.addi v336 v337
  let c1_i32_524 : BitVec 32 := 1#32
  let c1_i32_528 : BitVec 32 := 1#32
  let v339 : BitVec 32 := Scalar.muli c1_i32_524 c1_i32_528
  let v340 : BitVec 32 := Scalar.addi v338 v339
  v340.toNat
def k0_dev115 (d0 : Dev nD) : Nat :=
  let c0_i32_566 : BitVec 32 := 0#32
  let c1_i32_563 : BitVec 32 := 1#32
  let c8_i32_565 : BitVec 32 := 8#32
  let v383 : BitVec 32 := Scalar.muli c1_i32_563 c8_i32_565
  let v384 : BitVec 32 := Scalar.addi c0_i32_566 v383
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_567 : BitVec 32 := 4#32
  let v385 : BitVec 32 := Scalar.muli v178 c4_i32_567
  let v386 : BitVec 32 := Scalar.addi v384 v385
  let c1_i32_564 : BitVec 32 := 1#32
  let c1_i32_568 : BitVec 32 := 1#32
  let v387 : BitVec 32 := Scalar.muli c1_i32_564 c1_i32_568
  let v388 : BitVec 32 := Scalar.addi v386 v387
  v388.toNat
def k0_dev116 (d0 : Dev nD) : Nat :=
  let c0_i32_606 : BitVec 32 := 0#32
  let c1_i32_603 : BitVec 32 := 1#32
  let c8_i32_605 : BitVec 32 := 8#32
  let v431 : BitVec 32 := Scalar.muli c1_i32_603 c8_i32_605
  let v432 : BitVec 32 := Scalar.addi c0_i32_606 v431
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_607 : BitVec 32 := 4#32
  let v433 : BitVec 32 := Scalar.muli v178 c4_i32_607
  let v434 : BitVec 32 := Scalar.addi v432 v433
  let c1_i32_604 : BitVec 32 := 1#32
  let c1_i32_608 : BitVec 32 := 1#32
  let v435 : BitVec 32 := Scalar.muli c1_i32_604 c1_i32_608
  let v436 : BitVec 32 := Scalar.addi v434 v435
  v436.toNat
def k0_dev117 (d0 : Dev nD) : Nat :=
  let c0_i32_714 : BitVec 32 := 0#32
  let c0_i32_711 : BitVec 32 := 0#32
  let c8_i32_713 : BitVec 32 := 8#32
  let v561 : BitVec 32 := Scalar.muli c0_i32_711 c8_i32_713
  let v562 : BitVec 32 := Scalar.addi c0_i32_714 v561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_715 : BitVec 32 := 4#32
  let v563 : BitVec 32 := Scalar.muli v5 c4_i32_715
  let v564 : BitVec 32 := Scalar.addi v562 v563
  let c1_i32_712 : BitVec 32 := 1#32
  let c1_i32_716 : BitVec 32 := 1#32
  let v565 : BitVec 32 := Scalar.muli c1_i32_712 c1_i32_716
  let v566 : BitVec 32 := Scalar.addi v564 v565
  v566.toNat
def k0_dev118 (d0 : Dev nD) : Nat :=
  let c0_i32_726 : BitVec 32 := 0#32
  let c1_i32_723 : BitVec 32 := 1#32
  let c8_i32_725 : BitVec 32 := 8#32
  let v573 : BitVec 32 := Scalar.muli c1_i32_723 c8_i32_725
  let v574 : BitVec 32 := Scalar.addi c0_i32_726 v573
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_727 : BitVec 32 := 4#32
  let v575 : BitVec 32 := Scalar.muli v5 c4_i32_727
  let v576 : BitVec 32 := Scalar.addi v574 v575
  let c0_i32_724 : BitVec 32 := 0#32
  let c1_i32_728 : BitVec 32 := 1#32
  let v577 : BitVec 32 := Scalar.muli c0_i32_724 c1_i32_728
  let v578 : BitVec 32 := Scalar.addi v576 v577
  v578.toNat
def k0_dev119 (d0 : Dev nD) : Nat :=
  let c0_i32_756 : BitVec 32 := 0#32
  let c0_i32_753 : BitVec 32 := 0#32
  let c8_i32_755 : BitVec 32 := 8#32
  let v599 : BitVec 32 := Scalar.muli c0_i32_753 c8_i32_755
  let v600 : BitVec 32 := Scalar.addi c0_i32_756 v599
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_757 : BitVec 32 := 4#32
  let v601 : BitVec 32 := Scalar.muli v5 c4_i32_757
  let v602 : BitVec 32 := Scalar.addi v600 v601
  let c1_i32_754 : BitVec 32 := 1#32
  let c1_i32_758 : BitVec 32 := 1#32
  let v603 : BitVec 32 := Scalar.muli c1_i32_754 c1_i32_758
  let v604 : BitVec 32 := Scalar.addi v602 v603
  v604.toNat
def k0_dev120 (d0 : Dev nD) : Nat :=
  let c0_i32_768 : BitVec 32 := 0#32
  let c1_i32_765 : BitVec 32 := 1#32
  let c8_i32_767 : BitVec 32 := 8#32
  let v611 : BitVec 32 := Scalar.muli c1_i32_765 c8_i32_767
  let v612 : BitVec 32 := Scalar.addi c0_i32_768 v611
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_769 : BitVec 32 := 4#32
  let v613 : BitVec 32 := Scalar.muli v5 c4_i32_769
  let v614 : BitVec 32 := Scalar.addi v612 v613
  let c0_i32_766 : BitVec 32 := 0#32
  let c1_i32_770 : BitVec 32 := 1#32
  let v615 : BitVec 32 := Scalar.muli c0_i32_766 c1_i32_770
  let v616 : BitVec 32 := Scalar.addi v614 v615
  v616.toNat
def k0_dev121 (d0 : Dev nD) : Nat :=
  let c0_i32_798 : BitVec 32 := 0#32
  let c0_i32_795 : BitVec 32 := 0#32
  let c8_i32_797 : BitVec 32 := 8#32
  let v637 : BitVec 32 := Scalar.muli c0_i32_795 c8_i32_797
  let v638 : BitVec 32 := Scalar.addi c0_i32_798 v637
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_799 : BitVec 32 := 4#32
  let v639 : BitVec 32 := Scalar.muli v5 c4_i32_799
  let v640 : BitVec 32 := Scalar.addi v638 v639
  let c1_i32_796 : BitVec 32 := 1#32
  let c1_i32_800 : BitVec 32 := 1#32
  let v641 : BitVec 32 := Scalar.muli c1_i32_796 c1_i32_800
  let v642 : BitVec 32 := Scalar.addi v640 v641
  v642.toNat
def k0_dev122 (d0 : Dev nD) : Nat :=
  let c0_i32_810 : BitVec 32 := 0#32
  let c1_i32_807 : BitVec 32 := 1#32
  let c8_i32_809 : BitVec 32 := 8#32
  let v649 : BitVec 32 := Scalar.muli c1_i32_807 c8_i32_809
  let v650 : BitVec 32 := Scalar.addi c0_i32_810 v649
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_811 : BitVec 32 := 4#32
  let v651 : BitVec 32 := Scalar.muli v5 c4_i32_811
  let v652 : BitVec 32 := Scalar.addi v650 v651
  let c0_i32_808 : BitVec 32 := 0#32
  let c1_i32_812 : BitVec 32 := 1#32
  let v653 : BitVec 32 := Scalar.muli c0_i32_808 c1_i32_812
  let v654 : BitVec 32 := Scalar.addi v652 v653
  v654.toNat
def k0_dev123 (d0 : Dev nD) : Nat :=
  let c0_i32_840 : BitVec 32 := 0#32
  let c1_i32_837 : BitVec 32 := 1#32
  let c8_i32_839 : BitVec 32 := 8#32
  let v675 : BitVec 32 := Scalar.muli c1_i32_837 c8_i32_839
  let v676 : BitVec 32 := Scalar.addi c0_i32_840 v675
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_841 : BitVec 32 := 4#32
  let v677 : BitVec 32 := Scalar.muli v5 c4_i32_841
  let v678 : BitVec 32 := Scalar.addi v676 v677
  let c0_i32_838 : BitVec 32 := 0#32
  let c1_i32_842 : BitVec 32 := 1#32
  let v679 : BitVec 32 := Scalar.muli c0_i32_838 c1_i32_842
  let v680 : BitVec 32 := Scalar.addi v678 v679
  v680.toNat
def k0_dev124 (d0 : Dev nD) : Nat :=
  let c0_i32_870 : BitVec 32 := 0#32
  let c0_i32_867 : BitVec 32 := 0#32
  let c8_i32_869 : BitVec 32 := 8#32
  let v701 : BitVec 32 := Scalar.muli c0_i32_867 c8_i32_869
  let v702 : BitVec 32 := Scalar.addi c0_i32_870 v701
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_871 : BitVec 32 := 4#32
  let v703 : BitVec 32 := Scalar.muli v5 c4_i32_871
  let v704 : BitVec 32 := Scalar.addi v702 v703
  let c1_i32_868 : BitVec 32 := 1#32
  let c1_i32_872 : BitVec 32 := 1#32
  let v705 : BitVec 32 := Scalar.muli c1_i32_868 c1_i32_872
  let v706 : BitVec 32 := Scalar.addi v704 v705
  v706.toNat
def k0_dev125 (d0 : Dev nD) : Nat :=
  let c0_i32_882 : BitVec 32 := 0#32
  let c1_i32_879 : BitVec 32 := 1#32
  let c8_i32_881 : BitVec 32 := 8#32
  let v713 : BitVec 32 := Scalar.muli c1_i32_879 c8_i32_881
  let v714 : BitVec 32 := Scalar.addi c0_i32_882 v713
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_883 : BitVec 32 := 4#32
  let v715 : BitVec 32 := Scalar.muli v5 c4_i32_883
  let v716 : BitVec 32 := Scalar.addi v714 v715
  let c0_i32_880 : BitVec 32 := 0#32
  let c1_i32_884 : BitVec 32 := 1#32
  let v717 : BitVec 32 := Scalar.muli c0_i32_880 c1_i32_884
  let v718 : BitVec 32 := Scalar.addi v716 v717
  v718.toNat
def k0_dev126 (d0 : Dev nD) : Nat :=
  let c0_i32_912 : BitVec 32 := 0#32
  let c1_i32_909 : BitVec 32 := 1#32
  let c8_i32_911 : BitVec 32 := 8#32
  let v739 : BitVec 32 := Scalar.muli c1_i32_909 c8_i32_911
  let v740 : BitVec 32 := Scalar.addi c0_i32_912 v739
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_913 : BitVec 32 := 4#32
  let v741 : BitVec 32 := Scalar.muli v5 c4_i32_913
  let v742 : BitVec 32 := Scalar.addi v740 v741
  let c0_i32_910 : BitVec 32 := 0#32
  let c1_i32_914 : BitVec 32 := 1#32
  let v743 : BitVec 32 := Scalar.muli c0_i32_910 c1_i32_914
  let v744 : BitVec 32 := Scalar.addi v742 v743
  v744.toNat
def k0_dev127 (d0 : Dev nD) : Nat :=
  let c0_i32_942 : BitVec 32 := 0#32
  let c0_i32_939 : BitVec 32 := 0#32
  let c8_i32_941 : BitVec 32 := 8#32
  let v765 : BitVec 32 := Scalar.muli c0_i32_939 c8_i32_941
  let v766 : BitVec 32 := Scalar.addi c0_i32_942 v765
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_943 : BitVec 32 := 4#32
  let v767 : BitVec 32 := Scalar.muli v5 c4_i32_943
  let v768 : BitVec 32 := Scalar.addi v766 v767
  let c1_i32_940 : BitVec 32 := 1#32
  let c1_i32_944 : BitVec 32 := 1#32
  let v769 : BitVec 32 := Scalar.muli c1_i32_940 c1_i32_944
  let v770 : BitVec 32 := Scalar.addi v768 v769
  v770.toNat
def k0_dev128 (d0 : Dev nD) : Nat :=
  let c0_i32_954 : BitVec 32 := 0#32
  let c1_i32_951 : BitVec 32 := 1#32
  let c8_i32_953 : BitVec 32 := 8#32
  let v777 : BitVec 32 := Scalar.muli c1_i32_951 c8_i32_953
  let v778 : BitVec 32 := Scalar.addi c0_i32_954 v777
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_955 : BitVec 32 := 4#32
  let v779 : BitVec 32 := Scalar.muli v5 c4_i32_955
  let v780 : BitVec 32 := Scalar.addi v778 v779
  let c0_i32_952 : BitVec 32 := 0#32
  let c1_i32_956 : BitVec 32 := 1#32
  let v781 : BitVec 32 := Scalar.muli c0_i32_952 c1_i32_956
  let v782 : BitVec 32 := Scalar.addi v780 v781
  v782.toNat
def k0_dev129 (d0 : Dev nD) : Nat :=
  let c0_i32_984 : BitVec 32 := 0#32
  let c1_i32_981 : BitVec 32 := 1#32
  let c8_i32_983 : BitVec 32 := 8#32
  let v803 : BitVec 32 := Scalar.muli c1_i32_981 c8_i32_983
  let v804 : BitVec 32 := Scalar.addi c0_i32_984 v803
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_985 : BitVec 32 := 4#32
  let v805 : BitVec 32 := Scalar.muli v5 c4_i32_985
  let v806 : BitVec 32 := Scalar.addi v804 v805
  let c0_i32_982 : BitVec 32 := 0#32
  let c1_i32_986 : BitVec 32 := 1#32
  let v807 : BitVec 32 := Scalar.muli c0_i32_982 c1_i32_986
  let v808 : BitVec 32 := Scalar.addi v806 v807
  v808.toNat
def k0_dev130 (d0 : Dev nD) : Nat :=
  let c0_i32_1014 : BitVec 32 := 0#32
  let c1_i32_1011 : BitVec 32 := 1#32
  let c8_i32_1013 : BitVec 32 := 8#32
  let v829 : BitVec 32 := Scalar.muli c1_i32_1011 c8_i32_1013
  let v830 : BitVec 32 := Scalar.addi c0_i32_1014 v829
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1015 : BitVec 32 := 4#32
  let v831 : BitVec 32 := Scalar.muli v5 c4_i32_1015
  let v832 : BitVec 32 := Scalar.addi v830 v831
  let c0_i32_1012 : BitVec 32 := 0#32
  let c1_i32_1016 : BitVec 32 := 1#32
  let v833 : BitVec 32 := Scalar.muli c0_i32_1012 c1_i32_1016
  let v834 : BitVec 32 := Scalar.addi v832 v833
  v834.toNat
def k0_dev131 (d0 : Dev nD) : Nat :=
  let c0_i32_1044 : BitVec 32 := 0#32
  let c1_i32_1041 : BitVec 32 := 1#32
  let c8_i32_1043 : BitVec 32 := 8#32
  let v855 : BitVec 32 := Scalar.muli c1_i32_1041 c8_i32_1043
  let v856 : BitVec 32 := Scalar.addi c0_i32_1044 v855
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1045 : BitVec 32 := 4#32
  let v857 : BitVec 32 := Scalar.muli v5 c4_i32_1045
  let v858 : BitVec 32 := Scalar.addi v856 v857
  let c0_i32_1042 : BitVec 32 := 0#32
  let c1_i32_1046 : BitVec 32 := 1#32
  let v859 : BitVec 32 := Scalar.muli c0_i32_1042 c1_i32_1046
  let v860 : BitVec 32 := Scalar.addi v858 v859
  v860.toNat
def k0_dev132 (d0 : Dev nD) : Nat :=
  let c0_i32_1074 : BitVec 32 := 0#32
  let c1_i32_1071 : BitVec 32 := 1#32
  let c8_i32_1073 : BitVec 32 := 8#32
  let v881 : BitVec 32 := Scalar.muli c1_i32_1071 c8_i32_1073
  let v882 : BitVec 32 := Scalar.addi c0_i32_1074 v881
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1075 : BitVec 32 := 4#32
  let v883 : BitVec 32 := Scalar.muli v5 c4_i32_1075
  let v884 : BitVec 32 := Scalar.addi v882 v883
  let c2_i32_1072 : BitVec 32 := 2#32
  let c1_i32_1076 : BitVec 32 := 1#32
  let v885 : BitVec 32 := Scalar.muli c2_i32_1072 c1_i32_1076
  let v886 : BitVec 32 := Scalar.addi v884 v885
  v886.toNat
def k0_dev133 (d0 : Dev nD) : Nat :=
  let c0_i32_1104 : BitVec 32 := 0#32
  let c1_i32_1101 : BitVec 32 := 1#32
  let c8_i32_1103 : BitVec 32 := 8#32
  let v907 : BitVec 32 := Scalar.muli c1_i32_1101 c8_i32_1103
  let v908 : BitVec 32 := Scalar.addi c0_i32_1104 v907
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1105 : BitVec 32 := 4#32
  let v909 : BitVec 32 := Scalar.muli v5 c4_i32_1105
  let v910 : BitVec 32 := Scalar.addi v908 v909
  let c2_i32_1102 : BitVec 32 := 2#32
  let c1_i32_1106 : BitVec 32 := 1#32
  let v911 : BitVec 32 := Scalar.muli c2_i32_1102 c1_i32_1106
  let v912 : BitVec 32 := Scalar.addi v910 v911
  v912.toNat
def k0_dev134 (d0 : Dev nD) : Nat :=
  let c0_i32_1134 : BitVec 32 := 0#32
  let c1_i32_1131 : BitVec 32 := 1#32
  let c8_i32_1133 : BitVec 32 := 8#32
  let v933 : BitVec 32 := Scalar.muli c1_i32_1131 c8_i32_1133
  let v934 : BitVec 32 := Scalar.addi c0_i32_1134 v933
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1135 : BitVec 32 := 4#32
  let v935 : BitVec 32 := Scalar.muli v5 c4_i32_1135
  let v936 : BitVec 32 := Scalar.addi v934 v935
  let c2_i32_1132 : BitVec 32 := 2#32
  let c1_i32_1136 : BitVec 32 := 1#32
  let v937 : BitVec 32 := Scalar.muli c2_i32_1132 c1_i32_1136
  let v938 : BitVec 32 := Scalar.addi v936 v937
  v938.toNat
def k0_dev135 (d0 : Dev nD) : Nat :=
  let c0_i32_1182 : BitVec 32 := 0#32
  let c1_i32_1179 : BitVec 32 := 1#32
  let c8_i32_1181 : BitVec 32 := 8#32
  let v973 : BitVec 32 := Scalar.muli c1_i32_1179 c8_i32_1181
  let v974 : BitVec 32 := Scalar.addi c0_i32_1182 v973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1183 : BitVec 32 := 4#32
  let v975 : BitVec 32 := Scalar.muli v5 c4_i32_1183
  let v976 : BitVec 32 := Scalar.addi v974 v975
  let c2_i32_1180 : BitVec 32 := 2#32
  let c1_i32_1184 : BitVec 32 := 1#32
  let v977 : BitVec 32 := Scalar.muli c2_i32_1180 c1_i32_1184
  let v978 : BitVec 32 := Scalar.addi v976 v977
  v978.toNat
def k0_dev136 (d0 : Dev nD) : Nat :=
  let c0_i32_1230 : BitVec 32 := 0#32
  let c1_i32_1227 : BitVec 32 := 1#32
  let c8_i32_1229 : BitVec 32 := 8#32
  let v1013 : BitVec 32 := Scalar.muli c1_i32_1227 c8_i32_1229
  let v1014 : BitVec 32 := Scalar.addi c0_i32_1230 v1013
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1231 : BitVec 32 := 4#32
  let v1015 : BitVec 32 := Scalar.muli v5 c4_i32_1231
  let v1016 : BitVec 32 := Scalar.addi v1014 v1015
  let c2_i32_1228 : BitVec 32 := 2#32
  let c1_i32_1232 : BitVec 32 := 1#32
  let v1017 : BitVec 32 := Scalar.muli c2_i32_1228 c1_i32_1232
  let v1018 : BitVec 32 := Scalar.addi v1016 v1017
  v1018.toNat
def k0_dev137 (d0 : Dev nD) : Nat :=
  let c0_i32_1278 : BitVec 32 := 0#32
  let c1_i32_1275 : BitVec 32 := 1#32
  let c8_i32_1277 : BitVec 32 := 8#32
  let v1053 : BitVec 32 := Scalar.muli c1_i32_1275 c8_i32_1277
  let v1054 : BitVec 32 := Scalar.addi c0_i32_1278 v1053
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1279 : BitVec 32 := 4#32
  let v1055 : BitVec 32 := Scalar.muli v5 c4_i32_1279
  let v1056 : BitVec 32 := Scalar.addi v1054 v1055
  let c2_i32_1276 : BitVec 32 := 2#32
  let c1_i32_1280 : BitVec 32 := 1#32
  let v1057 : BitVec 32 := Scalar.muli c2_i32_1276 c1_i32_1280
  let v1058 : BitVec 32 := Scalar.addi v1056 v1057
  v1058.toNat
def k0_dev138 (d0 : Dev nD) : Nat :=
  let c0_i32_1326 : BitVec 32 := 0#32
  let c1_i32_1323 : BitVec 32 := 1#32
  let c8_i32_1325 : BitVec 32 := 8#32
  let v1093 : BitVec 32 := Scalar.muli c1_i32_1323 c8_i32_1325
  let v1094 : BitVec 32 := Scalar.addi c0_i32_1326 v1093
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1327 : BitVec 32 := 4#32
  let v1095 : BitVec 32 := Scalar.muli v5 c4_i32_1327
  let v1096 : BitVec 32 := Scalar.addi v1094 v1095
  let c2_i32_1324 : BitVec 32 := 2#32
  let c1_i32_1328 : BitVec 32 := 1#32
  let v1097 : BitVec 32 := Scalar.muli c2_i32_1324 c1_i32_1328
  let v1098 : BitVec 32 := Scalar.addi v1096 v1097
  v1098.toNat
def k0_dev139 (d0 : Dev nD) : Nat :=
  let c0_i32_1374 : BitVec 32 := 0#32
  let c1_i32_1371 : BitVec 32 := 1#32
  let c8_i32_1373 : BitVec 32 := 8#32
  let v1133 : BitVec 32 := Scalar.muli c1_i32_1371 c8_i32_1373
  let v1134 : BitVec 32 := Scalar.addi c0_i32_1374 v1133
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1375 : BitVec 32 := 4#32
  let v1135 : BitVec 32 := Scalar.muli v5 c4_i32_1375
  let v1136 : BitVec 32 := Scalar.addi v1134 v1135
  let c2_i32_1372 : BitVec 32 := 2#32
  let c1_i32_1376 : BitVec 32 := 1#32
  let v1137 : BitVec 32 := Scalar.muli c2_i32_1372 c1_i32_1376
  let v1138 : BitVec 32 := Scalar.addi v1136 v1137
  v1138.toNat
def k0_dev140 (d0 : Dev nD) : Nat :=
  let c0_i32_1422 : BitVec 32 := 0#32
  let c1_i32_1419 : BitVec 32 := 1#32
  let c8_i32_1421 : BitVec 32 := 8#32
  let v1173 : BitVec 32 := Scalar.muli c1_i32_1419 c8_i32_1421
  let v1174 : BitVec 32 := Scalar.addi c0_i32_1422 v1173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1423 : BitVec 32 := 4#32
  let v1175 : BitVec 32 := Scalar.muli v5 c4_i32_1423
  let v1176 : BitVec 32 := Scalar.addi v1174 v1175
  let c2_i32_1420 : BitVec 32 := 2#32
  let c1_i32_1424 : BitVec 32 := 1#32
  let v1177 : BitVec 32 := Scalar.muli c2_i32_1420 c1_i32_1424
  let v1178 : BitVec 32 := Scalar.addi v1176 v1177
  v1178.toNat
def k0_dev141 (d0 : Dev nD) : Nat :=
  let c0_i32_1470 : BitVec 32 := 0#32
  let c1_i32_1467 : BitVec 32 := 1#32
  let c8_i32_1469 : BitVec 32 := 8#32
  let v1213 : BitVec 32 := Scalar.muli c1_i32_1467 c8_i32_1469
  let v1214 : BitVec 32 := Scalar.addi c0_i32_1470 v1213
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1471 : BitVec 32 := 4#32
  let v1215 : BitVec 32 := Scalar.muli v5 c4_i32_1471
  let v1216 : BitVec 32 := Scalar.addi v1214 v1215
  let c2_i32_1468 : BitVec 32 := 2#32
  let c1_i32_1472 : BitVec 32 := 1#32
  let v1217 : BitVec 32 := Scalar.muli c2_i32_1468 c1_i32_1472
  let v1218 : BitVec 32 := Scalar.addi v1216 v1217
  v1218.toNat
def k0_dev142 (d0 : Dev nD) : Nat :=
  let c0_i32_1518 : BitVec 32 := 0#32
  let c1_i32_1515 : BitVec 32 := 1#32
  let c8_i32_1517 : BitVec 32 := 8#32
  let v1253 : BitVec 32 := Scalar.muli c1_i32_1515 c8_i32_1517
  let v1254 : BitVec 32 := Scalar.addi c0_i32_1518 v1253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1519 : BitVec 32 := 4#32
  let v1255 : BitVec 32 := Scalar.muli v5 c4_i32_1519
  let v1256 : BitVec 32 := Scalar.addi v1254 v1255
  let c2_i32_1516 : BitVec 32 := 2#32
  let c1_i32_1520 : BitVec 32 := 1#32
  let v1257 : BitVec 32 := Scalar.muli c2_i32_1516 c1_i32_1520
  let v1258 : BitVec 32 := Scalar.addi v1256 v1257
  v1258.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_243 : BitVec 32 := 2#32
  let v158 : BitVec 1 := Scalar.cmpi .eq v8 c2_i32_243
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_244 : BitVec 32 := 0#32
  let v159 : BitVec 1 := Scalar.cmpi .eq v2 c0_i32_244
  let v160 : BitVec 1 := Scalar.andi v158 v159
  let v161 : BitVec 32 := Scalar.extui v160
  let c0_i32_277 : BitVec 32 := 0#32
  let v162 : BitVec 1 := Scalar.cmpi .ne v161 c0_i32_277
  v162

def k0_dev143 (d0 : Dev nD) : Nat :=
  let c0_i32_388 : BitVec 32 := 0#32
  let c0_i32_385 : BitVec 32 := 0#32
  let c8_i32_387 : BitVec 32 := 8#32
  let v179 : BitVec 32 := Scalar.muli c0_i32_385 c8_i32_387
  let v180 : BitVec 32 := Scalar.addi c0_i32_388 v179
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_389 : BitVec 32 := 4#32
  let v181 : BitVec 32 := Scalar.muli v178 c4_i32_389
  let v182 : BitVec 32 := Scalar.addi v180 v181
  let c2_i32_386 : BitVec 32 := 2#32
  let c1_i32_390 : BitVec 32 := 1#32
  let v183 : BitVec 32 := Scalar.muli c2_i32_386 c1_i32_390
  let v184 : BitVec 32 := Scalar.addi v182 v183
  v184.toNat
def k0_dev144 (d0 : Dev nD) : Nat :=
  let c0_i32_395 : BitVec 32 := 0#32
  let c1_i32_392 : BitVec 32 := 1#32
  let c8_i32_394 : BitVec 32 := 8#32
  let v185 : BitVec 32 := Scalar.muli c1_i32_392 c8_i32_394
  let v186 : BitVec 32 := Scalar.addi c0_i32_395 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v187 : BitVec 32 := Scalar.muli v5 c4_i32_396
  let v188 : BitVec 32 := Scalar.addi v186 v187
  let c2_i32_393 : BitVec 32 := 2#32
  let c1_i32_397 : BitVec 32 := 1#32
  let v189 : BitVec 32 := Scalar.muli c2_i32_393 c1_i32_397
  let v190 : BitVec 32 := Scalar.addi v188 v189
  v190.toNat
def k0_dev145 (d0 : Dev nD) : Nat :=
  let c0_i32_402 : BitVec 32 := 0#32
  let c0_i32_399 : BitVec 32 := 0#32
  let c8_i32_401 : BitVec 32 := 8#32
  let v191 : BitVec 32 := Scalar.muli c0_i32_399 c8_i32_401
  let v192 : BitVec 32 := Scalar.addi c0_i32_402 v191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v193 : BitVec 32 := Scalar.muli v5 c4_i32_403
  let v194 : BitVec 32 := Scalar.addi v192 v193
  let c3_i32_400 : BitVec 32 := 3#32
  let c1_i32_404 : BitVec 32 := 1#32
  let v195 : BitVec 32 := Scalar.muli c3_i32_400 c1_i32_404
  let v196 : BitVec 32 := Scalar.addi v194 v195
  v196.toNat
def k0_dev146 (d0 : Dev nD) : Nat :=
  let c0_i32_409 : BitVec 32 := 0#32
  let c0_i32_406 : BitVec 32 := 0#32
  let c8_i32_408 : BitVec 32 := 8#32
  let v197 : BitVec 32 := Scalar.muli c0_i32_406 c8_i32_408
  let v198 : BitVec 32 := Scalar.addi c0_i32_409 v197
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_410 : BitVec 32 := 4#32
  let v199 : BitVec 32 := Scalar.muli v5 c4_i32_410
  let v200 : BitVec 32 := Scalar.addi v198 v199
  let c1_i32_407 : BitVec 32 := 1#32
  let c1_i32_411 : BitVec 32 := 1#32
  let v201 : BitVec 32 := Scalar.muli c1_i32_407 c1_i32_411
  let v202 : BitVec 32 := Scalar.addi v200 v201
  v202.toNat
def k0_dev147 (d0 : Dev nD) : Nat :=
  let c0_i32_446 : BitVec 32 := 0#32
  let c0_i32_443 : BitVec 32 := 0#32
  let c8_i32_445 : BitVec 32 := 8#32
  let v239 : BitVec 32 := Scalar.muli c0_i32_443 c8_i32_445
  let v240 : BitVec 32 := Scalar.addi c0_i32_446 v239
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_447 : BitVec 32 := 4#32
  let v241 : BitVec 32 := Scalar.muli v178 c4_i32_447
  let v242 : BitVec 32 := Scalar.addi v240 v241
  let c2_i32_444 : BitVec 32 := 2#32
  let c1_i32_448 : BitVec 32 := 1#32
  let v243 : BitVec 32 := Scalar.muli c2_i32_444 c1_i32_448
  let v244 : BitVec 32 := Scalar.addi v242 v243
  v244.toNat
def k0_dev148 (d0 : Dev nD) : Nat :=
  let c0_i32_486 : BitVec 32 := 0#32
  let c0_i32_483 : BitVec 32 := 0#32
  let c8_i32_485 : BitVec 32 := 8#32
  let v287 : BitVec 32 := Scalar.muli c0_i32_483 c8_i32_485
  let v288 : BitVec 32 := Scalar.addi c0_i32_486 v287
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_487 : BitVec 32 := 4#32
  let v289 : BitVec 32 := Scalar.muli v178 c4_i32_487
  let v290 : BitVec 32 := Scalar.addi v288 v289
  let c2_i32_484 : BitVec 32 := 2#32
  let c1_i32_488 : BitVec 32 := 1#32
  let v291 : BitVec 32 := Scalar.muli c2_i32_484 c1_i32_488
  let v292 : BitVec 32 := Scalar.addi v290 v291
  v292.toNat
def k0_dev149 (d0 : Dev nD) : Nat :=
  let c0_i32_526 : BitVec 32 := 0#32
  let c0_i32_523 : BitVec 32 := 0#32
  let c8_i32_525 : BitVec 32 := 8#32
  let v335 : BitVec 32 := Scalar.muli c0_i32_523 c8_i32_525
  let v336 : BitVec 32 := Scalar.addi c0_i32_526 v335
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_527 : BitVec 32 := 4#32
  let v337 : BitVec 32 := Scalar.muli v178 c4_i32_527
  let v338 : BitVec 32 := Scalar.addi v336 v337
  let c2_i32_524 : BitVec 32 := 2#32
  let c1_i32_528 : BitVec 32 := 1#32
  let v339 : BitVec 32 := Scalar.muli c2_i32_524 c1_i32_528
  let v340 : BitVec 32 := Scalar.addi v338 v339
  v340.toNat
def k0_dev150 (d0 : Dev nD) : Nat :=
  let c0_i32_566 : BitVec 32 := 0#32
  let c0_i32_563 : BitVec 32 := 0#32
  let c8_i32_565 : BitVec 32 := 8#32
  let v383 : BitVec 32 := Scalar.muli c0_i32_563 c8_i32_565
  let v384 : BitVec 32 := Scalar.addi c0_i32_566 v383
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_567 : BitVec 32 := 4#32
  let v385 : BitVec 32 := Scalar.muli v178 c4_i32_567
  let v386 : BitVec 32 := Scalar.addi v384 v385
  let c2_i32_564 : BitVec 32 := 2#32
  let c1_i32_568 : BitVec 32 := 1#32
  let v387 : BitVec 32 := Scalar.muli c2_i32_564 c1_i32_568
  let v388 : BitVec 32 := Scalar.addi v386 v387
  v388.toNat
def k0_dev151 (d0 : Dev nD) : Nat :=
  let c0_i32_606 : BitVec 32 := 0#32
  let c0_i32_603 : BitVec 32 := 0#32
  let c8_i32_605 : BitVec 32 := 8#32
  let v431 : BitVec 32 := Scalar.muli c0_i32_603 c8_i32_605
  let v432 : BitVec 32 := Scalar.addi c0_i32_606 v431
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_607 : BitVec 32 := 4#32
  let v433 : BitVec 32 := Scalar.muli v178 c4_i32_607
  let v434 : BitVec 32 := Scalar.addi v432 v433
  let c2_i32_604 : BitVec 32 := 2#32
  let c1_i32_608 : BitVec 32 := 1#32
  let v435 : BitVec 32 := Scalar.muli c2_i32_604 c1_i32_608
  let v436 : BitVec 32 := Scalar.addi v434 v435
  v436.toNat
def k0_dev152 (d0 : Dev nD) : Nat :=
  let c0_i32_714 : BitVec 32 := 0#32
  let c1_i32_711 : BitVec 32 := 1#32
  let c8_i32_713 : BitVec 32 := 8#32
  let v561 : BitVec 32 := Scalar.muli c1_i32_711 c8_i32_713
  let v562 : BitVec 32 := Scalar.addi c0_i32_714 v561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_715 : BitVec 32 := 4#32
  let v563 : BitVec 32 := Scalar.muli v5 c4_i32_715
  let v564 : BitVec 32 := Scalar.addi v562 v563
  let c2_i32_712 : BitVec 32 := 2#32
  let c1_i32_716 : BitVec 32 := 1#32
  let v565 : BitVec 32 := Scalar.muli c2_i32_712 c1_i32_716
  let v566 : BitVec 32 := Scalar.addi v564 v565
  v566.toNat
def k0_dev153 (d0 : Dev nD) : Nat :=
  let c0_i32_726 : BitVec 32 := 0#32
  let c0_i32_723 : BitVec 32 := 0#32
  let c8_i32_725 : BitVec 32 := 8#32
  let v573 : BitVec 32 := Scalar.muli c0_i32_723 c8_i32_725
  let v574 : BitVec 32 := Scalar.addi c0_i32_726 v573
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_727 : BitVec 32 := 4#32
  let v575 : BitVec 32 := Scalar.muli v5 c4_i32_727
  let v576 : BitVec 32 := Scalar.addi v574 v575
  let c3_i32_724 : BitVec 32 := 3#32
  let c1_i32_728 : BitVec 32 := 1#32
  let v577 : BitVec 32 := Scalar.muli c3_i32_724 c1_i32_728
  let v578 : BitVec 32 := Scalar.addi v576 v577
  v578.toNat
def k0_dev154 (d0 : Dev nD) : Nat :=
  let c0_i32_756 : BitVec 32 := 0#32
  let c1_i32_753 : BitVec 32 := 1#32
  let c8_i32_755 : BitVec 32 := 8#32
  let v599 : BitVec 32 := Scalar.muli c1_i32_753 c8_i32_755
  let v600 : BitVec 32 := Scalar.addi c0_i32_756 v599
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_757 : BitVec 32 := 4#32
  let v601 : BitVec 32 := Scalar.muli v5 c4_i32_757
  let v602 : BitVec 32 := Scalar.addi v600 v601
  let c2_i32_754 : BitVec 32 := 2#32
  let c1_i32_758 : BitVec 32 := 1#32
  let v603 : BitVec 32 := Scalar.muli c2_i32_754 c1_i32_758
  let v604 : BitVec 32 := Scalar.addi v602 v603
  v604.toNat
def k0_dev155 (d0 : Dev nD) : Nat :=
  let c0_i32_768 : BitVec 32 := 0#32
  let c0_i32_765 : BitVec 32 := 0#32
  let c8_i32_767 : BitVec 32 := 8#32
  let v611 : BitVec 32 := Scalar.muli c0_i32_765 c8_i32_767
  let v612 : BitVec 32 := Scalar.addi c0_i32_768 v611
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_769 : BitVec 32 := 4#32
  let v613 : BitVec 32 := Scalar.muli v5 c4_i32_769
  let v614 : BitVec 32 := Scalar.addi v612 v613
  let c3_i32_766 : BitVec 32 := 3#32
  let c1_i32_770 : BitVec 32 := 1#32
  let v615 : BitVec 32 := Scalar.muli c3_i32_766 c1_i32_770
  let v616 : BitVec 32 := Scalar.addi v614 v615
  v616.toNat
def k0_dev156 (d0 : Dev nD) : Nat :=
  let c0_i32_798 : BitVec 32 := 0#32
  let c1_i32_795 : BitVec 32 := 1#32
  let c8_i32_797 : BitVec 32 := 8#32
  let v637 : BitVec 32 := Scalar.muli c1_i32_795 c8_i32_797
  let v638 : BitVec 32 := Scalar.addi c0_i32_798 v637
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_799 : BitVec 32 := 4#32
  let v639 : BitVec 32 := Scalar.muli v5 c4_i32_799
  let v640 : BitVec 32 := Scalar.addi v638 v639
  let c2_i32_796 : BitVec 32 := 2#32
  let c1_i32_800 : BitVec 32 := 1#32
  let v641 : BitVec 32 := Scalar.muli c2_i32_796 c1_i32_800
  let v642 : BitVec 32 := Scalar.addi v640 v641
  v642.toNat
def k0_dev157 (d0 : Dev nD) : Nat :=
  let c0_i32_810 : BitVec 32 := 0#32
  let c0_i32_807 : BitVec 32 := 0#32
  let c8_i32_809 : BitVec 32 := 8#32
  let v649 : BitVec 32 := Scalar.muli c0_i32_807 c8_i32_809
  let v650 : BitVec 32 := Scalar.addi c0_i32_810 v649
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_811 : BitVec 32 := 4#32
  let v651 : BitVec 32 := Scalar.muli v5 c4_i32_811
  let v652 : BitVec 32 := Scalar.addi v650 v651
  let c3_i32_808 : BitVec 32 := 3#32
  let c1_i32_812 : BitVec 32 := 1#32
  let v653 : BitVec 32 := Scalar.muli c3_i32_808 c1_i32_812
  let v654 : BitVec 32 := Scalar.addi v652 v653
  v654.toNat
def k0_dev158 (d0 : Dev nD) : Nat :=
  let c0_i32_840 : BitVec 32 := 0#32
  let c0_i32_837 : BitVec 32 := 0#32
  let c8_i32_839 : BitVec 32 := 8#32
  let v675 : BitVec 32 := Scalar.muli c0_i32_837 c8_i32_839
  let v676 : BitVec 32 := Scalar.addi c0_i32_840 v675
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_841 : BitVec 32 := 4#32
  let v677 : BitVec 32 := Scalar.muli v5 c4_i32_841
  let v678 : BitVec 32 := Scalar.addi v676 v677
  let c3_i32_838 : BitVec 32 := 3#32
  let c1_i32_842 : BitVec 32 := 1#32
  let v679 : BitVec 32 := Scalar.muli c3_i32_838 c1_i32_842
  let v680 : BitVec 32 := Scalar.addi v678 v679
  v680.toNat
def k0_dev159 (d0 : Dev nD) : Nat :=
  let c0_i32_870 : BitVec 32 := 0#32
  let c1_i32_867 : BitVec 32 := 1#32
  let c8_i32_869 : BitVec 32 := 8#32
  let v701 : BitVec 32 := Scalar.muli c1_i32_867 c8_i32_869
  let v702 : BitVec 32 := Scalar.addi c0_i32_870 v701
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_871 : BitVec 32 := 4#32
  let v703 : BitVec 32 := Scalar.muli v5 c4_i32_871
  let v704 : BitVec 32 := Scalar.addi v702 v703
  let c2_i32_868 : BitVec 32 := 2#32
  let c1_i32_872 : BitVec 32 := 1#32
  let v705 : BitVec 32 := Scalar.muli c2_i32_868 c1_i32_872
  let v706 : BitVec 32 := Scalar.addi v704 v705
  v706.toNat
def k0_dev160 (d0 : Dev nD) : Nat :=
  let c0_i32_882 : BitVec 32 := 0#32
  let c0_i32_879 : BitVec 32 := 0#32
  let c8_i32_881 : BitVec 32 := 8#32
  let v713 : BitVec 32 := Scalar.muli c0_i32_879 c8_i32_881
  let v714 : BitVec 32 := Scalar.addi c0_i32_882 v713
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_883 : BitVec 32 := 4#32
  let v715 : BitVec 32 := Scalar.muli v5 c4_i32_883
  let v716 : BitVec 32 := Scalar.addi v714 v715
  let c3_i32_880 : BitVec 32 := 3#32
  let c1_i32_884 : BitVec 32 := 1#32
  let v717 : BitVec 32 := Scalar.muli c3_i32_880 c1_i32_884
  let v718 : BitVec 32 := Scalar.addi v716 v717
  v718.toNat
def k0_dev161 (d0 : Dev nD) : Nat :=
  let c0_i32_912 : BitVec 32 := 0#32
  let c0_i32_909 : BitVec 32 := 0#32
  let c8_i32_911 : BitVec 32 := 8#32
  let v739 : BitVec 32 := Scalar.muli c0_i32_909 c8_i32_911
  let v740 : BitVec 32 := Scalar.addi c0_i32_912 v739
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_913 : BitVec 32 := 4#32
  let v741 : BitVec 32 := Scalar.muli v5 c4_i32_913
  let v742 : BitVec 32 := Scalar.addi v740 v741
  let c3_i32_910 : BitVec 32 := 3#32
  let c1_i32_914 : BitVec 32 := 1#32
  let v743 : BitVec 32 := Scalar.muli c3_i32_910 c1_i32_914
  let v744 : BitVec 32 := Scalar.addi v742 v743
  v744.toNat
def k0_dev162 (d0 : Dev nD) : Nat :=
  let c0_i32_942 : BitVec 32 := 0#32
  let c1_i32_939 : BitVec 32 := 1#32
  let c8_i32_941 : BitVec 32 := 8#32
  let v765 : BitVec 32 := Scalar.muli c1_i32_939 c8_i32_941
  let v766 : BitVec 32 := Scalar.addi c0_i32_942 v765
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_943 : BitVec 32 := 4#32
  let v767 : BitVec 32 := Scalar.muli v5 c4_i32_943
  let v768 : BitVec 32 := Scalar.addi v766 v767
  let c2_i32_940 : BitVec 32 := 2#32
  let c1_i32_944 : BitVec 32 := 1#32
  let v769 : BitVec 32 := Scalar.muli c2_i32_940 c1_i32_944
  let v770 : BitVec 32 := Scalar.addi v768 v769
  v770.toNat
def k0_dev163 (d0 : Dev nD) : Nat :=
  let c0_i32_954 : BitVec 32 := 0#32
  let c0_i32_951 : BitVec 32 := 0#32
  let c8_i32_953 : BitVec 32 := 8#32
  let v777 : BitVec 32 := Scalar.muli c0_i32_951 c8_i32_953
  let v778 : BitVec 32 := Scalar.addi c0_i32_954 v777
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_955 : BitVec 32 := 4#32
  let v779 : BitVec 32 := Scalar.muli v5 c4_i32_955
  let v780 : BitVec 32 := Scalar.addi v778 v779
  let c3_i32_952 : BitVec 32 := 3#32
  let c1_i32_956 : BitVec 32 := 1#32
  let v781 : BitVec 32 := Scalar.muli c3_i32_952 c1_i32_956
  let v782 : BitVec 32 := Scalar.addi v780 v781
  v782.toNat
def k0_dev164 (d0 : Dev nD) : Nat :=
  let c0_i32_984 : BitVec 32 := 0#32
  let c0_i32_981 : BitVec 32 := 0#32
  let c8_i32_983 : BitVec 32 := 8#32
  let v803 : BitVec 32 := Scalar.muli c0_i32_981 c8_i32_983
  let v804 : BitVec 32 := Scalar.addi c0_i32_984 v803
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_985 : BitVec 32 := 4#32
  let v805 : BitVec 32 := Scalar.muli v5 c4_i32_985
  let v806 : BitVec 32 := Scalar.addi v804 v805
  let c3_i32_982 : BitVec 32 := 3#32
  let c1_i32_986 : BitVec 32 := 1#32
  let v807 : BitVec 32 := Scalar.muli c3_i32_982 c1_i32_986
  let v808 : BitVec 32 := Scalar.addi v806 v807
  v808.toNat
def k0_dev165 (d0 : Dev nD) : Nat :=
  let c0_i32_1014 : BitVec 32 := 0#32
  let c0_i32_1011 : BitVec 32 := 0#32
  let c8_i32_1013 : BitVec 32 := 8#32
  let v829 : BitVec 32 := Scalar.muli c0_i32_1011 c8_i32_1013
  let v830 : BitVec 32 := Scalar.addi c0_i32_1014 v829
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1015 : BitVec 32 := 4#32
  let v831 : BitVec 32 := Scalar.muli v5 c4_i32_1015
  let v832 : BitVec 32 := Scalar.addi v830 v831
  let c3_i32_1012 : BitVec 32 := 3#32
  let c1_i32_1016 : BitVec 32 := 1#32
  let v833 : BitVec 32 := Scalar.muli c3_i32_1012 c1_i32_1016
  let v834 : BitVec 32 := Scalar.addi v832 v833
  v834.toNat
def k0_dev166 (d0 : Dev nD) : Nat :=
  let c0_i32_1044 : BitVec 32 := 0#32
  let c0_i32_1041 : BitVec 32 := 0#32
  let c8_i32_1043 : BitVec 32 := 8#32
  let v855 : BitVec 32 := Scalar.muli c0_i32_1041 c8_i32_1043
  let v856 : BitVec 32 := Scalar.addi c0_i32_1044 v855
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1045 : BitVec 32 := 4#32
  let v857 : BitVec 32 := Scalar.muli v5 c4_i32_1045
  let v858 : BitVec 32 := Scalar.addi v856 v857
  let c3_i32_1042 : BitVec 32 := 3#32
  let c1_i32_1046 : BitVec 32 := 1#32
  let v859 : BitVec 32 := Scalar.muli c3_i32_1042 c1_i32_1046
  let v860 : BitVec 32 := Scalar.addi v858 v859
  v860.toNat
def k0_dev167 (d0 : Dev nD) : Nat :=
  let c0_i32_1074 : BitVec 32 := 0#32
  let c0_i32_1071 : BitVec 32 := 0#32
  let c8_i32_1073 : BitVec 32 := 8#32
  let v881 : BitVec 32 := Scalar.muli c0_i32_1071 c8_i32_1073
  let v882 : BitVec 32 := Scalar.addi c0_i32_1074 v881
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1075 : BitVec 32 := 4#32
  let v883 : BitVec 32 := Scalar.muli v5 c4_i32_1075
  let v884 : BitVec 32 := Scalar.addi v882 v883
  let c1_i32_1072 : BitVec 32 := 1#32
  let c1_i32_1076 : BitVec 32 := 1#32
  let v885 : BitVec 32 := Scalar.muli c1_i32_1072 c1_i32_1076
  let v886 : BitVec 32 := Scalar.addi v884 v885
  v886.toNat
def k0_dev168 (d0 : Dev nD) : Nat :=
  let c0_i32_1104 : BitVec 32 := 0#32
  let c0_i32_1101 : BitVec 32 := 0#32
  let c8_i32_1103 : BitVec 32 := 8#32
  let v907 : BitVec 32 := Scalar.muli c0_i32_1101 c8_i32_1103
  let v908 : BitVec 32 := Scalar.addi c0_i32_1104 v907
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1105 : BitVec 32 := 4#32
  let v909 : BitVec 32 := Scalar.muli v5 c4_i32_1105
  let v910 : BitVec 32 := Scalar.addi v908 v909
  let c1_i32_1102 : BitVec 32 := 1#32
  let c1_i32_1106 : BitVec 32 := 1#32
  let v911 : BitVec 32 := Scalar.muli c1_i32_1102 c1_i32_1106
  let v912 : BitVec 32 := Scalar.addi v910 v911
  v912.toNat
def k0_dev169 (d0 : Dev nD) : Nat :=
  let c0_i32_1134 : BitVec 32 := 0#32
  let c0_i32_1131 : BitVec 32 := 0#32
  let c8_i32_1133 : BitVec 32 := 8#32
  let v933 : BitVec 32 := Scalar.muli c0_i32_1131 c8_i32_1133
  let v934 : BitVec 32 := Scalar.addi c0_i32_1134 v933
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1135 : BitVec 32 := 4#32
  let v935 : BitVec 32 := Scalar.muli v5 c4_i32_1135
  let v936 : BitVec 32 := Scalar.addi v934 v935
  let c1_i32_1132 : BitVec 32 := 1#32
  let c1_i32_1136 : BitVec 32 := 1#32
  let v937 : BitVec 32 := Scalar.muli c1_i32_1132 c1_i32_1136
  let v938 : BitVec 32 := Scalar.addi v936 v937
  v938.toNat
def k0_dev170 (d0 : Dev nD) : Nat :=
  let c0_i32_1182 : BitVec 32 := 0#32
  let c0_i32_1179 : BitVec 32 := 0#32
  let c8_i32_1181 : BitVec 32 := 8#32
  let v973 : BitVec 32 := Scalar.muli c0_i32_1179 c8_i32_1181
  let v974 : BitVec 32 := Scalar.addi c0_i32_1182 v973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1183 : BitVec 32 := 4#32
  let v975 : BitVec 32 := Scalar.muli v5 c4_i32_1183
  let v976 : BitVec 32 := Scalar.addi v974 v975
  let c1_i32_1180 : BitVec 32 := 1#32
  let c1_i32_1184 : BitVec 32 := 1#32
  let v977 : BitVec 32 := Scalar.muli c1_i32_1180 c1_i32_1184
  let v978 : BitVec 32 := Scalar.addi v976 v977
  v978.toNat
def k0_dev171 (d0 : Dev nD) : Nat :=
  let c0_i32_1230 : BitVec 32 := 0#32
  let c0_i32_1227 : BitVec 32 := 0#32
  let c8_i32_1229 : BitVec 32 := 8#32
  let v1013 : BitVec 32 := Scalar.muli c0_i32_1227 c8_i32_1229
  let v1014 : BitVec 32 := Scalar.addi c0_i32_1230 v1013
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1231 : BitVec 32 := 4#32
  let v1015 : BitVec 32 := Scalar.muli v5 c4_i32_1231
  let v1016 : BitVec 32 := Scalar.addi v1014 v1015
  let c1_i32_1228 : BitVec 32 := 1#32
  let c1_i32_1232 : BitVec 32 := 1#32
  let v1017 : BitVec 32 := Scalar.muli c1_i32_1228 c1_i32_1232
  let v1018 : BitVec 32 := Scalar.addi v1016 v1017
  v1018.toNat
def k0_dev172 (d0 : Dev nD) : Nat :=
  let c0_i32_1278 : BitVec 32 := 0#32
  let c0_i32_1275 : BitVec 32 := 0#32
  let c8_i32_1277 : BitVec 32 := 8#32
  let v1053 : BitVec 32 := Scalar.muli c0_i32_1275 c8_i32_1277
  let v1054 : BitVec 32 := Scalar.addi c0_i32_1278 v1053
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1279 : BitVec 32 := 4#32
  let v1055 : BitVec 32 := Scalar.muli v5 c4_i32_1279
  let v1056 : BitVec 32 := Scalar.addi v1054 v1055
  let c1_i32_1276 : BitVec 32 := 1#32
  let c1_i32_1280 : BitVec 32 := 1#32
  let v1057 : BitVec 32 := Scalar.muli c1_i32_1276 c1_i32_1280
  let v1058 : BitVec 32 := Scalar.addi v1056 v1057
  v1058.toNat
def k0_dev173 (d0 : Dev nD) : Nat :=
  let c0_i32_1326 : BitVec 32 := 0#32
  let c0_i32_1323 : BitVec 32 := 0#32
  let c8_i32_1325 : BitVec 32 := 8#32
  let v1093 : BitVec 32 := Scalar.muli c0_i32_1323 c8_i32_1325
  let v1094 : BitVec 32 := Scalar.addi c0_i32_1326 v1093
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1327 : BitVec 32 := 4#32
  let v1095 : BitVec 32 := Scalar.muli v5 c4_i32_1327
  let v1096 : BitVec 32 := Scalar.addi v1094 v1095
  let c1_i32_1324 : BitVec 32 := 1#32
  let c1_i32_1328 : BitVec 32 := 1#32
  let v1097 : BitVec 32 := Scalar.muli c1_i32_1324 c1_i32_1328
  let v1098 : BitVec 32 := Scalar.addi v1096 v1097
  v1098.toNat
def k0_dev174 (d0 : Dev nD) : Nat :=
  let c0_i32_1374 : BitVec 32 := 0#32
  let c0_i32_1371 : BitVec 32 := 0#32
  let c8_i32_1373 : BitVec 32 := 8#32
  let v1133 : BitVec 32 := Scalar.muli c0_i32_1371 c8_i32_1373
  let v1134 : BitVec 32 := Scalar.addi c0_i32_1374 v1133
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1375 : BitVec 32 := 4#32
  let v1135 : BitVec 32 := Scalar.muli v5 c4_i32_1375
  let v1136 : BitVec 32 := Scalar.addi v1134 v1135
  let c1_i32_1372 : BitVec 32 := 1#32
  let c1_i32_1376 : BitVec 32 := 1#32
  let v1137 : BitVec 32 := Scalar.muli c1_i32_1372 c1_i32_1376
  let v1138 : BitVec 32 := Scalar.addi v1136 v1137
  v1138.toNat
def k0_dev175 (d0 : Dev nD) : Nat :=
  let c0_i32_1422 : BitVec 32 := 0#32
  let c0_i32_1419 : BitVec 32 := 0#32
  let c8_i32_1421 : BitVec 32 := 8#32
  let v1173 : BitVec 32 := Scalar.muli c0_i32_1419 c8_i32_1421
  let v1174 : BitVec 32 := Scalar.addi c0_i32_1422 v1173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1423 : BitVec 32 := 4#32
  let v1175 : BitVec 32 := Scalar.muli v5 c4_i32_1423
  let v1176 : BitVec 32 := Scalar.addi v1174 v1175
  let c1_i32_1420 : BitVec 32 := 1#32
  let c1_i32_1424 : BitVec 32 := 1#32
  let v1177 : BitVec 32 := Scalar.muli c1_i32_1420 c1_i32_1424
  let v1178 : BitVec 32 := Scalar.addi v1176 v1177
  v1178.toNat
def k0_dev176 (d0 : Dev nD) : Nat :=
  let c0_i32_1470 : BitVec 32 := 0#32
  let c0_i32_1467 : BitVec 32 := 0#32
  let c8_i32_1469 : BitVec 32 := 8#32
  let v1213 : BitVec 32 := Scalar.muli c0_i32_1467 c8_i32_1469
  let v1214 : BitVec 32 := Scalar.addi c0_i32_1470 v1213
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1471 : BitVec 32 := 4#32
  let v1215 : BitVec 32 := Scalar.muli v5 c4_i32_1471
  let v1216 : BitVec 32 := Scalar.addi v1214 v1215
  let c1_i32_1468 : BitVec 32 := 1#32
  let c1_i32_1472 : BitVec 32 := 1#32
  let v1217 : BitVec 32 := Scalar.muli c1_i32_1468 c1_i32_1472
  let v1218 : BitVec 32 := Scalar.addi v1216 v1217
  v1218.toNat
def k0_dev177 (d0 : Dev nD) : Nat :=
  let c0_i32_1518 : BitVec 32 := 0#32
  let c0_i32_1515 : BitVec 32 := 0#32
  let c8_i32_1517 : BitVec 32 := 8#32
  let v1253 : BitVec 32 := Scalar.muli c0_i32_1515 c8_i32_1517
  let v1254 : BitVec 32 := Scalar.addi c0_i32_1518 v1253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1519 : BitVec 32 := 4#32
  let v1255 : BitVec 32 := Scalar.muli v5 c4_i32_1519
  let v1256 : BitVec 32 := Scalar.addi v1254 v1255
  let c1_i32_1516 : BitVec 32 := 1#32
  let c1_i32_1520 : BitVec 32 := 1#32
  let v1257 : BitVec 32 := Scalar.muli c1_i32_1516 c1_i32_1520
  let v1258 : BitVec 32 := Scalar.addi v1256 v1257
  v1258.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_278 : BitVec 32 := 2#32
  let v163 : BitVec 1 := Scalar.cmpi .eq v8 c2_i32_278
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_279 : BitVec 32 := 1#32
  let v164 : BitVec 1 := Scalar.cmpi .eq v2 c1_i32_279
  let v165 : BitVec 1 := Scalar.andi v163 v164
  let v166 : BitVec 32 := Scalar.extui v165
  let c0_i32_312 : BitVec 32 := 0#32
  let v167 : BitVec 1 := Scalar.cmpi .ne v166 c0_i32_312
  v167

def k0_dev178 (d0 : Dev nD) : Nat :=
  let c0_i32_388 : BitVec 32 := 0#32
  let c1_i32_385 : BitVec 32 := 1#32
  let c8_i32_387 : BitVec 32 := 8#32
  let v179 : BitVec 32 := Scalar.muli c1_i32_385 c8_i32_387
  let v180 : BitVec 32 := Scalar.addi c0_i32_388 v179
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_389 : BitVec 32 := 4#32
  let v181 : BitVec 32 := Scalar.muli v178 c4_i32_389
  let v182 : BitVec 32 := Scalar.addi v180 v181
  let c2_i32_386 : BitVec 32 := 2#32
  let c1_i32_390 : BitVec 32 := 1#32
  let v183 : BitVec 32 := Scalar.muli c2_i32_386 c1_i32_390
  let v184 : BitVec 32 := Scalar.addi v182 v183
  v184.toNat
def k0_dev179 (d0 : Dev nD) : Nat :=
  let c0_i32_395 : BitVec 32 := 0#32
  let c0_i32_392 : BitVec 32 := 0#32
  let c8_i32_394 : BitVec 32 := 8#32
  let v185 : BitVec 32 := Scalar.muli c0_i32_392 c8_i32_394
  let v186 : BitVec 32 := Scalar.addi c0_i32_395 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v187 : BitVec 32 := Scalar.muli v5 c4_i32_396
  let v188 : BitVec 32 := Scalar.addi v186 v187
  let c2_i32_393 : BitVec 32 := 2#32
  let c1_i32_397 : BitVec 32 := 1#32
  let v189 : BitVec 32 := Scalar.muli c2_i32_393 c1_i32_397
  let v190 : BitVec 32 := Scalar.addi v188 v189
  v190.toNat
def k0_dev180 (d0 : Dev nD) : Nat :=
  let c0_i32_402 : BitVec 32 := 0#32
  let c1_i32_399 : BitVec 32 := 1#32
  let c8_i32_401 : BitVec 32 := 8#32
  let v191 : BitVec 32 := Scalar.muli c1_i32_399 c8_i32_401
  let v192 : BitVec 32 := Scalar.addi c0_i32_402 v191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v193 : BitVec 32 := Scalar.muli v5 c4_i32_403
  let v194 : BitVec 32 := Scalar.addi v192 v193
  let c3_i32_400 : BitVec 32 := 3#32
  let c1_i32_404 : BitVec 32 := 1#32
  let v195 : BitVec 32 := Scalar.muli c3_i32_400 c1_i32_404
  let v196 : BitVec 32 := Scalar.addi v194 v195
  v196.toNat
def k0_dev181 (d0 : Dev nD) : Nat :=
  let c0_i32_409 : BitVec 32 := 0#32
  let c1_i32_406 : BitVec 32 := 1#32
  let c8_i32_408 : BitVec 32 := 8#32
  let v197 : BitVec 32 := Scalar.muli c1_i32_406 c8_i32_408
  let v198 : BitVec 32 := Scalar.addi c0_i32_409 v197
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_410 : BitVec 32 := 4#32
  let v199 : BitVec 32 := Scalar.muli v5 c4_i32_410
  let v200 : BitVec 32 := Scalar.addi v198 v199
  let c1_i32_407 : BitVec 32 := 1#32
  let c1_i32_411 : BitVec 32 := 1#32
  let v201 : BitVec 32 := Scalar.muli c1_i32_407 c1_i32_411
  let v202 : BitVec 32 := Scalar.addi v200 v201
  v202.toNat
def k0_dev182 (d0 : Dev nD) : Nat :=
  let c0_i32_446 : BitVec 32 := 0#32
  let c1_i32_443 : BitVec 32 := 1#32
  let c8_i32_445 : BitVec 32 := 8#32
  let v239 : BitVec 32 := Scalar.muli c1_i32_443 c8_i32_445
  let v240 : BitVec 32 := Scalar.addi c0_i32_446 v239
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_447 : BitVec 32 := 4#32
  let v241 : BitVec 32 := Scalar.muli v178 c4_i32_447
  let v242 : BitVec 32 := Scalar.addi v240 v241
  let c2_i32_444 : BitVec 32 := 2#32
  let c1_i32_448 : BitVec 32 := 1#32
  let v243 : BitVec 32 := Scalar.muli c2_i32_444 c1_i32_448
  let v244 : BitVec 32 := Scalar.addi v242 v243
  v244.toNat
def k0_dev183 (d0 : Dev nD) : Nat :=
  let c0_i32_486 : BitVec 32 := 0#32
  let c1_i32_483 : BitVec 32 := 1#32
  let c8_i32_485 : BitVec 32 := 8#32
  let v287 : BitVec 32 := Scalar.muli c1_i32_483 c8_i32_485
  let v288 : BitVec 32 := Scalar.addi c0_i32_486 v287
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_487 : BitVec 32 := 4#32
  let v289 : BitVec 32 := Scalar.muli v178 c4_i32_487
  let v290 : BitVec 32 := Scalar.addi v288 v289
  let c2_i32_484 : BitVec 32 := 2#32
  let c1_i32_488 : BitVec 32 := 1#32
  let v291 : BitVec 32 := Scalar.muli c2_i32_484 c1_i32_488
  let v292 : BitVec 32 := Scalar.addi v290 v291
  v292.toNat
def k0_dev184 (d0 : Dev nD) : Nat :=
  let c0_i32_526 : BitVec 32 := 0#32
  let c1_i32_523 : BitVec 32 := 1#32
  let c8_i32_525 : BitVec 32 := 8#32
  let v335 : BitVec 32 := Scalar.muli c1_i32_523 c8_i32_525
  let v336 : BitVec 32 := Scalar.addi c0_i32_526 v335
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_527 : BitVec 32 := 4#32
  let v337 : BitVec 32 := Scalar.muli v178 c4_i32_527
  let v338 : BitVec 32 := Scalar.addi v336 v337
  let c2_i32_524 : BitVec 32 := 2#32
  let c1_i32_528 : BitVec 32 := 1#32
  let v339 : BitVec 32 := Scalar.muli c2_i32_524 c1_i32_528
  let v340 : BitVec 32 := Scalar.addi v338 v339
  v340.toNat
def k0_dev185 (d0 : Dev nD) : Nat :=
  let c0_i32_566 : BitVec 32 := 0#32
  let c1_i32_563 : BitVec 32 := 1#32
  let c8_i32_565 : BitVec 32 := 8#32
  let v383 : BitVec 32 := Scalar.muli c1_i32_563 c8_i32_565
  let v384 : BitVec 32 := Scalar.addi c0_i32_566 v383
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_567 : BitVec 32 := 4#32
  let v385 : BitVec 32 := Scalar.muli v178 c4_i32_567
  let v386 : BitVec 32 := Scalar.addi v384 v385
  let c2_i32_564 : BitVec 32 := 2#32
  let c1_i32_568 : BitVec 32 := 1#32
  let v387 : BitVec 32 := Scalar.muli c2_i32_564 c1_i32_568
  let v388 : BitVec 32 := Scalar.addi v386 v387
  v388.toNat
def k0_dev186 (d0 : Dev nD) : Nat :=
  let c0_i32_606 : BitVec 32 := 0#32
  let c1_i32_603 : BitVec 32 := 1#32
  let c8_i32_605 : BitVec 32 := 8#32
  let v431 : BitVec 32 := Scalar.muli c1_i32_603 c8_i32_605
  let v432 : BitVec 32 := Scalar.addi c0_i32_606 v431
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_607 : BitVec 32 := 4#32
  let v433 : BitVec 32 := Scalar.muli v178 c4_i32_607
  let v434 : BitVec 32 := Scalar.addi v432 v433
  let c2_i32_604 : BitVec 32 := 2#32
  let c1_i32_608 : BitVec 32 := 1#32
  let v435 : BitVec 32 := Scalar.muli c2_i32_604 c1_i32_608
  let v436 : BitVec 32 := Scalar.addi v434 v435
  v436.toNat
def k0_dev187 (d0 : Dev nD) : Nat :=
  let c0_i32_714 : BitVec 32 := 0#32
  let c0_i32_711 : BitVec 32 := 0#32
  let c8_i32_713 : BitVec 32 := 8#32
  let v561 : BitVec 32 := Scalar.muli c0_i32_711 c8_i32_713
  let v562 : BitVec 32 := Scalar.addi c0_i32_714 v561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_715 : BitVec 32 := 4#32
  let v563 : BitVec 32 := Scalar.muli v5 c4_i32_715
  let v564 : BitVec 32 := Scalar.addi v562 v563
  let c2_i32_712 : BitVec 32 := 2#32
  let c1_i32_716 : BitVec 32 := 1#32
  let v565 : BitVec 32 := Scalar.muli c2_i32_712 c1_i32_716
  let v566 : BitVec 32 := Scalar.addi v564 v565
  v566.toNat
def k0_dev188 (d0 : Dev nD) : Nat :=
  let c0_i32_726 : BitVec 32 := 0#32
  let c1_i32_723 : BitVec 32 := 1#32
  let c8_i32_725 : BitVec 32 := 8#32
  let v573 : BitVec 32 := Scalar.muli c1_i32_723 c8_i32_725
  let v574 : BitVec 32 := Scalar.addi c0_i32_726 v573
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_727 : BitVec 32 := 4#32
  let v575 : BitVec 32 := Scalar.muli v5 c4_i32_727
  let v576 : BitVec 32 := Scalar.addi v574 v575
  let c3_i32_724 : BitVec 32 := 3#32
  let c1_i32_728 : BitVec 32 := 1#32
  let v577 : BitVec 32 := Scalar.muli c3_i32_724 c1_i32_728
  let v578 : BitVec 32 := Scalar.addi v576 v577
  v578.toNat
def k0_dev189 (d0 : Dev nD) : Nat :=
  let c0_i32_756 : BitVec 32 := 0#32
  let c0_i32_753 : BitVec 32 := 0#32
  let c8_i32_755 : BitVec 32 := 8#32
  let v599 : BitVec 32 := Scalar.muli c0_i32_753 c8_i32_755
  let v600 : BitVec 32 := Scalar.addi c0_i32_756 v599
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_757 : BitVec 32 := 4#32
  let v601 : BitVec 32 := Scalar.muli v5 c4_i32_757
  let v602 : BitVec 32 := Scalar.addi v600 v601
  let c2_i32_754 : BitVec 32 := 2#32
  let c1_i32_758 : BitVec 32 := 1#32
  let v603 : BitVec 32 := Scalar.muli c2_i32_754 c1_i32_758
  let v604 : BitVec 32 := Scalar.addi v602 v603
  v604.toNat
def k0_dev190 (d0 : Dev nD) : Nat :=
  let c0_i32_768 : BitVec 32 := 0#32
  let c1_i32_765 : BitVec 32 := 1#32
  let c8_i32_767 : BitVec 32 := 8#32
  let v611 : BitVec 32 := Scalar.muli c1_i32_765 c8_i32_767
  let v612 : BitVec 32 := Scalar.addi c0_i32_768 v611
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_769 : BitVec 32 := 4#32
  let v613 : BitVec 32 := Scalar.muli v5 c4_i32_769
  let v614 : BitVec 32 := Scalar.addi v612 v613
  let c3_i32_766 : BitVec 32 := 3#32
  let c1_i32_770 : BitVec 32 := 1#32
  let v615 : BitVec 32 := Scalar.muli c3_i32_766 c1_i32_770
  let v616 : BitVec 32 := Scalar.addi v614 v615
  v616.toNat
def k0_dev191 (d0 : Dev nD) : Nat :=
  let c0_i32_798 : BitVec 32 := 0#32
  let c0_i32_795 : BitVec 32 := 0#32
  let c8_i32_797 : BitVec 32 := 8#32
  let v637 : BitVec 32 := Scalar.muli c0_i32_795 c8_i32_797
  let v638 : BitVec 32 := Scalar.addi c0_i32_798 v637
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_799 : BitVec 32 := 4#32
  let v639 : BitVec 32 := Scalar.muli v5 c4_i32_799
  let v640 : BitVec 32 := Scalar.addi v638 v639
  let c2_i32_796 : BitVec 32 := 2#32
  let c1_i32_800 : BitVec 32 := 1#32
  let v641 : BitVec 32 := Scalar.muli c2_i32_796 c1_i32_800
  let v642 : BitVec 32 := Scalar.addi v640 v641
  v642.toNat
def k0_dev192 (d0 : Dev nD) : Nat :=
  let c0_i32_810 : BitVec 32 := 0#32
  let c1_i32_807 : BitVec 32 := 1#32
  let c8_i32_809 : BitVec 32 := 8#32
  let v649 : BitVec 32 := Scalar.muli c1_i32_807 c8_i32_809
  let v650 : BitVec 32 := Scalar.addi c0_i32_810 v649
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_811 : BitVec 32 := 4#32
  let v651 : BitVec 32 := Scalar.muli v5 c4_i32_811
  let v652 : BitVec 32 := Scalar.addi v650 v651
  let c3_i32_808 : BitVec 32 := 3#32
  let c1_i32_812 : BitVec 32 := 1#32
  let v653 : BitVec 32 := Scalar.muli c3_i32_808 c1_i32_812
  let v654 : BitVec 32 := Scalar.addi v652 v653
  v654.toNat
def k0_dev193 (d0 : Dev nD) : Nat :=
  let c0_i32_840 : BitVec 32 := 0#32
  let c1_i32_837 : BitVec 32 := 1#32
  let c8_i32_839 : BitVec 32 := 8#32
  let v675 : BitVec 32 := Scalar.muli c1_i32_837 c8_i32_839
  let v676 : BitVec 32 := Scalar.addi c0_i32_840 v675
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_841 : BitVec 32 := 4#32
  let v677 : BitVec 32 := Scalar.muli v5 c4_i32_841
  let v678 : BitVec 32 := Scalar.addi v676 v677
  let c3_i32_838 : BitVec 32 := 3#32
  let c1_i32_842 : BitVec 32 := 1#32
  let v679 : BitVec 32 := Scalar.muli c3_i32_838 c1_i32_842
  let v680 : BitVec 32 := Scalar.addi v678 v679
  v680.toNat
def k0_dev194 (d0 : Dev nD) : Nat :=
  let c0_i32_870 : BitVec 32 := 0#32
  let c0_i32_867 : BitVec 32 := 0#32
  let c8_i32_869 : BitVec 32 := 8#32
  let v701 : BitVec 32 := Scalar.muli c0_i32_867 c8_i32_869
  let v702 : BitVec 32 := Scalar.addi c0_i32_870 v701
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_871 : BitVec 32 := 4#32
  let v703 : BitVec 32 := Scalar.muli v5 c4_i32_871
  let v704 : BitVec 32 := Scalar.addi v702 v703
  let c2_i32_868 : BitVec 32 := 2#32
  let c1_i32_872 : BitVec 32 := 1#32
  let v705 : BitVec 32 := Scalar.muli c2_i32_868 c1_i32_872
  let v706 : BitVec 32 := Scalar.addi v704 v705
  v706.toNat
def k0_dev195 (d0 : Dev nD) : Nat :=
  let c0_i32_882 : BitVec 32 := 0#32
  let c1_i32_879 : BitVec 32 := 1#32
  let c8_i32_881 : BitVec 32 := 8#32
  let v713 : BitVec 32 := Scalar.muli c1_i32_879 c8_i32_881
  let v714 : BitVec 32 := Scalar.addi c0_i32_882 v713
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_883 : BitVec 32 := 4#32
  let v715 : BitVec 32 := Scalar.muli v5 c4_i32_883
  let v716 : BitVec 32 := Scalar.addi v714 v715
  let c3_i32_880 : BitVec 32 := 3#32
  let c1_i32_884 : BitVec 32 := 1#32
  let v717 : BitVec 32 := Scalar.muli c3_i32_880 c1_i32_884
  let v718 : BitVec 32 := Scalar.addi v716 v717
  v718.toNat
def k0_dev196 (d0 : Dev nD) : Nat :=
  let c0_i32_912 : BitVec 32 := 0#32
  let c1_i32_909 : BitVec 32 := 1#32
  let c8_i32_911 : BitVec 32 := 8#32
  let v739 : BitVec 32 := Scalar.muli c1_i32_909 c8_i32_911
  let v740 : BitVec 32 := Scalar.addi c0_i32_912 v739
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_913 : BitVec 32 := 4#32
  let v741 : BitVec 32 := Scalar.muli v5 c4_i32_913
  let v742 : BitVec 32 := Scalar.addi v740 v741
  let c3_i32_910 : BitVec 32 := 3#32
  let c1_i32_914 : BitVec 32 := 1#32
  let v743 : BitVec 32 := Scalar.muli c3_i32_910 c1_i32_914
  let v744 : BitVec 32 := Scalar.addi v742 v743
  v744.toNat
def k0_dev197 (d0 : Dev nD) : Nat :=
  let c0_i32_942 : BitVec 32 := 0#32
  let c0_i32_939 : BitVec 32 := 0#32
  let c8_i32_941 : BitVec 32 := 8#32
  let v765 : BitVec 32 := Scalar.muli c0_i32_939 c8_i32_941
  let v766 : BitVec 32 := Scalar.addi c0_i32_942 v765
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_943 : BitVec 32 := 4#32
  let v767 : BitVec 32 := Scalar.muli v5 c4_i32_943
  let v768 : BitVec 32 := Scalar.addi v766 v767
  let c2_i32_940 : BitVec 32 := 2#32
  let c1_i32_944 : BitVec 32 := 1#32
  let v769 : BitVec 32 := Scalar.muli c2_i32_940 c1_i32_944
  let v770 : BitVec 32 := Scalar.addi v768 v769
  v770.toNat
def k0_dev198 (d0 : Dev nD) : Nat :=
  let c0_i32_954 : BitVec 32 := 0#32
  let c1_i32_951 : BitVec 32 := 1#32
  let c8_i32_953 : BitVec 32 := 8#32
  let v777 : BitVec 32 := Scalar.muli c1_i32_951 c8_i32_953
  let v778 : BitVec 32 := Scalar.addi c0_i32_954 v777
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_955 : BitVec 32 := 4#32
  let v779 : BitVec 32 := Scalar.muli v5 c4_i32_955
  let v780 : BitVec 32 := Scalar.addi v778 v779
  let c3_i32_952 : BitVec 32 := 3#32
  let c1_i32_956 : BitVec 32 := 1#32
  let v781 : BitVec 32 := Scalar.muli c3_i32_952 c1_i32_956
  let v782 : BitVec 32 := Scalar.addi v780 v781
  v782.toNat
def k0_dev199 (d0 : Dev nD) : Nat :=
  let c0_i32_984 : BitVec 32 := 0#32
  let c1_i32_981 : BitVec 32 := 1#32
  let c8_i32_983 : BitVec 32 := 8#32
  let v803 : BitVec 32 := Scalar.muli c1_i32_981 c8_i32_983
  let v804 : BitVec 32 := Scalar.addi c0_i32_984 v803
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_985 : BitVec 32 := 4#32
  let v805 : BitVec 32 := Scalar.muli v5 c4_i32_985
  let v806 : BitVec 32 := Scalar.addi v804 v805
  let c3_i32_982 : BitVec 32 := 3#32
  let c1_i32_986 : BitVec 32 := 1#32
  let v807 : BitVec 32 := Scalar.muli c3_i32_982 c1_i32_986
  let v808 : BitVec 32 := Scalar.addi v806 v807
  v808.toNat
def k0_dev200 (d0 : Dev nD) : Nat :=
  let c0_i32_1014 : BitVec 32 := 0#32
  let c1_i32_1011 : BitVec 32 := 1#32
  let c8_i32_1013 : BitVec 32 := 8#32
  let v829 : BitVec 32 := Scalar.muli c1_i32_1011 c8_i32_1013
  let v830 : BitVec 32 := Scalar.addi c0_i32_1014 v829
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1015 : BitVec 32 := 4#32
  let v831 : BitVec 32 := Scalar.muli v5 c4_i32_1015
  let v832 : BitVec 32 := Scalar.addi v830 v831
  let c3_i32_1012 : BitVec 32 := 3#32
  let c1_i32_1016 : BitVec 32 := 1#32
  let v833 : BitVec 32 := Scalar.muli c3_i32_1012 c1_i32_1016
  let v834 : BitVec 32 := Scalar.addi v832 v833
  v834.toNat
def k0_dev201 (d0 : Dev nD) : Nat :=
  let c0_i32_1044 : BitVec 32 := 0#32
  let c1_i32_1041 : BitVec 32 := 1#32
  let c8_i32_1043 : BitVec 32 := 8#32
  let v855 : BitVec 32 := Scalar.muli c1_i32_1041 c8_i32_1043
  let v856 : BitVec 32 := Scalar.addi c0_i32_1044 v855
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1045 : BitVec 32 := 4#32
  let v857 : BitVec 32 := Scalar.muli v5 c4_i32_1045
  let v858 : BitVec 32 := Scalar.addi v856 v857
  let c3_i32_1042 : BitVec 32 := 3#32
  let c1_i32_1046 : BitVec 32 := 1#32
  let v859 : BitVec 32 := Scalar.muli c3_i32_1042 c1_i32_1046
  let v860 : BitVec 32 := Scalar.addi v858 v859
  v860.toNat
def k0_dev202 (d0 : Dev nD) : Nat :=
  let c0_i32_1074 : BitVec 32 := 0#32
  let c1_i32_1071 : BitVec 32 := 1#32
  let c8_i32_1073 : BitVec 32 := 8#32
  let v881 : BitVec 32 := Scalar.muli c1_i32_1071 c8_i32_1073
  let v882 : BitVec 32 := Scalar.addi c0_i32_1074 v881
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1075 : BitVec 32 := 4#32
  let v883 : BitVec 32 := Scalar.muli v5 c4_i32_1075
  let v884 : BitVec 32 := Scalar.addi v882 v883
  let c1_i32_1072 : BitVec 32 := 1#32
  let c1_i32_1076 : BitVec 32 := 1#32
  let v885 : BitVec 32 := Scalar.muli c1_i32_1072 c1_i32_1076
  let v886 : BitVec 32 := Scalar.addi v884 v885
  v886.toNat
def k0_dev203 (d0 : Dev nD) : Nat :=
  let c0_i32_1104 : BitVec 32 := 0#32
  let c1_i32_1101 : BitVec 32 := 1#32
  let c8_i32_1103 : BitVec 32 := 8#32
  let v907 : BitVec 32 := Scalar.muli c1_i32_1101 c8_i32_1103
  let v908 : BitVec 32 := Scalar.addi c0_i32_1104 v907
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1105 : BitVec 32 := 4#32
  let v909 : BitVec 32 := Scalar.muli v5 c4_i32_1105
  let v910 : BitVec 32 := Scalar.addi v908 v909
  let c1_i32_1102 : BitVec 32 := 1#32
  let c1_i32_1106 : BitVec 32 := 1#32
  let v911 : BitVec 32 := Scalar.muli c1_i32_1102 c1_i32_1106
  let v912 : BitVec 32 := Scalar.addi v910 v911
  v912.toNat
def k0_dev204 (d0 : Dev nD) : Nat :=
  let c0_i32_1134 : BitVec 32 := 0#32
  let c1_i32_1131 : BitVec 32 := 1#32
  let c8_i32_1133 : BitVec 32 := 8#32
  let v933 : BitVec 32 := Scalar.muli c1_i32_1131 c8_i32_1133
  let v934 : BitVec 32 := Scalar.addi c0_i32_1134 v933
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1135 : BitVec 32 := 4#32
  let v935 : BitVec 32 := Scalar.muli v5 c4_i32_1135
  let v936 : BitVec 32 := Scalar.addi v934 v935
  let c1_i32_1132 : BitVec 32 := 1#32
  let c1_i32_1136 : BitVec 32 := 1#32
  let v937 : BitVec 32 := Scalar.muli c1_i32_1132 c1_i32_1136
  let v938 : BitVec 32 := Scalar.addi v936 v937
  v938.toNat
def k0_dev205 (d0 : Dev nD) : Nat :=
  let c0_i32_1182 : BitVec 32 := 0#32
  let c1_i32_1179 : BitVec 32 := 1#32
  let c8_i32_1181 : BitVec 32 := 8#32
  let v973 : BitVec 32 := Scalar.muli c1_i32_1179 c8_i32_1181
  let v974 : BitVec 32 := Scalar.addi c0_i32_1182 v973
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1183 : BitVec 32 := 4#32
  let v975 : BitVec 32 := Scalar.muli v5 c4_i32_1183
  let v976 : BitVec 32 := Scalar.addi v974 v975
  let c1_i32_1180 : BitVec 32 := 1#32
  let c1_i32_1184 : BitVec 32 := 1#32
  let v977 : BitVec 32 := Scalar.muli c1_i32_1180 c1_i32_1184
  let v978 : BitVec 32 := Scalar.addi v976 v977
  v978.toNat
def k0_dev206 (d0 : Dev nD) : Nat :=
  let c0_i32_1230 : BitVec 32 := 0#32
  let c1_i32_1227 : BitVec 32 := 1#32
  let c8_i32_1229 : BitVec 32 := 8#32
  let v1013 : BitVec 32 := Scalar.muli c1_i32_1227 c8_i32_1229
  let v1014 : BitVec 32 := Scalar.addi c0_i32_1230 v1013
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1231 : BitVec 32 := 4#32
  let v1015 : BitVec 32 := Scalar.muli v5 c4_i32_1231
  let v1016 : BitVec 32 := Scalar.addi v1014 v1015
  let c1_i32_1228 : BitVec 32 := 1#32
  let c1_i32_1232 : BitVec 32 := 1#32
  let v1017 : BitVec 32 := Scalar.muli c1_i32_1228 c1_i32_1232
  let v1018 : BitVec 32 := Scalar.addi v1016 v1017
  v1018.toNat
def k0_dev207 (d0 : Dev nD) : Nat :=
  let c0_i32_1278 : BitVec 32 := 0#32
  let c1_i32_1275 : BitVec 32 := 1#32
  let c8_i32_1277 : BitVec 32 := 8#32
  let v1053 : BitVec 32 := Scalar.muli c1_i32_1275 c8_i32_1277
  let v1054 : BitVec 32 := Scalar.addi c0_i32_1278 v1053
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1279 : BitVec 32 := 4#32
  let v1055 : BitVec 32 := Scalar.muli v5 c4_i32_1279
  let v1056 : BitVec 32 := Scalar.addi v1054 v1055
  let c1_i32_1276 : BitVec 32 := 1#32
  let c1_i32_1280 : BitVec 32 := 1#32
  let v1057 : BitVec 32 := Scalar.muli c1_i32_1276 c1_i32_1280
  let v1058 : BitVec 32 := Scalar.addi v1056 v1057
  v1058.toNat
def k0_dev208 (d0 : Dev nD) : Nat :=
  let c0_i32_1326 : BitVec 32 := 0#32
  let c1_i32_1323 : BitVec 32 := 1#32
  let c8_i32_1325 : BitVec 32 := 8#32
  let v1093 : BitVec 32 := Scalar.muli c1_i32_1323 c8_i32_1325
  let v1094 : BitVec 32 := Scalar.addi c0_i32_1326 v1093
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1327 : BitVec 32 := 4#32
  let v1095 : BitVec 32 := Scalar.muli v5 c4_i32_1327
  let v1096 : BitVec 32 := Scalar.addi v1094 v1095
  let c1_i32_1324 : BitVec 32 := 1#32
  let c1_i32_1328 : BitVec 32 := 1#32
  let v1097 : BitVec 32 := Scalar.muli c1_i32_1324 c1_i32_1328
  let v1098 : BitVec 32 := Scalar.addi v1096 v1097
  v1098.toNat
def k0_dev209 (d0 : Dev nD) : Nat :=
  let c0_i32_1374 : BitVec 32 := 0#32
  let c1_i32_1371 : BitVec 32 := 1#32
  let c8_i32_1373 : BitVec 32 := 8#32
  let v1133 : BitVec 32 := Scalar.muli c1_i32_1371 c8_i32_1373
  let v1134 : BitVec 32 := Scalar.addi c0_i32_1374 v1133
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1375 : BitVec 32 := 4#32
  let v1135 : BitVec 32 := Scalar.muli v5 c4_i32_1375
  let v1136 : BitVec 32 := Scalar.addi v1134 v1135
  let c1_i32_1372 : BitVec 32 := 1#32
  let c1_i32_1376 : BitVec 32 := 1#32
  let v1137 : BitVec 32 := Scalar.muli c1_i32_1372 c1_i32_1376
  let v1138 : BitVec 32 := Scalar.addi v1136 v1137
  v1138.toNat
def k0_dev210 (d0 : Dev nD) : Nat :=
  let c0_i32_1422 : BitVec 32 := 0#32
  let c1_i32_1419 : BitVec 32 := 1#32
  let c8_i32_1421 : BitVec 32 := 8#32
  let v1173 : BitVec 32 := Scalar.muli c1_i32_1419 c8_i32_1421
  let v1174 : BitVec 32 := Scalar.addi c0_i32_1422 v1173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1423 : BitVec 32 := 4#32
  let v1175 : BitVec 32 := Scalar.muli v5 c4_i32_1423
  let v1176 : BitVec 32 := Scalar.addi v1174 v1175
  let c1_i32_1420 : BitVec 32 := 1#32
  let c1_i32_1424 : BitVec 32 := 1#32
  let v1177 : BitVec 32 := Scalar.muli c1_i32_1420 c1_i32_1424
  let v1178 : BitVec 32 := Scalar.addi v1176 v1177
  v1178.toNat
def k0_dev211 (d0 : Dev nD) : Nat :=
  let c0_i32_1470 : BitVec 32 := 0#32
  let c1_i32_1467 : BitVec 32 := 1#32
  let c8_i32_1469 : BitVec 32 := 8#32
  let v1213 : BitVec 32 := Scalar.muli c1_i32_1467 c8_i32_1469
  let v1214 : BitVec 32 := Scalar.addi c0_i32_1470 v1213
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1471 : BitVec 32 := 4#32
  let v1215 : BitVec 32 := Scalar.muli v5 c4_i32_1471
  let v1216 : BitVec 32 := Scalar.addi v1214 v1215
  let c1_i32_1468 : BitVec 32 := 1#32
  let c1_i32_1472 : BitVec 32 := 1#32
  let v1217 : BitVec 32 := Scalar.muli c1_i32_1468 c1_i32_1472
  let v1218 : BitVec 32 := Scalar.addi v1216 v1217
  v1218.toNat
def k0_dev212 (d0 : Dev nD) : Nat :=
  let c0_i32_1518 : BitVec 32 := 0#32
  let c1_i32_1515 : BitVec 32 := 1#32
  let c8_i32_1517 : BitVec 32 := 8#32
  let v1253 : BitVec 32 := Scalar.muli c1_i32_1515 c8_i32_1517
  let v1254 : BitVec 32 := Scalar.addi c0_i32_1518 v1253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1519 : BitVec 32 := 4#32
  let v1255 : BitVec 32 := Scalar.muli v5 c4_i32_1519
  let v1256 : BitVec 32 := Scalar.addi v1254 v1255
  let c1_i32_1516 : BitVec 32 := 1#32
  let c1_i32_1520 : BitVec 32 := 1#32
  let v1257 : BitVec 32 := Scalar.muli c1_i32_1516 c1_i32_1520
  let v1258 : BitVec 32 := Scalar.addi v1256 v1257
  v1258.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_313 : BitVec 32 := 3#32
  let v168 : BitVec 1 := Scalar.cmpi .eq v8 c3_i32_313
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_314 : BitVec 32 := 0#32
  let v169 : BitVec 1 := Scalar.cmpi .eq v2 c0_i32_314
  let v170 : BitVec 1 := Scalar.andi v168 v169
  let v171 : BitVec 32 := Scalar.extui v170
  let c0_i32_347 : BitVec 32 := 0#32
  let v172 : BitVec 1 := Scalar.cmpi .ne v171 c0_i32_347
  v172

def k0_dev213 (d0 : Dev nD) : Nat :=
  let c0_i32_388 : BitVec 32 := 0#32
  let c0_i32_385 : BitVec 32 := 0#32
  let c8_i32_387 : BitVec 32 := 8#32
  let v179 : BitVec 32 := Scalar.muli c0_i32_385 c8_i32_387
  let v180 : BitVec 32 := Scalar.addi c0_i32_388 v179
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_389 : BitVec 32 := 4#32
  let v181 : BitVec 32 := Scalar.muli v178 c4_i32_389
  let v182 : BitVec 32 := Scalar.addi v180 v181
  let c3_i32_386 : BitVec 32 := 3#32
  let c1_i32_390 : BitVec 32 := 1#32
  let v183 : BitVec 32 := Scalar.muli c3_i32_386 c1_i32_390
  let v184 : BitVec 32 := Scalar.addi v182 v183
  v184.toNat
def k0_dev214 (d0 : Dev nD) : Nat :=
  let c0_i32_395 : BitVec 32 := 0#32
  let c1_i32_392 : BitVec 32 := 1#32
  let c8_i32_394 : BitVec 32 := 8#32
  let v185 : BitVec 32 := Scalar.muli c1_i32_392 c8_i32_394
  let v186 : BitVec 32 := Scalar.addi c0_i32_395 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v187 : BitVec 32 := Scalar.muli v5 c4_i32_396
  let v188 : BitVec 32 := Scalar.addi v186 v187
  let c3_i32_393 : BitVec 32 := 3#32
  let c1_i32_397 : BitVec 32 := 1#32
  let v189 : BitVec 32 := Scalar.muli c3_i32_393 c1_i32_397
  let v190 : BitVec 32 := Scalar.addi v188 v189
  v190.toNat
def k0_dev215 (d0 : Dev nD) : Nat :=
  let c0_i32_402 : BitVec 32 := 0#32
  let c0_i32_399 : BitVec 32 := 0#32
  let c8_i32_401 : BitVec 32 := 8#32
  let v191 : BitVec 32 := Scalar.muli c0_i32_399 c8_i32_401
  let v192 : BitVec 32 := Scalar.addi c0_i32_402 v191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v193 : BitVec 32 := Scalar.muli v5 c4_i32_403
  let v194 : BitVec 32 := Scalar.addi v192 v193
  let c2_i32_400 : BitVec 32 := 2#32
  let c1_i32_404 : BitVec 32 := 1#32
  let v195 : BitVec 32 := Scalar.muli c2_i32_400 c1_i32_404
  let v196 : BitVec 32 := Scalar.addi v194 v195
  v196.toNat
def k0_dev216 (d0 : Dev nD) : Nat :=
  let c0_i32_439 : BitVec 32 := 0#32
  let c0_i32_436 : BitVec 32 := 0#32
  let c8_i32_438 : BitVec 32 := 8#32
  let v233 : BitVec 32 := Scalar.muli c0_i32_436 c8_i32_438
  let v234 : BitVec 32 := Scalar.addi c0_i32_439 v233
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_440 : BitVec 32 := 4#32
  let v235 : BitVec 32 := Scalar.muli v178 c4_i32_440
  let v236 : BitVec 32 := Scalar.addi v234 v235
  let c3_i32_437 : BitVec 32 := 3#32
  let c1_i32_441 : BitVec 32 := 1#32
  let v237 : BitVec 32 := Scalar.muli c3_i32_437 c1_i32_441
  let v238 : BitVec 32 := Scalar.addi v236 v237
  v238.toNat
def k0_dev217 (d0 : Dev nD) : Nat :=
  let c0_i32_479 : BitVec 32 := 0#32
  let c0_i32_476 : BitVec 32 := 0#32
  let c8_i32_478 : BitVec 32 := 8#32
  let v281 : BitVec 32 := Scalar.muli c0_i32_476 c8_i32_478
  let v282 : BitVec 32 := Scalar.addi c0_i32_479 v281
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_480 : BitVec 32 := 4#32
  let v283 : BitVec 32 := Scalar.muli v178 c4_i32_480
  let v284 : BitVec 32 := Scalar.addi v282 v283
  let c3_i32_477 : BitVec 32 := 3#32
  let c1_i32_481 : BitVec 32 := 1#32
  let v285 : BitVec 32 := Scalar.muli c3_i32_477 c1_i32_481
  let v286 : BitVec 32 := Scalar.addi v284 v285
  v286.toNat
def k0_dev218 (d0 : Dev nD) : Nat :=
  let c0_i32_519 : BitVec 32 := 0#32
  let c0_i32_516 : BitVec 32 := 0#32
  let c8_i32_518 : BitVec 32 := 8#32
  let v329 : BitVec 32 := Scalar.muli c0_i32_516 c8_i32_518
  let v330 : BitVec 32 := Scalar.addi c0_i32_519 v329
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_520 : BitVec 32 := 4#32
  let v331 : BitVec 32 := Scalar.muli v178 c4_i32_520
  let v332 : BitVec 32 := Scalar.addi v330 v331
  let c3_i32_517 : BitVec 32 := 3#32
  let c1_i32_521 : BitVec 32 := 1#32
  let v333 : BitVec 32 := Scalar.muli c3_i32_517 c1_i32_521
  let v334 : BitVec 32 := Scalar.addi v332 v333
  v334.toNat
def k0_dev219 (d0 : Dev nD) : Nat :=
  let c0_i32_559 : BitVec 32 := 0#32
  let c0_i32_556 : BitVec 32 := 0#32
  let c8_i32_558 : BitVec 32 := 8#32
  let v377 : BitVec 32 := Scalar.muli c0_i32_556 c8_i32_558
  let v378 : BitVec 32 := Scalar.addi c0_i32_559 v377
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_560 : BitVec 32 := 4#32
  let v379 : BitVec 32 := Scalar.muli v178 c4_i32_560
  let v380 : BitVec 32 := Scalar.addi v378 v379
  let c3_i32_557 : BitVec 32 := 3#32
  let c1_i32_561 : BitVec 32 := 1#32
  let v381 : BitVec 32 := Scalar.muli c3_i32_557 c1_i32_561
  let v382 : BitVec 32 := Scalar.addi v380 v381
  v382.toNat
def k0_dev220 (d0 : Dev nD) : Nat :=
  let c0_i32_599 : BitVec 32 := 0#32
  let c0_i32_596 : BitVec 32 := 0#32
  let c8_i32_598 : BitVec 32 := 8#32
  let v425 : BitVec 32 := Scalar.muli c0_i32_596 c8_i32_598
  let v426 : BitVec 32 := Scalar.addi c0_i32_599 v425
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_600 : BitVec 32 := 4#32
  let v427 : BitVec 32 := Scalar.muli v178 c4_i32_600
  let v428 : BitVec 32 := Scalar.addi v426 v427
  let c3_i32_597 : BitVec 32 := 3#32
  let c1_i32_601 : BitVec 32 := 1#32
  let v429 : BitVec 32 := Scalar.muli c3_i32_597 c1_i32_601
  let v430 : BitVec 32 := Scalar.addi v428 v429
  v430.toNat
def k0_dev221 (d0 : Dev nD) : Nat :=
  let c0_i32_625 : BitVec 32 := 0#32
  let c0_i32_622 : BitVec 32 := 0#32
  let c8_i32_624 : BitVec 32 := 8#32
  let v455 : BitVec 32 := Scalar.muli c0_i32_622 c8_i32_624
  let v456 : BitVec 32 := Scalar.addi c0_i32_625 v455
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_626 : BitVec 32 := 4#32
  let v457 : BitVec 32 := Scalar.muli v178 c4_i32_626
  let v458 : BitVec 32 := Scalar.addi v456 v457
  let c3_i32_623 : BitVec 32 := 3#32
  let c1_i32_627 : BitVec 32 := 1#32
  let v459 : BitVec 32 := Scalar.muli c3_i32_623 c1_i32_627
  let v460 : BitVec 32 := Scalar.addi v458 v459
  v460.toNat
def k0_dev222 (d0 : Dev nD) : Nat :=
  let c0_i32_651 : BitVec 32 := 0#32
  let c0_i32_648 : BitVec 32 := 0#32
  let c8_i32_650 : BitVec 32 := 8#32
  let v485 : BitVec 32 := Scalar.muli c0_i32_648 c8_i32_650
  let v486 : BitVec 32 := Scalar.addi c0_i32_651 v485
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_652 : BitVec 32 := 4#32
  let v487 : BitVec 32 := Scalar.muli v178 c4_i32_652
  let v488 : BitVec 32 := Scalar.addi v486 v487
  let c3_i32_649 : BitVec 32 := 3#32
  let c1_i32_653 : BitVec 32 := 1#32
  let v489 : BitVec 32 := Scalar.muli c3_i32_649 c1_i32_653
  let v490 : BitVec 32 := Scalar.addi v488 v489
  v490.toNat
def k0_dev223 (d0 : Dev nD) : Nat :=
  let c0_i32_677 : BitVec 32 := 0#32
  let c0_i32_674 : BitVec 32 := 0#32
  let c8_i32_676 : BitVec 32 := 8#32
  let v515 : BitVec 32 := Scalar.muli c0_i32_674 c8_i32_676
  let v516 : BitVec 32 := Scalar.addi c0_i32_677 v515
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_678 : BitVec 32 := 4#32
  let v517 : BitVec 32 := Scalar.muli v178 c4_i32_678
  let v518 : BitVec 32 := Scalar.addi v516 v517
  let c3_i32_675 : BitVec 32 := 3#32
  let c1_i32_679 : BitVec 32 := 1#32
  let v519 : BitVec 32 := Scalar.muli c3_i32_675 c1_i32_679
  let v520 : BitVec 32 := Scalar.addi v518 v519
  v520.toNat
def k0_dev224 (d0 : Dev nD) : Nat :=
  let c0_i32_703 : BitVec 32 := 0#32
  let c0_i32_700 : BitVec 32 := 0#32
  let c8_i32_702 : BitVec 32 := 8#32
  let v545 : BitVec 32 := Scalar.muli c0_i32_700 c8_i32_702
  let v546 : BitVec 32 := Scalar.addi c0_i32_703 v545
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_704 : BitVec 32 := 4#32
  let v547 : BitVec 32 := Scalar.muli v178 c4_i32_704
  let v548 : BitVec 32 := Scalar.addi v546 v547
  let c3_i32_701 : BitVec 32 := 3#32
  let c1_i32_705 : BitVec 32 := 1#32
  let v549 : BitVec 32 := Scalar.muli c3_i32_701 c1_i32_705
  let v550 : BitVec 32 := Scalar.addi v548 v549
  v550.toNat
def k0_dev225 (d0 : Dev nD) : Nat :=
  let c0_i32_729 : BitVec 32 := 0#32
  let c0_i32_726 : BitVec 32 := 0#32
  let c8_i32_728 : BitVec 32 := 8#32
  let v575 : BitVec 32 := Scalar.muli c0_i32_726 c8_i32_728
  let v576 : BitVec 32 := Scalar.addi c0_i32_729 v575
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_730 : BitVec 32 := 4#32
  let v577 : BitVec 32 := Scalar.muli v178 c4_i32_730
  let v578 : BitVec 32 := Scalar.addi v576 v577
  let c3_i32_727 : BitVec 32 := 3#32
  let c1_i32_731 : BitVec 32 := 1#32
  let v579 : BitVec 32 := Scalar.muli c3_i32_727 c1_i32_731
  let v580 : BitVec 32 := Scalar.addi v578 v579
  v580.toNat
def k0_dev226 (d0 : Dev nD) : Nat :=
  let c0_i32_755 : BitVec 32 := 0#32
  let c0_i32_752 : BitVec 32 := 0#32
  let c8_i32_754 : BitVec 32 := 8#32
  let v605 : BitVec 32 := Scalar.muli c0_i32_752 c8_i32_754
  let v606 : BitVec 32 := Scalar.addi c0_i32_755 v605
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_756 : BitVec 32 := 4#32
  let v607 : BitVec 32 := Scalar.muli v178 c4_i32_756
  let v608 : BitVec 32 := Scalar.addi v606 v607
  let c3_i32_753 : BitVec 32 := 3#32
  let c1_i32_757 : BitVec 32 := 1#32
  let v609 : BitVec 32 := Scalar.muli c3_i32_753 c1_i32_757
  let v610 : BitVec 32 := Scalar.addi v608 v609
  v610.toNat
def k0_dev227 (d0 : Dev nD) : Nat :=
  let c0_i32_779 : BitVec 32 := 0#32
  let c1_i32_776 : BitVec 32 := 1#32
  let c8_i32_778 : BitVec 32 := 8#32
  let v627 : BitVec 32 := Scalar.muli c1_i32_776 c8_i32_778
  let v628 : BitVec 32 := Scalar.addi c0_i32_779 v627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_780 : BitVec 32 := 4#32
  let v629 : BitVec 32 := Scalar.muli v5 c4_i32_780
  let v630 : BitVec 32 := Scalar.addi v628 v629
  let c3_i32_777 : BitVec 32 := 3#32
  let c1_i32_781 : BitVec 32 := 1#32
  let v631 : BitVec 32 := Scalar.muli c3_i32_777 c1_i32_781
  let v632 : BitVec 32 := Scalar.addi v630 v631
  v632.toNat
def k0_dev228 (d0 : Dev nD) : Nat :=
  let c0_i32_809 : BitVec 32 := 0#32
  let c1_i32_806 : BitVec 32 := 1#32
  let c8_i32_808 : BitVec 32 := 8#32
  let v653 : BitVec 32 := Scalar.muli c1_i32_806 c8_i32_808
  let v654 : BitVec 32 := Scalar.addi c0_i32_809 v653
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_810 : BitVec 32 := 4#32
  let v655 : BitVec 32 := Scalar.muli v5 c4_i32_810
  let v656 : BitVec 32 := Scalar.addi v654 v655
  let c3_i32_807 : BitVec 32 := 3#32
  let c1_i32_811 : BitVec 32 := 1#32
  let v657 : BitVec 32 := Scalar.muli c3_i32_807 c1_i32_811
  let v658 : BitVec 32 := Scalar.addi v656 v657
  v658.toNat
def k0_dev229 (d0 : Dev nD) : Nat :=
  let c0_i32_839 : BitVec 32 := 0#32
  let c1_i32_836 : BitVec 32 := 1#32
  let c8_i32_838 : BitVec 32 := 8#32
  let v679 : BitVec 32 := Scalar.muli c1_i32_836 c8_i32_838
  let v680 : BitVec 32 := Scalar.addi c0_i32_839 v679
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v681 : BitVec 32 := Scalar.muli v5 c4_i32_840
  let v682 : BitVec 32 := Scalar.addi v680 v681
  let c3_i32_837 : BitVec 32 := 3#32
  let c1_i32_841 : BitVec 32 := 1#32
  let v683 : BitVec 32 := Scalar.muli c3_i32_837 c1_i32_841
  let v684 : BitVec 32 := Scalar.addi v682 v683
  v684.toNat
def k0_dev230 (d0 : Dev nD) : Nat :=
  let c0_i32_869 : BitVec 32 := 0#32
  let c0_i32_866 : BitVec 32 := 0#32
  let c8_i32_868 : BitVec 32 := 8#32
  let v705 : BitVec 32 := Scalar.muli c0_i32_866 c8_i32_868
  let v706 : BitVec 32 := Scalar.addi c0_i32_869 v705
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_870 : BitVec 32 := 4#32
  let v707 : BitVec 32 := Scalar.muli v5 c4_i32_870
  let v708 : BitVec 32 := Scalar.addi v706 v707
  let c2_i32_867 : BitVec 32 := 2#32
  let c1_i32_871 : BitVec 32 := 1#32
  let v709 : BitVec 32 := Scalar.muli c2_i32_867 c1_i32_871
  let v710 : BitVec 32 := Scalar.addi v708 v709
  v710.toNat
def k0_dev231 (d0 : Dev nD) : Nat :=
  let c0_i32_899 : BitVec 32 := 0#32
  let c1_i32_896 : BitVec 32 := 1#32
  let c8_i32_898 : BitVec 32 := 8#32
  let v731 : BitVec 32 := Scalar.muli c1_i32_896 c8_i32_898
  let v732 : BitVec 32 := Scalar.addi c0_i32_899 v731
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_900 : BitVec 32 := 4#32
  let v733 : BitVec 32 := Scalar.muli v5 c4_i32_900
  let v734 : BitVec 32 := Scalar.addi v732 v733
  let c3_i32_897 : BitVec 32 := 3#32
  let c1_i32_901 : BitVec 32 := 1#32
  let v735 : BitVec 32 := Scalar.muli c3_i32_897 c1_i32_901
  let v736 : BitVec 32 := Scalar.addi v734 v735
  v736.toNat
def k0_dev232 (d0 : Dev nD) : Nat :=
  let c0_i32_929 : BitVec 32 := 0#32
  let c0_i32_926 : BitVec 32 := 0#32
  let c8_i32_928 : BitVec 32 := 8#32
  let v757 : BitVec 32 := Scalar.muli c0_i32_926 c8_i32_928
  let v758 : BitVec 32 := Scalar.addi c0_i32_929 v757
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_930 : BitVec 32 := 4#32
  let v759 : BitVec 32 := Scalar.muli v5 c4_i32_930
  let v760 : BitVec 32 := Scalar.addi v758 v759
  let c2_i32_927 : BitVec 32 := 2#32
  let c1_i32_931 : BitVec 32 := 1#32
  let v761 : BitVec 32 := Scalar.muli c2_i32_927 c1_i32_931
  let v762 : BitVec 32 := Scalar.addi v760 v761
  v762.toNat
def k0_dev233 (d0 : Dev nD) : Nat :=
  let c0_i32_959 : BitVec 32 := 0#32
  let c1_i32_956 : BitVec 32 := 1#32
  let c8_i32_958 : BitVec 32 := 8#32
  let v783 : BitVec 32 := Scalar.muli c1_i32_956 c8_i32_958
  let v784 : BitVec 32 := Scalar.addi c0_i32_959 v783
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_960 : BitVec 32 := 4#32
  let v785 : BitVec 32 := Scalar.muli v5 c4_i32_960
  let v786 : BitVec 32 := Scalar.addi v784 v785
  let c3_i32_957 : BitVec 32 := 3#32
  let c1_i32_961 : BitVec 32 := 1#32
  let v787 : BitVec 32 := Scalar.muli c3_i32_957 c1_i32_961
  let v788 : BitVec 32 := Scalar.addi v786 v787
  v788.toNat
def k0_dev234 (d0 : Dev nD) : Nat :=
  let c0_i32_989 : BitVec 32 := 0#32
  let c0_i32_986 : BitVec 32 := 0#32
  let c8_i32_988 : BitVec 32 := 8#32
  let v809 : BitVec 32 := Scalar.muli c0_i32_986 c8_i32_988
  let v810 : BitVec 32 := Scalar.addi c0_i32_989 v809
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_990 : BitVec 32 := 4#32
  let v811 : BitVec 32 := Scalar.muli v5 c4_i32_990
  let v812 : BitVec 32 := Scalar.addi v810 v811
  let c2_i32_987 : BitVec 32 := 2#32
  let c1_i32_991 : BitVec 32 := 1#32
  let v813 : BitVec 32 := Scalar.muli c2_i32_987 c1_i32_991
  let v814 : BitVec 32 := Scalar.addi v812 v813
  v814.toNat
def k0_dev235 (d0 : Dev nD) : Nat :=
  let c0_i32_1019 : BitVec 32 := 0#32
  let c1_i32_1016 : BitVec 32 := 1#32
  let c8_i32_1018 : BitVec 32 := 8#32
  let v835 : BitVec 32 := Scalar.muli c1_i32_1016 c8_i32_1018
  let v836 : BitVec 32 := Scalar.addi c0_i32_1019 v835
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1020 : BitVec 32 := 4#32
  let v837 : BitVec 32 := Scalar.muli v5 c4_i32_1020
  let v838 : BitVec 32 := Scalar.addi v836 v837
  let c3_i32_1017 : BitVec 32 := 3#32
  let c1_i32_1021 : BitVec 32 := 1#32
  let v839 : BitVec 32 := Scalar.muli c3_i32_1017 c1_i32_1021
  let v840 : BitVec 32 := Scalar.addi v838 v839
  v840.toNat
def k0_dev236 (d0 : Dev nD) : Nat :=
  let c0_i32_1049 : BitVec 32 := 0#32
  let c0_i32_1046 : BitVec 32 := 0#32
  let c8_i32_1048 : BitVec 32 := 8#32
  let v861 : BitVec 32 := Scalar.muli c0_i32_1046 c8_i32_1048
  let v862 : BitVec 32 := Scalar.addi c0_i32_1049 v861
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1050 : BitVec 32 := 4#32
  let v863 : BitVec 32 := Scalar.muli v5 c4_i32_1050
  let v864 : BitVec 32 := Scalar.addi v862 v863
  let c2_i32_1047 : BitVec 32 := 2#32
  let c1_i32_1051 : BitVec 32 := 1#32
  let v865 : BitVec 32 := Scalar.muli c2_i32_1047 c1_i32_1051
  let v866 : BitVec 32 := Scalar.addi v864 v865
  v866.toNat
def k0_dev237 (d0 : Dev nD) : Nat :=
  let c0_i32_1079 : BitVec 32 := 0#32
  let c1_i32_1076 : BitVec 32 := 1#32
  let c8_i32_1078 : BitVec 32 := 8#32
  let v887 : BitVec 32 := Scalar.muli c1_i32_1076 c8_i32_1078
  let v888 : BitVec 32 := Scalar.addi c0_i32_1079 v887
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1080 : BitVec 32 := 4#32
  let v889 : BitVec 32 := Scalar.muli v5 c4_i32_1080
  let v890 : BitVec 32 := Scalar.addi v888 v889
  let c3_i32_1077 : BitVec 32 := 3#32
  let c1_i32_1081 : BitVec 32 := 1#32
  let v891 : BitVec 32 := Scalar.muli c3_i32_1077 c1_i32_1081
  let v892 : BitVec 32 := Scalar.addi v890 v891
  v892.toNat
def k0_dev238 (d0 : Dev nD) : Nat :=
  let c0_i32_1109 : BitVec 32 := 0#32
  let c0_i32_1106 : BitVec 32 := 0#32
  let c8_i32_1108 : BitVec 32 := 8#32
  let v913 : BitVec 32 := Scalar.muli c0_i32_1106 c8_i32_1108
  let v914 : BitVec 32 := Scalar.addi c0_i32_1109 v913
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1110 : BitVec 32 := 4#32
  let v915 : BitVec 32 := Scalar.muli v5 c4_i32_1110
  let v916 : BitVec 32 := Scalar.addi v914 v915
  let c2_i32_1107 : BitVec 32 := 2#32
  let c1_i32_1111 : BitVec 32 := 1#32
  let v917 : BitVec 32 := Scalar.muli c2_i32_1107 c1_i32_1111
  let v918 : BitVec 32 := Scalar.addi v916 v917
  v918.toNat
def k0_dev239 (d0 : Dev nD) : Nat :=
  let c0_i32_1139 : BitVec 32 := 0#32
  let c1_i32_1136 : BitVec 32 := 1#32
  let c8_i32_1138 : BitVec 32 := 8#32
  let v939 : BitVec 32 := Scalar.muli c1_i32_1136 c8_i32_1138
  let v940 : BitVec 32 := Scalar.addi c0_i32_1139 v939
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1140 : BitVec 32 := 4#32
  let v941 : BitVec 32 := Scalar.muli v5 c4_i32_1140
  let v942 : BitVec 32 := Scalar.addi v940 v941
  let c3_i32_1137 : BitVec 32 := 3#32
  let c1_i32_1141 : BitVec 32 := 1#32
  let v943 : BitVec 32 := Scalar.muli c3_i32_1137 c1_i32_1141
  let v944 : BitVec 32 := Scalar.addi v942 v943
  v944.toNat
def k0_dev240 (d0 : Dev nD) : Nat :=
  let c0_i32_1169 : BitVec 32 := 0#32
  let c0_i32_1166 : BitVec 32 := 0#32
  let c8_i32_1168 : BitVec 32 := 8#32
  let v965 : BitVec 32 := Scalar.muli c0_i32_1166 c8_i32_1168
  let v966 : BitVec 32 := Scalar.addi c0_i32_1169 v965
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1170 : BitVec 32 := 4#32
  let v967 : BitVec 32 := Scalar.muli v5 c4_i32_1170
  let v968 : BitVec 32 := Scalar.addi v966 v967
  let c2_i32_1167 : BitVec 32 := 2#32
  let c1_i32_1171 : BitVec 32 := 1#32
  let v969 : BitVec 32 := Scalar.muli c2_i32_1167 c1_i32_1171
  let v970 : BitVec 32 := Scalar.addi v968 v969
  v970.toNat
def k0_dev241 (d0 : Dev nD) : Nat :=
  let c0_i32_1199 : BitVec 32 := 0#32
  let c1_i32_1196 : BitVec 32 := 1#32
  let c8_i32_1198 : BitVec 32 := 8#32
  let v991 : BitVec 32 := Scalar.muli c1_i32_1196 c8_i32_1198
  let v992 : BitVec 32 := Scalar.addi c0_i32_1199 v991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1200 : BitVec 32 := 4#32
  let v993 : BitVec 32 := Scalar.muli v5 c4_i32_1200
  let v994 : BitVec 32 := Scalar.addi v992 v993
  let c3_i32_1197 : BitVec 32 := 3#32
  let c1_i32_1201 : BitVec 32 := 1#32
  let v995 : BitVec 32 := Scalar.muli c3_i32_1197 c1_i32_1201
  let v996 : BitVec 32 := Scalar.addi v994 v995
  v996.toNat
def k0_dev242 (d0 : Dev nD) : Nat :=
  let c0_i32_1229 : BitVec 32 := 0#32
  let c0_i32_1226 : BitVec 32 := 0#32
  let c8_i32_1228 : BitVec 32 := 8#32
  let v1017 : BitVec 32 := Scalar.muli c0_i32_1226 c8_i32_1228
  let v1018 : BitVec 32 := Scalar.addi c0_i32_1229 v1017
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1230 : BitVec 32 := 4#32
  let v1019 : BitVec 32 := Scalar.muli v5 c4_i32_1230
  let v1020 : BitVec 32 := Scalar.addi v1018 v1019
  let c2_i32_1227 : BitVec 32 := 2#32
  let c1_i32_1231 : BitVec 32 := 1#32
  let v1021 : BitVec 32 := Scalar.muli c2_i32_1227 c1_i32_1231
  let v1022 : BitVec 32 := Scalar.addi v1020 v1021
  v1022.toNat
def k0_dev243 (d0 : Dev nD) : Nat :=
  let c0_i32_1259 : BitVec 32 := 0#32
  let c1_i32_1256 : BitVec 32 := 1#32
  let c8_i32_1258 : BitVec 32 := 8#32
  let v1043 : BitVec 32 := Scalar.muli c1_i32_1256 c8_i32_1258
  let v1044 : BitVec 32 := Scalar.addi c0_i32_1259 v1043
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1260 : BitVec 32 := 4#32
  let v1045 : BitVec 32 := Scalar.muli v5 c4_i32_1260
  let v1046 : BitVec 32 := Scalar.addi v1044 v1045
  let c3_i32_1257 : BitVec 32 := 3#32
  let c1_i32_1261 : BitVec 32 := 1#32
  let v1047 : BitVec 32 := Scalar.muli c3_i32_1257 c1_i32_1261
  let v1048 : BitVec 32 := Scalar.addi v1046 v1047
  v1048.toNat
def k0_dev244 (d0 : Dev nD) : Nat :=
  let c0_i32_1289 : BitVec 32 := 0#32
  let c0_i32_1286 : BitVec 32 := 0#32
  let c8_i32_1288 : BitVec 32 := 8#32
  let v1069 : BitVec 32 := Scalar.muli c0_i32_1286 c8_i32_1288
  let v1070 : BitVec 32 := Scalar.addi c0_i32_1289 v1069
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1290 : BitVec 32 := 4#32
  let v1071 : BitVec 32 := Scalar.muli v5 c4_i32_1290
  let v1072 : BitVec 32 := Scalar.addi v1070 v1071
  let c2_i32_1287 : BitVec 32 := 2#32
  let c1_i32_1291 : BitVec 32 := 1#32
  let v1073 : BitVec 32 := Scalar.muli c2_i32_1287 c1_i32_1291
  let v1074 : BitVec 32 := Scalar.addi v1072 v1073
  v1074.toNat
def k0_dev245 (d0 : Dev nD) : Nat :=
  let c0_i32_1319 : BitVec 32 := 0#32
  let c1_i32_1316 : BitVec 32 := 1#32
  let c8_i32_1318 : BitVec 32 := 8#32
  let v1095 : BitVec 32 := Scalar.muli c1_i32_1316 c8_i32_1318
  let v1096 : BitVec 32 := Scalar.addi c0_i32_1319 v1095
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1320 : BitVec 32 := 4#32
  let v1097 : BitVec 32 := Scalar.muli v5 c4_i32_1320
  let v1098 : BitVec 32 := Scalar.addi v1096 v1097
  let c3_i32_1317 : BitVec 32 := 3#32
  let c1_i32_1321 : BitVec 32 := 1#32
  let v1099 : BitVec 32 := Scalar.muli c3_i32_1317 c1_i32_1321
  let v1100 : BitVec 32 := Scalar.addi v1098 v1099
  v1100.toNat
def k0_dev246 (d0 : Dev nD) : Nat :=
  let c0_i32_1349 : BitVec 32 := 0#32
  let c0_i32_1346 : BitVec 32 := 0#32
  let c8_i32_1348 : BitVec 32 := 8#32
  let v1121 : BitVec 32 := Scalar.muli c0_i32_1346 c8_i32_1348
  let v1122 : BitVec 32 := Scalar.addi c0_i32_1349 v1121
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1350 : BitVec 32 := 4#32
  let v1123 : BitVec 32 := Scalar.muli v5 c4_i32_1350
  let v1124 : BitVec 32 := Scalar.addi v1122 v1123
  let c2_i32_1347 : BitVec 32 := 2#32
  let c1_i32_1351 : BitVec 32 := 1#32
  let v1125 : BitVec 32 := Scalar.muli c2_i32_1347 c1_i32_1351
  let v1126 : BitVec 32 := Scalar.addi v1124 v1125
  v1126.toNat
def k0_dev247 (d0 : Dev nD) : Nat :=
  let c0_i32_1379 : BitVec 32 := 0#32
  let c0_i32_1376 : BitVec 32 := 0#32
  let c8_i32_1378 : BitVec 32 := 8#32
  let v1147 : BitVec 32 := Scalar.muli c0_i32_1376 c8_i32_1378
  let v1148 : BitVec 32 := Scalar.addi c0_i32_1379 v1147
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1380 : BitVec 32 := 4#32
  let v1149 : BitVec 32 := Scalar.muli v5 c4_i32_1380
  let v1150 : BitVec 32 := Scalar.addi v1148 v1149
  let c2_i32_1377 : BitVec 32 := 2#32
  let c1_i32_1381 : BitVec 32 := 1#32
  let v1151 : BitVec 32 := Scalar.muli c2_i32_1377 c1_i32_1381
  let v1152 : BitVec 32 := Scalar.addi v1150 v1151
  v1152.toNat
def k0_dev248 (d0 : Dev nD) : Nat :=
  let c0_i32_1409 : BitVec 32 := 0#32
  let c0_i32_1406 : BitVec 32 := 0#32
  let c8_i32_1408 : BitVec 32 := 8#32
  let v1173 : BitVec 32 := Scalar.muli c0_i32_1406 c8_i32_1408
  let v1174 : BitVec 32 := Scalar.addi c0_i32_1409 v1173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1410 : BitVec 32 := 4#32
  let v1175 : BitVec 32 := Scalar.muli v5 c4_i32_1410
  let v1176 : BitVec 32 := Scalar.addi v1174 v1175
  let c2_i32_1407 : BitVec 32 := 2#32
  let c1_i32_1411 : BitVec 32 := 1#32
  let v1177 : BitVec 32 := Scalar.muli c2_i32_1407 c1_i32_1411
  let v1178 : BitVec 32 := Scalar.addi v1176 v1177
  v1178.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_348 : BitVec 32 := 3#32
  let v173 : BitVec 1 := Scalar.cmpi .eq v8 c3_i32_348
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_349 : BitVec 32 := 1#32
  let v174 : BitVec 1 := Scalar.cmpi .eq v2 c1_i32_349
  let v175 : BitVec 1 := Scalar.andi v173 v174
  let v176 : BitVec 32 := Scalar.extui v175
  let c0_i32_382 : BitVec 32 := 0#32
  let v177 : BitVec 1 := Scalar.cmpi .ne v176 c0_i32_382
  v177

def k0_dev249 (d0 : Dev nD) : Nat :=
  let c0_i32_388 : BitVec 32 := 0#32
  let c1_i32_385 : BitVec 32 := 1#32
  let c8_i32_387 : BitVec 32 := 8#32
  let v179 : BitVec 32 := Scalar.muli c1_i32_385 c8_i32_387
  let v180 : BitVec 32 := Scalar.addi c0_i32_388 v179
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_389 : BitVec 32 := 4#32
  let v181 : BitVec 32 := Scalar.muli v178 c4_i32_389
  let v182 : BitVec 32 := Scalar.addi v180 v181
  let c3_i32_386 : BitVec 32 := 3#32
  let c1_i32_390 : BitVec 32 := 1#32
  let v183 : BitVec 32 := Scalar.muli c3_i32_386 c1_i32_390
  let v184 : BitVec 32 := Scalar.addi v182 v183
  v184.toNat
def k0_dev250 (d0 : Dev nD) : Nat :=
  let c0_i32_395 : BitVec 32 := 0#32
  let c0_i32_392 : BitVec 32 := 0#32
  let c8_i32_394 : BitVec 32 := 8#32
  let v185 : BitVec 32 := Scalar.muli c0_i32_392 c8_i32_394
  let v186 : BitVec 32 := Scalar.addi c0_i32_395 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v187 : BitVec 32 := Scalar.muli v5 c4_i32_396
  let v188 : BitVec 32 := Scalar.addi v186 v187
  let c3_i32_393 : BitVec 32 := 3#32
  let c1_i32_397 : BitVec 32 := 1#32
  let v189 : BitVec 32 := Scalar.muli c3_i32_393 c1_i32_397
  let v190 : BitVec 32 := Scalar.addi v188 v189
  v190.toNat
def k0_dev251 (d0 : Dev nD) : Nat :=
  let c0_i32_402 : BitVec 32 := 0#32
  let c1_i32_399 : BitVec 32 := 1#32
  let c8_i32_401 : BitVec 32 := 8#32
  let v191 : BitVec 32 := Scalar.muli c1_i32_399 c8_i32_401
  let v192 : BitVec 32 := Scalar.addi c0_i32_402 v191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v193 : BitVec 32 := Scalar.muli v5 c4_i32_403
  let v194 : BitVec 32 := Scalar.addi v192 v193
  let c2_i32_400 : BitVec 32 := 2#32
  let c1_i32_404 : BitVec 32 := 1#32
  let v195 : BitVec 32 := Scalar.muli c2_i32_400 c1_i32_404
  let v196 : BitVec 32 := Scalar.addi v194 v195
  v196.toNat
def k0_dev252 (d0 : Dev nD) : Nat :=
  let c0_i32_439 : BitVec 32 := 0#32
  let c1_i32_436 : BitVec 32 := 1#32
  let c8_i32_438 : BitVec 32 := 8#32
  let v233 : BitVec 32 := Scalar.muli c1_i32_436 c8_i32_438
  let v234 : BitVec 32 := Scalar.addi c0_i32_439 v233
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_440 : BitVec 32 := 4#32
  let v235 : BitVec 32 := Scalar.muli v178 c4_i32_440
  let v236 : BitVec 32 := Scalar.addi v234 v235
  let c3_i32_437 : BitVec 32 := 3#32
  let c1_i32_441 : BitVec 32 := 1#32
  let v237 : BitVec 32 := Scalar.muli c3_i32_437 c1_i32_441
  let v238 : BitVec 32 := Scalar.addi v236 v237
  v238.toNat
def k0_dev253 (d0 : Dev nD) : Nat :=
  let c0_i32_479 : BitVec 32 := 0#32
  let c1_i32_476 : BitVec 32 := 1#32
  let c8_i32_478 : BitVec 32 := 8#32
  let v281 : BitVec 32 := Scalar.muli c1_i32_476 c8_i32_478
  let v282 : BitVec 32 := Scalar.addi c0_i32_479 v281
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_480 : BitVec 32 := 4#32
  let v283 : BitVec 32 := Scalar.muli v178 c4_i32_480
  let v284 : BitVec 32 := Scalar.addi v282 v283
  let c3_i32_477 : BitVec 32 := 3#32
  let c1_i32_481 : BitVec 32 := 1#32
  let v285 : BitVec 32 := Scalar.muli c3_i32_477 c1_i32_481
  let v286 : BitVec 32 := Scalar.addi v284 v285
  v286.toNat
def k0_dev254 (d0 : Dev nD) : Nat :=
  let c0_i32_519 : BitVec 32 := 0#32
  let c1_i32_516 : BitVec 32 := 1#32
  let c8_i32_518 : BitVec 32 := 8#32
  let v329 : BitVec 32 := Scalar.muli c1_i32_516 c8_i32_518
  let v330 : BitVec 32 := Scalar.addi c0_i32_519 v329
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_520 : BitVec 32 := 4#32
  let v331 : BitVec 32 := Scalar.muli v178 c4_i32_520
  let v332 : BitVec 32 := Scalar.addi v330 v331
  let c3_i32_517 : BitVec 32 := 3#32
  let c1_i32_521 : BitVec 32 := 1#32
  let v333 : BitVec 32 := Scalar.muli c3_i32_517 c1_i32_521
  let v334 : BitVec 32 := Scalar.addi v332 v333
  v334.toNat
def k0_dev255 (d0 : Dev nD) : Nat :=
  let c0_i32_559 : BitVec 32 := 0#32
  let c1_i32_556 : BitVec 32 := 1#32
  let c8_i32_558 : BitVec 32 := 8#32
  let v377 : BitVec 32 := Scalar.muli c1_i32_556 c8_i32_558
  let v378 : BitVec 32 := Scalar.addi c0_i32_559 v377
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_560 : BitVec 32 := 4#32
  let v379 : BitVec 32 := Scalar.muli v178 c4_i32_560
  let v380 : BitVec 32 := Scalar.addi v378 v379
  let c3_i32_557 : BitVec 32 := 3#32
  let c1_i32_561 : BitVec 32 := 1#32
  let v381 : BitVec 32 := Scalar.muli c3_i32_557 c1_i32_561
  let v382 : BitVec 32 := Scalar.addi v380 v381
  v382.toNat
def k0_dev256 (d0 : Dev nD) : Nat :=
  let c0_i32_599 : BitVec 32 := 0#32
  let c1_i32_596 : BitVec 32 := 1#32
  let c8_i32_598 : BitVec 32 := 8#32
  let v425 : BitVec 32 := Scalar.muli c1_i32_596 c8_i32_598
  let v426 : BitVec 32 := Scalar.addi c0_i32_599 v425
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_600 : BitVec 32 := 4#32
  let v427 : BitVec 32 := Scalar.muli v178 c4_i32_600
  let v428 : BitVec 32 := Scalar.addi v426 v427
  let c3_i32_597 : BitVec 32 := 3#32
  let c1_i32_601 : BitVec 32 := 1#32
  let v429 : BitVec 32 := Scalar.muli c3_i32_597 c1_i32_601
  let v430 : BitVec 32 := Scalar.addi v428 v429
  v430.toNat
def k0_dev257 (d0 : Dev nD) : Nat :=
  let c0_i32_625 : BitVec 32 := 0#32
  let c1_i32_622 : BitVec 32 := 1#32
  let c8_i32_624 : BitVec 32 := 8#32
  let v455 : BitVec 32 := Scalar.muli c1_i32_622 c8_i32_624
  let v456 : BitVec 32 := Scalar.addi c0_i32_625 v455
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_626 : BitVec 32 := 4#32
  let v457 : BitVec 32 := Scalar.muli v178 c4_i32_626
  let v458 : BitVec 32 := Scalar.addi v456 v457
  let c3_i32_623 : BitVec 32 := 3#32
  let c1_i32_627 : BitVec 32 := 1#32
  let v459 : BitVec 32 := Scalar.muli c3_i32_623 c1_i32_627
  let v460 : BitVec 32 := Scalar.addi v458 v459
  v460.toNat
def k0_dev258 (d0 : Dev nD) : Nat :=
  let c0_i32_651 : BitVec 32 := 0#32
  let c1_i32_648 : BitVec 32 := 1#32
  let c8_i32_650 : BitVec 32 := 8#32
  let v485 : BitVec 32 := Scalar.muli c1_i32_648 c8_i32_650
  let v486 : BitVec 32 := Scalar.addi c0_i32_651 v485
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_652 : BitVec 32 := 4#32
  let v487 : BitVec 32 := Scalar.muli v178 c4_i32_652
  let v488 : BitVec 32 := Scalar.addi v486 v487
  let c3_i32_649 : BitVec 32 := 3#32
  let c1_i32_653 : BitVec 32 := 1#32
  let v489 : BitVec 32 := Scalar.muli c3_i32_649 c1_i32_653
  let v490 : BitVec 32 := Scalar.addi v488 v489
  v490.toNat
def k0_dev259 (d0 : Dev nD) : Nat :=
  let c0_i32_677 : BitVec 32 := 0#32
  let c1_i32_674 : BitVec 32 := 1#32
  let c8_i32_676 : BitVec 32 := 8#32
  let v515 : BitVec 32 := Scalar.muli c1_i32_674 c8_i32_676
  let v516 : BitVec 32 := Scalar.addi c0_i32_677 v515
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_678 : BitVec 32 := 4#32
  let v517 : BitVec 32 := Scalar.muli v178 c4_i32_678
  let v518 : BitVec 32 := Scalar.addi v516 v517
  let c3_i32_675 : BitVec 32 := 3#32
  let c1_i32_679 : BitVec 32 := 1#32
  let v519 : BitVec 32 := Scalar.muli c3_i32_675 c1_i32_679
  let v520 : BitVec 32 := Scalar.addi v518 v519
  v520.toNat
def k0_dev260 (d0 : Dev nD) : Nat :=
  let c0_i32_703 : BitVec 32 := 0#32
  let c1_i32_700 : BitVec 32 := 1#32
  let c8_i32_702 : BitVec 32 := 8#32
  let v545 : BitVec 32 := Scalar.muli c1_i32_700 c8_i32_702
  let v546 : BitVec 32 := Scalar.addi c0_i32_703 v545
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_704 : BitVec 32 := 4#32
  let v547 : BitVec 32 := Scalar.muli v178 c4_i32_704
  let v548 : BitVec 32 := Scalar.addi v546 v547
  let c3_i32_701 : BitVec 32 := 3#32
  let c1_i32_705 : BitVec 32 := 1#32
  let v549 : BitVec 32 := Scalar.muli c3_i32_701 c1_i32_705
  let v550 : BitVec 32 := Scalar.addi v548 v549
  v550.toNat
def k0_dev261 (d0 : Dev nD) : Nat :=
  let c0_i32_729 : BitVec 32 := 0#32
  let c1_i32_726 : BitVec 32 := 1#32
  let c8_i32_728 : BitVec 32 := 8#32
  let v575 : BitVec 32 := Scalar.muli c1_i32_726 c8_i32_728
  let v576 : BitVec 32 := Scalar.addi c0_i32_729 v575
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_730 : BitVec 32 := 4#32
  let v577 : BitVec 32 := Scalar.muli v178 c4_i32_730
  let v578 : BitVec 32 := Scalar.addi v576 v577
  let c3_i32_727 : BitVec 32 := 3#32
  let c1_i32_731 : BitVec 32 := 1#32
  let v579 : BitVec 32 := Scalar.muli c3_i32_727 c1_i32_731
  let v580 : BitVec 32 := Scalar.addi v578 v579
  v580.toNat
def k0_dev262 (d0 : Dev nD) : Nat :=
  let c0_i32_755 : BitVec 32 := 0#32
  let c1_i32_752 : BitVec 32 := 1#32
  let c8_i32_754 : BitVec 32 := 8#32
  let v605 : BitVec 32 := Scalar.muli c1_i32_752 c8_i32_754
  let v606 : BitVec 32 := Scalar.addi c0_i32_755 v605
  let c1_i32_383 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v178 : BitVec 32 := Scalar.subi c1_i32_383 v5
  let c4_i32_756 : BitVec 32 := 4#32
  let v607 : BitVec 32 := Scalar.muli v178 c4_i32_756
  let v608 : BitVec 32 := Scalar.addi v606 v607
  let c3_i32_753 : BitVec 32 := 3#32
  let c1_i32_757 : BitVec 32 := 1#32
  let v609 : BitVec 32 := Scalar.muli c3_i32_753 c1_i32_757
  let v610 : BitVec 32 := Scalar.addi v608 v609
  v610.toNat
def k0_dev263 (d0 : Dev nD) : Nat :=
  let c0_i32_779 : BitVec 32 := 0#32
  let c0_i32_776 : BitVec 32 := 0#32
  let c8_i32_778 : BitVec 32 := 8#32
  let v627 : BitVec 32 := Scalar.muli c0_i32_776 c8_i32_778
  let v628 : BitVec 32 := Scalar.addi c0_i32_779 v627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_780 : BitVec 32 := 4#32
  let v629 : BitVec 32 := Scalar.muli v5 c4_i32_780
  let v630 : BitVec 32 := Scalar.addi v628 v629
  let c3_i32_777 : BitVec 32 := 3#32
  let c1_i32_781 : BitVec 32 := 1#32
  let v631 : BitVec 32 := Scalar.muli c3_i32_777 c1_i32_781
  let v632 : BitVec 32 := Scalar.addi v630 v631
  v632.toNat
def k0_dev264 (d0 : Dev nD) : Nat :=
  let c0_i32_791 : BitVec 32 := 0#32
  let c1_i32_788 : BitVec 32 := 1#32
  let c8_i32_790 : BitVec 32 := 8#32
  let v639 : BitVec 32 := Scalar.muli c1_i32_788 c8_i32_790
  let v640 : BitVec 32 := Scalar.addi c0_i32_791 v639
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_792 : BitVec 32 := 4#32
  let v641 : BitVec 32 := Scalar.muli v5 c4_i32_792
  let v642 : BitVec 32 := Scalar.addi v640 v641
  let c2_i32_789 : BitVec 32 := 2#32
  let c1_i32_793 : BitVec 32 := 1#32
  let v643 : BitVec 32 := Scalar.muli c2_i32_789 c1_i32_793
  let v644 : BitVec 32 := Scalar.addi v642 v643
  v644.toNat
def k0_dev265 (d0 : Dev nD) : Nat :=
  let c0_i32_821 : BitVec 32 := 0#32
  let c0_i32_818 : BitVec 32 := 0#32
  let c8_i32_820 : BitVec 32 := 8#32
  let v665 : BitVec 32 := Scalar.muli c0_i32_818 c8_i32_820
  let v666 : BitVec 32 := Scalar.addi c0_i32_821 v665
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_822 : BitVec 32 := 4#32
  let v667 : BitVec 32 := Scalar.muli v5 c4_i32_822
  let v668 : BitVec 32 := Scalar.addi v666 v667
  let c3_i32_819 : BitVec 32 := 3#32
  let c1_i32_823 : BitVec 32 := 1#32
  let v669 : BitVec 32 := Scalar.muli c3_i32_819 c1_i32_823
  let v670 : BitVec 32 := Scalar.addi v668 v669
  v670.toNat
def k0_dev266 (d0 : Dev nD) : Nat :=
  let c0_i32_833 : BitVec 32 := 0#32
  let c1_i32_830 : BitVec 32 := 1#32
  let c8_i32_832 : BitVec 32 := 8#32
  let v677 : BitVec 32 := Scalar.muli c1_i32_830 c8_i32_832
  let v678 : BitVec 32 := Scalar.addi c0_i32_833 v677
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_834 : BitVec 32 := 4#32
  let v679 : BitVec 32 := Scalar.muli v5 c4_i32_834
  let v680 : BitVec 32 := Scalar.addi v678 v679
  let c2_i32_831 : BitVec 32 := 2#32
  let c1_i32_835 : BitVec 32 := 1#32
  let v681 : BitVec 32 := Scalar.muli c2_i32_831 c1_i32_835
  let v682 : BitVec 32 := Scalar.addi v680 v681
  v682.toNat
def k0_dev267 (d0 : Dev nD) : Nat :=
  let c0_i32_863 : BitVec 32 := 0#32
  let c0_i32_860 : BitVec 32 := 0#32
  let c8_i32_862 : BitVec 32 := 8#32
  let v703 : BitVec 32 := Scalar.muli c0_i32_860 c8_i32_862
  let v704 : BitVec 32 := Scalar.addi c0_i32_863 v703
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_864 : BitVec 32 := 4#32
  let v705 : BitVec 32 := Scalar.muli v5 c4_i32_864
  let v706 : BitVec 32 := Scalar.addi v704 v705
  let c3_i32_861 : BitVec 32 := 3#32
  let c1_i32_865 : BitVec 32 := 1#32
  let v707 : BitVec 32 := Scalar.muli c3_i32_861 c1_i32_865
  let v708 : BitVec 32 := Scalar.addi v706 v707
  v708.toNat
def k0_dev268 (d0 : Dev nD) : Nat :=
  let c0_i32_875 : BitVec 32 := 0#32
  let c1_i32_872 : BitVec 32 := 1#32
  let c8_i32_874 : BitVec 32 := 8#32
  let v715 : BitVec 32 := Scalar.muli c1_i32_872 c8_i32_874
  let v716 : BitVec 32 := Scalar.addi c0_i32_875 v715
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_876 : BitVec 32 := 4#32
  let v717 : BitVec 32 := Scalar.muli v5 c4_i32_876
  let v718 : BitVec 32 := Scalar.addi v716 v717
  let c2_i32_873 : BitVec 32 := 2#32
  let c1_i32_877 : BitVec 32 := 1#32
  let v719 : BitVec 32 := Scalar.muli c2_i32_873 c1_i32_877
  let v720 : BitVec 32 := Scalar.addi v718 v719
  v720.toNat
def k0_dev269 (d0 : Dev nD) : Nat :=
  let c0_i32_923 : BitVec 32 := 0#32
  let c0_i32_920 : BitVec 32 := 0#32
  let c8_i32_922 : BitVec 32 := 8#32
  let v755 : BitVec 32 := Scalar.muli c0_i32_920 c8_i32_922
  let v756 : BitVec 32 := Scalar.addi c0_i32_923 v755
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_924 : BitVec 32 := 4#32
  let v757 : BitVec 32 := Scalar.muli v5 c4_i32_924
  let v758 : BitVec 32 := Scalar.addi v756 v757
  let c3_i32_921 : BitVec 32 := 3#32
  let c1_i32_925 : BitVec 32 := 1#32
  let v759 : BitVec 32 := Scalar.muli c3_i32_921 c1_i32_925
  let v760 : BitVec 32 := Scalar.addi v758 v759
  v760.toNat
def k0_dev270 (d0 : Dev nD) : Nat :=
  let c0_i32_935 : BitVec 32 := 0#32
  let c1_i32_932 : BitVec 32 := 1#32
  let c8_i32_934 : BitVec 32 := 8#32
  let v767 : BitVec 32 := Scalar.muli c1_i32_932 c8_i32_934
  let v768 : BitVec 32 := Scalar.addi c0_i32_935 v767
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_936 : BitVec 32 := 4#32
  let v769 : BitVec 32 := Scalar.muli v5 c4_i32_936
  let v770 : BitVec 32 := Scalar.addi v768 v769
  let c2_i32_933 : BitVec 32 := 2#32
  let c1_i32_937 : BitVec 32 := 1#32
  let v771 : BitVec 32 := Scalar.muli c2_i32_933 c1_i32_937
  let v772 : BitVec 32 := Scalar.addi v770 v771
  v772.toNat
def k0_dev271 (d0 : Dev nD) : Nat :=
  let c0_i32_983 : BitVec 32 := 0#32
  let c0_i32_980 : BitVec 32 := 0#32
  let c8_i32_982 : BitVec 32 := 8#32
  let v807 : BitVec 32 := Scalar.muli c0_i32_980 c8_i32_982
  let v808 : BitVec 32 := Scalar.addi c0_i32_983 v807
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_984 : BitVec 32 := 4#32
  let v809 : BitVec 32 := Scalar.muli v5 c4_i32_984
  let v810 : BitVec 32 := Scalar.addi v808 v809
  let c3_i32_981 : BitVec 32 := 3#32
  let c1_i32_985 : BitVec 32 := 1#32
  let v811 : BitVec 32 := Scalar.muli c3_i32_981 c1_i32_985
  let v812 : BitVec 32 := Scalar.addi v810 v811
  v812.toNat
def k0_dev272 (d0 : Dev nD) : Nat :=
  let c0_i32_995 : BitVec 32 := 0#32
  let c1_i32_992 : BitVec 32 := 1#32
  let c8_i32_994 : BitVec 32 := 8#32
  let v819 : BitVec 32 := Scalar.muli c1_i32_992 c8_i32_994
  let v820 : BitVec 32 := Scalar.addi c0_i32_995 v819
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_996 : BitVec 32 := 4#32
  let v821 : BitVec 32 := Scalar.muli v5 c4_i32_996
  let v822 : BitVec 32 := Scalar.addi v820 v821
  let c2_i32_993 : BitVec 32 := 2#32
  let c1_i32_997 : BitVec 32 := 1#32
  let v823 : BitVec 32 := Scalar.muli c2_i32_993 c1_i32_997
  let v824 : BitVec 32 := Scalar.addi v822 v823
  v824.toNat
def k0_dev273 (d0 : Dev nD) : Nat :=
  let c0_i32_1043 : BitVec 32 := 0#32
  let c0_i32_1040 : BitVec 32 := 0#32
  let c8_i32_1042 : BitVec 32 := 8#32
  let v859 : BitVec 32 := Scalar.muli c0_i32_1040 c8_i32_1042
  let v860 : BitVec 32 := Scalar.addi c0_i32_1043 v859
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1044 : BitVec 32 := 4#32
  let v861 : BitVec 32 := Scalar.muli v5 c4_i32_1044
  let v862 : BitVec 32 := Scalar.addi v860 v861
  let c3_i32_1041 : BitVec 32 := 3#32
  let c1_i32_1045 : BitVec 32 := 1#32
  let v863 : BitVec 32 := Scalar.muli c3_i32_1041 c1_i32_1045
  let v864 : BitVec 32 := Scalar.addi v862 v863
  v864.toNat
def k0_dev274 (d0 : Dev nD) : Nat :=
  let c0_i32_1055 : BitVec 32 := 0#32
  let c1_i32_1052 : BitVec 32 := 1#32
  let c8_i32_1054 : BitVec 32 := 8#32
  let v871 : BitVec 32 := Scalar.muli c1_i32_1052 c8_i32_1054
  let v872 : BitVec 32 := Scalar.addi c0_i32_1055 v871
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1056 : BitVec 32 := 4#32
  let v873 : BitVec 32 := Scalar.muli v5 c4_i32_1056
  let v874 : BitVec 32 := Scalar.addi v872 v873
  let c2_i32_1053 : BitVec 32 := 2#32
  let c1_i32_1057 : BitVec 32 := 1#32
  let v875 : BitVec 32 := Scalar.muli c2_i32_1053 c1_i32_1057
  let v876 : BitVec 32 := Scalar.addi v874 v875
  v876.toNat
def k0_dev275 (d0 : Dev nD) : Nat :=
  let c0_i32_1103 : BitVec 32 := 0#32
  let c0_i32_1100 : BitVec 32 := 0#32
  let c8_i32_1102 : BitVec 32 := 8#32
  let v911 : BitVec 32 := Scalar.muli c0_i32_1100 c8_i32_1102
  let v912 : BitVec 32 := Scalar.addi c0_i32_1103 v911
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1104 : BitVec 32 := 4#32
  let v913 : BitVec 32 := Scalar.muli v5 c4_i32_1104
  let v914 : BitVec 32 := Scalar.addi v912 v913
  let c3_i32_1101 : BitVec 32 := 3#32
  let c1_i32_1105 : BitVec 32 := 1#32
  let v915 : BitVec 32 := Scalar.muli c3_i32_1101 c1_i32_1105
  let v916 : BitVec 32 := Scalar.addi v914 v915
  v916.toNat
def k0_dev276 (d0 : Dev nD) : Nat :=
  let c0_i32_1115 : BitVec 32 := 0#32
  let c1_i32_1112 : BitVec 32 := 1#32
  let c8_i32_1114 : BitVec 32 := 8#32
  let v923 : BitVec 32 := Scalar.muli c1_i32_1112 c8_i32_1114
  let v924 : BitVec 32 := Scalar.addi c0_i32_1115 v923
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1116 : BitVec 32 := 4#32
  let v925 : BitVec 32 := Scalar.muli v5 c4_i32_1116
  let v926 : BitVec 32 := Scalar.addi v924 v925
  let c2_i32_1113 : BitVec 32 := 2#32
  let c1_i32_1117 : BitVec 32 := 1#32
  let v927 : BitVec 32 := Scalar.muli c2_i32_1113 c1_i32_1117
  let v928 : BitVec 32 := Scalar.addi v926 v927
  v928.toNat
def k0_dev277 (d0 : Dev nD) : Nat :=
  let c0_i32_1163 : BitVec 32 := 0#32
  let c0_i32_1160 : BitVec 32 := 0#32
  let c8_i32_1162 : BitVec 32 := 8#32
  let v963 : BitVec 32 := Scalar.muli c0_i32_1160 c8_i32_1162
  let v964 : BitVec 32 := Scalar.addi c0_i32_1163 v963
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1164 : BitVec 32 := 4#32
  let v965 : BitVec 32 := Scalar.muli v5 c4_i32_1164
  let v966 : BitVec 32 := Scalar.addi v964 v965
  let c3_i32_1161 : BitVec 32 := 3#32
  let c1_i32_1165 : BitVec 32 := 1#32
  let v967 : BitVec 32 := Scalar.muli c3_i32_1161 c1_i32_1165
  let v968 : BitVec 32 := Scalar.addi v966 v967
  v968.toNat
def k0_dev278 (d0 : Dev nD) : Nat :=
  let c0_i32_1175 : BitVec 32 := 0#32
  let c1_i32_1172 : BitVec 32 := 1#32
  let c8_i32_1174 : BitVec 32 := 8#32
  let v975 : BitVec 32 := Scalar.muli c1_i32_1172 c8_i32_1174
  let v976 : BitVec 32 := Scalar.addi c0_i32_1175 v975
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1176 : BitVec 32 := 4#32
  let v977 : BitVec 32 := Scalar.muli v5 c4_i32_1176
  let v978 : BitVec 32 := Scalar.addi v976 v977
  let c2_i32_1173 : BitVec 32 := 2#32
  let c1_i32_1177 : BitVec 32 := 1#32
  let v979 : BitVec 32 := Scalar.muli c2_i32_1173 c1_i32_1177
  let v980 : BitVec 32 := Scalar.addi v978 v979
  v980.toNat
def k0_dev279 (d0 : Dev nD) : Nat :=
  let c0_i32_1223 : BitVec 32 := 0#32
  let c0_i32_1220 : BitVec 32 := 0#32
  let c8_i32_1222 : BitVec 32 := 8#32
  let v1015 : BitVec 32 := Scalar.muli c0_i32_1220 c8_i32_1222
  let v1016 : BitVec 32 := Scalar.addi c0_i32_1223 v1015
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1224 : BitVec 32 := 4#32
  let v1017 : BitVec 32 := Scalar.muli v5 c4_i32_1224
  let v1018 : BitVec 32 := Scalar.addi v1016 v1017
  let c3_i32_1221 : BitVec 32 := 3#32
  let c1_i32_1225 : BitVec 32 := 1#32
  let v1019 : BitVec 32 := Scalar.muli c3_i32_1221 c1_i32_1225
  let v1020 : BitVec 32 := Scalar.addi v1018 v1019
  v1020.toNat
def k0_dev280 (d0 : Dev nD) : Nat :=
  let c0_i32_1235 : BitVec 32 := 0#32
  let c1_i32_1232 : BitVec 32 := 1#32
  let c8_i32_1234 : BitVec 32 := 8#32
  let v1027 : BitVec 32 := Scalar.muli c1_i32_1232 c8_i32_1234
  let v1028 : BitVec 32 := Scalar.addi c0_i32_1235 v1027
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1236 : BitVec 32 := 4#32
  let v1029 : BitVec 32 := Scalar.muli v5 c4_i32_1236
  let v1030 : BitVec 32 := Scalar.addi v1028 v1029
  let c2_i32_1233 : BitVec 32 := 2#32
  let c1_i32_1237 : BitVec 32 := 1#32
  let v1031 : BitVec 32 := Scalar.muli c2_i32_1233 c1_i32_1237
  let v1032 : BitVec 32 := Scalar.addi v1030 v1031
  v1032.toNat
def k0_dev281 (d0 : Dev nD) : Nat :=
  let c0_i32_1283 : BitVec 32 := 0#32
  let c0_i32_1280 : BitVec 32 := 0#32
  let c8_i32_1282 : BitVec 32 := 8#32
  let v1067 : BitVec 32 := Scalar.muli c0_i32_1280 c8_i32_1282
  let v1068 : BitVec 32 := Scalar.addi c0_i32_1283 v1067
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1284 : BitVec 32 := 4#32
  let v1069 : BitVec 32 := Scalar.muli v5 c4_i32_1284
  let v1070 : BitVec 32 := Scalar.addi v1068 v1069
  let c3_i32_1281 : BitVec 32 := 3#32
  let c1_i32_1285 : BitVec 32 := 1#32
  let v1071 : BitVec 32 := Scalar.muli c3_i32_1281 c1_i32_1285
  let v1072 : BitVec 32 := Scalar.addi v1070 v1071
  v1072.toNat
def k0_dev282 (d0 : Dev nD) : Nat :=
  let c0_i32_1295 : BitVec 32 := 0#32
  let c1_i32_1292 : BitVec 32 := 1#32
  let c8_i32_1294 : BitVec 32 := 8#32
  let v1079 : BitVec 32 := Scalar.muli c1_i32_1292 c8_i32_1294
  let v1080 : BitVec 32 := Scalar.addi c0_i32_1295 v1079
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1296 : BitVec 32 := 4#32
  let v1081 : BitVec 32 := Scalar.muli v5 c4_i32_1296
  let v1082 : BitVec 32 := Scalar.addi v1080 v1081
  let c2_i32_1293 : BitVec 32 := 2#32
  let c1_i32_1297 : BitVec 32 := 1#32
  let v1083 : BitVec 32 := Scalar.muli c2_i32_1293 c1_i32_1297
  let v1084 : BitVec 32 := Scalar.addi v1082 v1083
  v1084.toNat
def k0_dev283 (d0 : Dev nD) : Nat :=
  let c0_i32_1343 : BitVec 32 := 0#32
  let c0_i32_1340 : BitVec 32 := 0#32
  let c8_i32_1342 : BitVec 32 := 8#32
  let v1119 : BitVec 32 := Scalar.muli c0_i32_1340 c8_i32_1342
  let v1120 : BitVec 32 := Scalar.addi c0_i32_1343 v1119
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1344 : BitVec 32 := 4#32
  let v1121 : BitVec 32 := Scalar.muli v5 c4_i32_1344
  let v1122 : BitVec 32 := Scalar.addi v1120 v1121
  let c3_i32_1341 : BitVec 32 := 3#32
  let c1_i32_1345 : BitVec 32 := 1#32
  let v1123 : BitVec 32 := Scalar.muli c3_i32_1341 c1_i32_1345
  let v1124 : BitVec 32 := Scalar.addi v1122 v1123
  v1124.toNat
def k0_dev284 (d0 : Dev nD) : Nat :=
  let c0_i32_1355 : BitVec 32 := 0#32
  let c1_i32_1352 : BitVec 32 := 1#32
  let c8_i32_1354 : BitVec 32 := 8#32
  let v1131 : BitVec 32 := Scalar.muli c1_i32_1352 c8_i32_1354
  let v1132 : BitVec 32 := Scalar.addi c0_i32_1355 v1131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1356 : BitVec 32 := 4#32
  let v1133 : BitVec 32 := Scalar.muli v5 c4_i32_1356
  let v1134 : BitVec 32 := Scalar.addi v1132 v1133
  let c2_i32_1353 : BitVec 32 := 2#32
  let c1_i32_1357 : BitVec 32 := 1#32
  let v1135 : BitVec 32 := Scalar.muli c2_i32_1353 c1_i32_1357
  let v1136 : BitVec 32 := Scalar.addi v1134 v1135
  v1136.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | .hbm, ⟨4, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Table.lean ====
/- The kernel's run as a table: the operations that each of the sixteen devices performs, in order. -/
module

public import Idealize.ShloMosaic.Lib.Decide

@[expose] public section

namespace Cert.AllReduce

/-- A device's logical id: `8 x + 4 y + z`. -/
abbrev D : Type := Fin 16
/-- One of the 32 units of 128 rows. -/
abbrev Un : Type := Fin 32

/-- Which buffer a transfer reads: the device's own half rounded (`own`) or the units that it received (`mb`). -/
inductive Src | own | mb
  deriving DecidableEq

/-- The four arrays of send semaphores: along `y`, along `x`, and the two along `z`. -/
inductive Arr | y | x | za | zb
  deriving DecidableEq

/-- One operation of the kernel. -/
inductive Op
  /-- Start the local copy of unit `u` of the argument. -/
  | ld (u : Un)
  /-- Signal device `n`'s barrier semaphore. -/
  | sig (n : D)
  /-- Wait for `k` on the barrier semaphore. -/
  | bar (k : ℕ)
  /-- Wait for the local copy of unit `u`. -/
  | wl (u : Un)
  /-- Round unit `u` and store it. -/
  | cst (u : Un)
  /-- Send unit `u` of buffer `b` to device `n`, on send semaphore `k` of array `a`. -/
  | snd (b : Src) (u : Un) (n : D) (a : Arr) (k : Fin 11)
  /-- Wait until unit `u` has been received. -/
  | rcv (u : Un)
  /-- Add the own and the received unit `u` and store the sum. -/
  | add (u : Un)
  /-- Wait for the send on semaphore `k` of array `a`, which read unit `u` of buffer `b`. -/
  | ws (b : Src) (u : Un) (a : Arr) (k : Fin 11)
  /-- Nothing: marks the end of the run for send semaphore `k` of array `a`, which the device never uses. -/
  | fin (a : Arr) (k : Fin 11)
  deriving DecidableEq

open Op

/-- The unit of a number, and the send semaphore's place of a number. -/
abbrev un (n : ℕ) : Un := Fin.ofNat 32 n
abbrev sl (n : ℕ) : Fin 11 := Fin.ofNat 11 n
/-- The device at `(x, y, z)`. -/
abbrev dv (x y z : ℕ) : D := Fin.ofNat 16 (8 * x + 4 * y + z)

/-- The units that step `k` of the loading and the rounding takes. -/
def group (k : ℕ) : List ℕ := [k, 11 + k] ++ if k < 5 then [22 + k, 27 + k] else []

/-- The local copies of all units. -/
def loads : List Op := (List.range 11).flatMap fun k => (group k).map fun u => ld (un u)
/-- The waits for the local copies of step `k`, each with its rounding. -/
def casts (k : ℕ) : List Op := (group k).flatMap fun u => [wl (un u), cst (un u)]

/-- The waits for the sends among `l`, in order. -/
def sendWaits (l : List Op) : List Op := l.filterMap fun | snd b u _ a k => some (ws b u a k) | _ => none

/-- The sequence `a 0, a 1, (a 2, b 0), …, (a (n - 1), b (n - 3)), b (n - 2), b (n - 1)`. -/
def staggered (n : ℕ) (a b : ℕ → List Op) : List Op :=
  ((List.range n).flatMap fun k => a k ++ if 2 ≤ k then b (k - 2) else []) ++ b (n - 2) ++ b (n - 1)

/-- A device at an end of the `z` axis (`z = 0` or `z = 3`), up to its last waits. -/
def endRun (x y z : ℕ) : List Op :=
  let yn := dv x (1 - y) z
  let xn := dv (1 - x) y z
  let zd := dv x y (if z = 0 then 1 else 2)
  let a := x * 11
  let b := (1 - x) * 11
  let mine : Bool := (if z = 0 then 0 else 1) = x
  [sig yn, sig xn, sig zd, bar 3]
    ++ ((List.range 11).flatMap fun k => casts k ++ [snd .own (un (a + k)) yn .y (sl k)])
    ++ staggered 11
        (fun k => [rcv (un (a + k)), snd .mb (un (a + k)) xn .x (sl k)]
          ++ (if mine then [snd .mb (un (a + k)) zd .za (sl k)] else []) ++ [add (un (a + k))])
        (fun j => [rcv (un (b + j))] ++ (if mine then [] else [snd .mb (un (b + j)) zd .za (sl j)]) ++ [add (un (b + j))])
    ++ (List.range 10).flatMap fun k => [rcv (un (22 + k)), add (un (22 + k))]

/-- A device in the middle of the `z` axis (`z = 1` or `z = 2`), up to its last waits. -/
def midRun (x y z : ℕ) : List Op :=
  let yn := dv x (1 - y) z
  let xn := dv (1 - x) y z
  let ed := dv x y (if z = 1 then 0 else 3)
  let md := dv x y (if z = 1 then 2 else 1)
  let a := 22 + x * 5
  let b := 22 + (1 - x) * 5
  let f := if z = 1 then 0 else 11
  let t := if z = 1 then 11 else 0
  [sig yn, sig xn, sig ed, sig md, bar 4]
    ++ ((List.range 11).flatMap fun k => casts k ++ if k < 5 then [snd .own (un (a + k)) yn .y (sl k)] else [])
    ++ staggered 5
        (fun k => [rcv (un (a + k)), snd .mb (un (a + k)) xn .x (sl k), snd .mb (un (a + k)) ed .za (sl k), add (un (a + k))])
        (fun j => [rcv (un (b + j)), snd .mb (un (b + j)) ed .za (sl (5 + j)), add (un (b + j))])
    ++ staggered 11
        (fun k => [rcv (un (f + k)), snd .mb (un (f + k)) md .zb (sl k), add (un (f + k))])
        (fun j => [rcv (un (t + j)), add (un (t + j))])

/-- What device `c` does after its local copies have been started. -/
def branch (c : D) : List Op :=
  let r := if c.val % 4 = 0 ∨ c.val % 4 = 3 then endRun (c.val / 8) (c.val / 4 % 2) (c.val % 4)
    else midRun (c.val / 8) (c.val / 4 % 2) (c.val % 4)
  r ++ sendWaits r

/-! ## The neighbours, the senders and the origins -/

/-- The coordinates of a device. -/
def cx (c : D) : ℕ := c.val / 8
def cy (c : D) : ℕ := c.val / 4 % 2
def cz (c : D) : ℕ := c.val % 4
/-- Whether a device is at an end of the `z` axis. -/
def isEnd (c : D) : Bool := cz c = 0 ∨ cz c = 3

/-- The neighbours along `y` and `x`, the other device of the same half of the `z` axis, and the other middle device. -/
def yn (c : D) : D := dv (cx c) (1 - cy c) (cz c)
def xn (c : D) : D := dv (1 - cx c) (cy c) (cz c)
def zn (c : D) : D := dv (cx c) (cy c) (cz c / 2 * 2 + (1 - cz c % 2))
def md (c : D) : D := dv (cx c) (cy c) (if cz c = 1 then 2 else 1)
/-- The devices that device `c` exchanges with. -/
def nbr (c : D) : List D := [yn c, xn c, zn c] ++ if isEnd c then [] else [md c]

/-- The column of the unit: the half of the first 22 units, or of the last ten, that it lies in. -/
def col (u : Un) : ℕ := if u.val < 22 then u.val / 11 else (u.val - 22) / 5

/-- The device that sends unit `u` to device `c`. -/
def src (c : D) (u : Un) : D :=
  if isEnd c = decide (u.val < 22) then (if col u = cx c then yn c else xn c)
  else if isEnd c then zn c else if col u = cz c - 1 then zn c else md c

/-- The device whose own half the unit `u` that device `c` receives is. -/
def org (c : D) (u : Un) : D :=
  dv (col u) (1 - cy c) (if u.val < 22 then (if isEnd c then cz c else if col u = cz c - 1 then cz (zn c) else cz (zn (md c)))
    else if isEnd c then cz (zn c) else cz c)

/-- Whether device `c` receives unit `u` from the device that owns it. -/
def direct (c : D) (u : Un) : Bool := src c u = yn c

/-- What device `c` sends on semaphore `k` of array `a`: the buffer and the unit. -/
def slot (c : D) (a : Arr) (k : Fin 11) : Option (Src × Un) :=
  let x := cx c
  if isEnd c then
    match a with
    | .y => some (.own, un (11 * x + k))
    | .x => some (.mb, un (11 * x + k))
    | .za => some (.mb, un (11 * (if cz c = 0 then 0 else 1) + k))
    | .zb => none
  else
    match a with
    | .y => if k.val < 5 then some (.own, un (22 + 5 * x + k)) else none
    | .x => if k.val < 5 then some (.mb, un (22 + 5 * x + k)) else none
    | .za => if k.val < 5 then some (.mb, un (22 + 5 * x + k)) else if k.val < 10 then some (.mb, un (22 + 5 * (1 - x) + (k - 5))) else none
    | .zb => some (.mb, un (11 * (cz c - 1) + k))

/-- The semaphores of the four arrays. -/
def slots : List (Arr × Fin 11) := [Arr.y, .x, .za, .zb].flatMap fun a => (List.finRange 11).map fun k => (a, k)
/-- All units. -/
def units : List Un := List.finRange 32
/-- All devices. -/
def devs : List D := List.finRange 16
/-- The units that device `n` receives from device `c`. -/
def unitsFrom (c n : D) : List Un := units.filter fun u => src n u = c

/-- What device `c` does. -/
def ops (c : D) : List Op :=
  loads ++ branch c ++ (slots.filter fun s => (slot c s.1 s.2).isNone).map fun s => fin s.1 s.2

end Cert.AllReduce

end
-- ==== Proof.Code.lean ====
/- The printed kernel is the table's run. -/
module

public import proofs.«01_k».proof.Proof.Table
public import proofs.«01_k».proof.Proof.Gen.KernelIdeal
public import proofs.«01_k».proof.Proof.Gen.KernelIdeal.Points
public import proofs.«01_k».proof.Proof.Gen.KernelIdeal.Launch

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-! ## The buffers, their units and the semaphores -/

/-- The argument, the result's staging buffer, the argument's copy, its rounding, the received units. -/
abbrev xM : Memref sig .tc .hbm S4096x1024 .f32 := Memref.whole main_arg0
/-- The result's staging buffer, the argument's f32 copy, its rounding and the receive buffer. -/
abbrev outM : Memref sig .tc .vmem S4096x1024 .bf16 := Memref.whole cc0_stg0_0
abbrev xfM : Memref sig .tc .vmem S4096x1024 .f32 := Memref.whole cc0_scratch0
abbrev ownM : Memref sig .tc .vmem S4096x1024 .bf16 := Memref.whole cc0_scratch1
abbrev mM : Memref sig .tc .vmem S4096x1024 .bf16 := Memref.whole cc0_scratch2

/-- A unit lies inside the buffer. -/
theorem unit_inb (u : Un) : ∀ a, (![128 * u.val, 0] : Fin 2 → ℕ) a + S128x1024.size a ≤ S4096x1024.size a := by
  revert u; decide
/-- The rows of unit `u`. -/
abbrev rU (u : Un) : Rect S4096x1024 := Rect.unit (s := S4096x1024) ![128 * u.val, 0] S128x1024.size (unit_inb u)
/-- A unit of bf16 rows starts and ends between packed rows. -/
theorem unit_packed (u : Un) : (rU u).PackedRows (EltTy.packing .bf16) := by revert u; decide
/-- A unit of bf16 rows is made of whole words. -/
theorem unit_words (u : Un) : (rU u).WholeWords (EltTy.packing .bf16) := by revert u; decide

/-- Unit `u` of a buffer. -/
abbrev at' {sp : Space} {e : EltTy} (M : Memref sig .tc sp S4096x1024 e) (u : Un) : Memref sig .tc sp S128x1024 e :=
  M.slice (rU u) (fun _ => rfl)

/-- A unit of a whole bf16 buffer is made of whole words. -/
theorem unit_exact {sp : Space} (b : Memref sig .tc sp S4096x1024 .bf16) (hb : b.IsWhole) (u : Un) : (at' b u).view.WordExact :=
  hb.wordExact_slice rfl _ (unit_words u)

/-- A unit's index lies inside an array of 32 semaphores. -/
theorem inb32 (u : Un) : ∀ a, (![u.val] : Fin 1 → ℕ) a + S1.size a ≤ S32.size a := by revert u; decide
/-- An index below 11 lies inside an array of 11 semaphores. -/
theorem inb11 (k : Fin 11) : ∀ a, (![k.val] : Fin 1 → ℕ) a + S1.size a ≤ S11.size a := by revert k; decide

/-- The semaphore of unit `u` in an array of 32, and semaphore `k` of an array of 11. -/
abbrev sem32 (A : DmaSems sig S32) (u : Un) : DmaSem sig :=
  ((A.slice (Rect.unit (s := S32) ![u.val] S1.size (inb32 u))).squeeze S_ squeezes_S1_S_).sem
/-- The semaphore at an index of an array of 11. -/
abbrev sem11 (A : DmaSems sig S11) (k : Fin 11) : DmaSem sig :=
  ((A.slice (Rect.unit (s := S11) ![k.val] S1.size (inb11 k))).squeeze S_ squeezes_S1_S_).sem

/-- The barrier semaphore. -/
abbrev barS : Sem sig := (SemArray.scalar (sig.barrier 0 rfl) : Sems sig S_).sem
/-- The semaphore of the local copy of unit `u`, and of its receipt. -/
abbrev lS (u : Un) : DmaSem sig := sem32 cc0_scratch3 u
/-- The semaphore that the receipt of unit `u` raises. -/
abbrev mS (u : Un) : DmaSem sig := sem32 cc0_scratch4 u
/-- The four arrays of send semaphores. -/
abbrev arrM : Arr → DmaSems sig S11 := fun | .y => cc0_scratch5 | .x => cc0_scratch6 | .za => cc0_scratch7 | .zb => cc0_scratch8
/-- Send semaphore `k` of array `a`. -/
abbrev aS (a : Arr) (k : Fin 11) : DmaSem sig := sem11 (arrM a) k
/-- The buffer that a send reads. -/
abbrev srcM : Src → Memref sig .tc .vmem S4096x1024 .bf16 := fun | .own => ownM | .mb => mM
/-- That buffer is a whole one. -/
theorem srcM_whole (b : Src) : (srcM b).IsWhole := by cases b <;> exact Memref.isWhole_whole _

/-! ## The table's run as a program -/

/-- The programs of the kernel's body. -/
abbrev P (F : FTy → Type) : Type → Type _ := Prog (TpuEff nD τ sig (Elt F) Λ₀ .tc)

/-- One operation as a program. -/
def Op.prog : Op → P F PUnit
  | .ld u => .lift (.enqueueDma (at' xM u) (.here (at' xfM u)) (.dma (lS u)) (View.wordExact_bits rfl) (View.wordExact_bits rfl) ⟨Or.inl rfl, trivial⟩)
  | .sig n => semSignalWord n barS 1#32
  | .bar k => semWaitWord barS (BitVec.ofNat 32 k)
  | .wl u => .lift (.waitDma2 (lS u) (at' xM u) (at' xfM u) (View.wordExact_bits rfl) (View.wordExact_bits rfl))
  | .cst u => do
    let v : Vec F S128x1024 .f32 ← .lift (.load xfM (rU u).toLoadRect (View.loadsAt_vmem h_S128x1024))
    let _ : Vec F S128x1024 .bf16 ← .lift (.load ownM (rU u).toLoadRect (View.loadsAt_vmem h_S128x1024))
    .lift (.store ownM (rU u) (shapeCast S128x1024 (truncf .bf16 v bitsLt_bf16_f32 : FVec F S128x1024 .bf16) shapeCasts_S128x1024_S128x1024) Finset.univ
      (View.stores_vmem h_S128x1024 ((Memref.isWhole_whole _).storeExact_slice rfl _ (unit_packed u)) (fun _ => rfl)) (.inl rfl))
  | .snd b u n a k => .lift (.enqueueDma (at' (srcM b) u) (.remote (Dev.tc (n : Dev nD)) (at' mM u) (.dma (aS a k))) (.dma (mS u))
      (unit_exact _ (srcM_whole b) u) (unit_exact _ (Memref.isWhole_whole _) u) ⟨⟨rfl, Or.inl rfl⟩, trivial⟩)
  | .rcv u => .lift (.waitDma2 (mS u) (at' mM u) (at' mM u) (unit_exact _ (Memref.isWhole_whole _) u) (unit_exact _ (Memref.isWhole_whole _) u))
  | .add u => do
    let v : Vec F S128x1024 .bf16 ← .lift (.load ownM (rU u).toLoadRect (View.loadsAt_vmem h_S128x1024))
    let w : Vec F S128x1024 .bf16 ← .lift (.load mM (rU u).toLoadRect (View.loadsAt_vmem h_S128x1024))
    let _ : Vec F S128x1024 .bf16 ← .lift (.load outM (rU u).toLoadRect (View.loadsAt_vmem h_S128x1024))
    .lift (.store outM (rU u) (addf v w : FVec F S128x1024 .bf16) Finset.univ
      (View.stores_vmem h_S128x1024 ((Memref.isWhole_whole _).storeExact_slice rfl _ (unit_packed u)) (fun _ => rfl)) (.inl rfl))
  | .ws b u a k => .lift (.waitDma2 (aS a k) (at' mM u) (at' (srcM b) u) (unit_exact _ (Memref.isWhole_whole _) u) (unit_exact _ (srcM_whole b) u))
  | .fin _ _ => .ret ⟨⟩

/-- A list of operations as a program. -/
def run : List Op → P F PUnit
  | [] => .ret ⟨⟩
  | o :: l => o.prog >>= fun _ => run l

/-- The printed kernel on its buffers. -/
abbrev body : P F PUnit := bodyAt0 (F := F) t0_0

end Cert.AllReduce

end
-- ==== Proof.Check.lean ====
/- Which resources each operation takes and yields, and the check that every device's run respects them. -/
module

public import proofs.«01_k».proof.Proof.Table

@[expose] public section

namespace Cert.AllReduce

/-- A device's semaphores: the barrier, the local copies', the receipts', the sends'. -/
inductive Cell
  | bar
  | l (u : Un)
  | m (u : Un)
  | s (a : Arr) (k : Fin 11)
  deriving DecidableEq

/-- The number of an array of send semaphores. -/
def Arr.idx : Arr → ℕ | .y => 0 | .x => 1 | .za => 2 | .zb => 3

/-- A number for each semaphore of a device. -/
def Cell.code : Cell → ℕ
  | bar => 0
  | l u => 1 + u.val
  | m u => 33 + u.val
  | s a k => 65 + 11 * a.idx + k.val

/-- The level of the receipt of unit `u` on device `n`; a barrier is at level 1, and these above it. -/
def lev (n : D) (u : Un) : ℕ :=
  let j := if u.val < 22 then u.val % 11 else (u.val - 22) % 5
  if direct n u then 2
  else j / 3 + if isEnd n then (if u.val < 22 ∨ col u = cx n then 3 else 4)
    else if 22 ≤ u.val then 3 else if col u = cz n - 1 then (if col u = cx n then 3 else 4) else 5

/-- A resource that a device holds at some point of its run. -/
inductive Atom
  /-- Unit `u` of the argument; of its copy, with any contents and loaded. -/
  | xs (u : Un) | xfU (u : Un) | xfL (u : Un)
  /-- Unit `u` of the rounded half: with any contents, and rounded, the left and the right half of the share. -/
  | ownU (u : Un) | ownL (u : Un) | ownR (u : Un)
  /-- Unit `u` of the receive buffer: with any contents, and received, in three parts of the share. -/
  | mU (u : Un) | m0 (u : Un) | m1 (u : Un) | m2 (u : Un)
  /-- Unit `u` of the result: with any contents, and the sum. -/
  | outU (u : Un) | outD (u : Un)
  /-- For a semaphore of the device: the right to raise it, the position at its start, the credit to wait for it,
      its counter at zero. -/
  | tok (x : Cell) | pos (x : Cell) | cred (x : Cell) | zero (x : Cell)
  /-- Unit `u` of device `n`'s receive buffer, with any contents. -/
  | dst (n : D) (u : Un)
  /-- The right to raise, once, device `n`'s barrier, and its receipt of unit `u`. -/
  | btok (n : D) | mtok (n : D) (u : Un)
  deriving DecidableEq

/-- A number for each resource. -/
def Atom.code : Atom → ℕ
  | xs u => u.val
  | xfU u => 32 + u.val
  | xfL u => 64 + u.val
  | ownU u => 96 + u.val
  | ownL u => 128 + u.val
  | ownR u => 160 + u.val
  | mU u => 192 + u.val
  | m0 u => 224 + u.val
  | m1 u => 256 + u.val
  | m2 u => 288 + u.val
  | outU u => 320 + u.val
  | outD u => 352 + u.val
  | tok x => 384 + x.code
  | pos x => 512 + x.code
  | cred x => 640 + x.code
  | zero x => 768 + x.code
  | dst n u => 896 + (32 * n.val + u.val)
  | btok n => 1408 + (512 * 1 + n.val)
  | mtok n u => 1408 + (512 * (lev n u) + (32 * n.val + u.val))

open Op Atom

/-- The part of the source's share that a send lends. -/
def lent (b : Src) (a : Arr) (u : Un) : Atom := match b, a with
  | .own, _ => ownL u
  | .mb, .x => m0 u
  | .mb, _ => m1 u

/-- What an operation of device `c` takes. -/
def needs (c : D) : Op → List Atom
  | ld u => [xs u, xfU u, tok (.l u)]
  | sig n => btok n :: (unitsFrom n c).map mU
  | bar _ => [pos .bar, cred .bar]
  | wl u => [pos (.l u), cred (.l u)]
  | cst u => [xfL u, ownU u]
  | snd b u n a k => [lent b a u, dst n u, tok (.s a k), mtok n u]
  | rcv u => [pos (.m u), cred (.m u)]
  | add u => [ownR u, m2 u, outU u]
  | ws _ _ a k => [pos (.s a k), cred (.s a k)]
  | fin a k => [pos (.s a k)]

/-- What it gives back. -/
def yields (c : D) : Op → List Atom
  | ld u => [cred (.l u)]
  | sig _ => []
  | bar _ => zero .bar :: (nbr c).flatMap fun n => (unitsFrom c n).map (dst n)
  | wl u => [zero (.l u), xs u, xfL u]
  | cst u => [xfL u, ownL u, ownR u]
  | snd _ _ _ a k => [cred (.s a k)]
  | rcv u => [zero (.m u), m0 u, m1 u, m2 u]
  | add u => [ownR u, m2 u, outD u]
  | ws b u a k => [zero (.s a k), lent b a u]
  | fin a k => [zero (.s a k)]

/-- No right to raise a semaphore of another device at level `l` or below remains in the set. -/
def above (s l : ℕ) : Bool := (s >>> 1408) % 2 ^ (512 * (l + 1)) = 0

/-- What else must hold, `s` being what remains while the operation is performed. -/
def side (c : D) (s : ℕ) : Op → Bool
  | sig n => c ∈ nbr n
  | bar k => k = (nbr c).length ∧ above s 1
  | wl _ => above s 0
  | snd b u n a k => slot c a k = some (b, u) ∧ src n u = c ∧ (direct n u = decide (b = .own))
  | rcv u => above s (lev c u)
  | ws b u a k => slot c a k = some (b, u) ∧ above s 0
  | fin a k => (slot c a k).isNone
  | _ => true

/-- Take the resources of a list out of the set `s`, each being there. -/
def takeAll : List Atom → ℕ → Option ℕ
  | [], s => some s
  | a :: l, s => if s.testBit a.code then takeAll l (s ^^^ 2 ^ a.code) else none

/-- Put the resources of a list into the set `s`, none being there. -/
def putAll : List Atom → ℕ → Option ℕ
  | [], s => some s
  | a :: l, s => if s.testBit a.code then none else putAll l (s ^^^ 2 ^ a.code)

/-- Follow a list of operations. -/
def follow (c : D) : List Op → ℕ → Option ℕ
  | [], s => some s
  | o :: l, s => match takeAll (needs c o) s with
    | none => none
    | some s₁ => if side c s₁ o then (match putAll (yields c o) s₁ with | none => none | some s₂ => follow c l s₂) else none

/-- All semaphores of a device. -/
def cells : List Cell := .bar :: (units.map .l ++ (units.map .m ++ slots.map fun s => .s s.1 s.2))
/-- The send semaphores that device `c` uses. -/
def used (c : D) : List (Arr × Fin 11) := slots.filter fun s => (slot c s.1 s.2).isSome

/-- What device `c` starts with. -/
def start (c : D) : List Atom :=
  units.map xs ++ (units.map xfU ++ (units.map ownU ++ (units.map mU ++ (units.map outU ++ (cells.map pos ++ (units.map (fun u => tok (.l u))
    ++ ((used c).map (fun s => tok (.s s.1 s.2)) ++ (cred .bar :: (units.map (fun u => cred (.m u))
      ++ ((nbr c).map btok ++ devs.flatMap fun n => (unitsFrom c n).map (mtok n)))))))))))

/-- What it ends with. -/
def final : List Atom :=
  units.map xs ++ (units.map xfL ++ (units.map ownL ++ (units.map ownR ++ (units.map m0 ++ (units.map m1 ++ (units.map m2 ++ (units.map outD
    ++ cells.map zero)))))))

/-- Device `c`'s run is in order, leads from `start c` to `final` and uses up every right to raise a semaphore. -/
def good (c : D) : Bool := match putAll (start c) 0 with
  | none => false
  | some s => match follow c (ops c) s with
    | none => false
    | some s' => (takeAll final s').isSome && above s' 20

end Cert.AllReduce

end
-- ==== Proof.Checked.lean ====
/- The check of `Check.lean` succeeds, and what the tables of `Table.lean` satisfy. -/
module

public import proofs.«01_k».proof.Proof.Check

@[expose] public section

namespace Cert.AllReduce

/-- Every device's run is in order. -/
theorem good_all : ∀ c, good c = true := by decide +kernel

/-- A unit is received from its owner or passed on unchanged. -/
theorem org_direct : ∀ c u, direct c u = true → org c u = src c u := by decide +kernel
/-- A unit that is not received from its owner is, at its sender, the same owner's. -/
theorem org_passed : ∀ c u, direct c u = false → org c u = org (src c u) u := by decide +kernel
/-- A unit comes from the other side of the mesh. -/
theorem cy_org : ∀ c u, cy (org c u) = 1 - cy c := by decide +kernel
/-- Every sender is a neighbour. -/
theorem src_nbr : ∀ c u, src c u ∈ nbr c := by decide +kernel
/-- Being neighbours is mutual. -/
theorem nbr_symm : ∀ c n, c ∈ nbr n → n ∈ nbr c := by decide +kernel
/-- No neighbour is listed twice. -/
theorem nbr_nodup : ∀ c, (nbr c).Nodup := by decide +kernel
/-- The receipts' levels lie between 2 and 8. -/
theorem lev_pos : ∀ c u, 2 ≤ lev c u ∧ lev c u ≤ 8 := by decide +kernel
/-- No send semaphore is listed twice. -/
theorem slots_nodup : slots.Nodup := by decide +kernel
/-- Every send semaphore is listed. -/
theorem mem_slots : ∀ (a : Arr) (k : Fin 11), (a, k) ∈ slots := by
  intro a k; cases a <;> (revert k; decide +kernel)

/-- A semaphore's number is below 109. -/
theorem Cell.code_lt (x : Cell) : x.code < 109 := by
  rcases x with _ | u | u | ⟨a, k⟩
  · simp only [Cell.code]; omega
  · simp only [Cell.code]; omega
  · simp only [Cell.code]; omega
  · cases a <;> simp only [Cell.code, Arr.idx] <;> omega

/-- Different semaphores have different numbers. -/
theorem Cell.code_injective : Function.Injective Cell.code := by
  intro x y h
  rcases x with _ | u | u | ⟨a, k⟩ <;> rcases y with _ | v | v | ⟨b, j⟩ <;> (try cases a) <;> (try cases b) <;>
    simp only [Cell.code, Arr.idx] at h <;>
    first | rfl | (exfalso; omega) | (congr 1; exact Fin.ext (by omega))

/-- Different resources have different numbers. -/
theorem Atom.code_injective : Function.Injective Atom.code := by
  intro x y h
  have hc := Cell.code_lt
  cases x <;> cases y <;> simp only [Atom.code] at h <;>
    first
    | (exfalso; omega)
    | (congr 1 <;> exact Fin.ext (by omega))
    | (congr 1; exact Cell.code_injective (by omega))
    | (rename_i a b; exfalso; have := hc a; omega)
    | (rename_i a b; exfalso; have := hc b; omega)
    | (rename_i a b; exfalso; have := hc a; have := hc b; omega)
    | (rename_i a n u; exfalso; have := hc a; omega)
    | (rename_i a n u; exfalso; have := lev_pos n u; omega)
    | (rename_i n u a; exfalso; have := lev_pos n u; omega)

end Cert.AllReduce

end
-- ==== Proof.Holding.lean ====
/- What the check's sets of resources mean: a set `s` of numbers stands for a finite set of resources, held jointly. -/
module

public import proofs.«01_k».proof.Proof.Checked
public import Idealize.ShloMosaic.Lib.Pipeline.BigSepL

@[expose] public section

namespace Cert.AllReduce

open Idealize.SL Idealize.SL.RA Idealize.SL.BI
open scoped Idealize.SL.BI
open Idealize.SL.BI.BIBase Idealize.SL.BI.Laws

/-- The finite set `S` holds the resources whose numbers are in `s`. -/
def Rep (S : Finset Atom) (s : ℕ) : Prop := ∀ a, a ∈ S ↔ s.testBit a.code = true

/-- The number 0 stands for no resource. -/
theorem Rep.empty : Rep ∅ 0 := fun a => by simp

/-- Flipping bit `i` changes that bit alone. -/
theorem testBit_flip (s i j : ℕ) : (s ^^^ 2 ^ i).testBit j = (s.testBit j ^^ decide (i = j)) := by
  rw [Nat.testBit_xor, Nat.testBit_two_pow]

/-- Clearing a resource's bit takes the resource out. -/
theorem Rep.erase {S : Finset Atom} {s : ℕ} (h : Rep S s) {a : Atom} (ha : s.testBit a.code = true) :
    Rep (S.erase a) (s ^^^ 2 ^ a.code) := fun b => by
  rw [Finset.mem_erase, h b, testBit_flip]
  by_cases hb : b = a
  · subst hb; simp [ha]
  · have hc : a.code ≠ b.code := fun e => hb (Atom.code_injective e).symm
    simp [hb, hc]

/-- Setting a resource's bit puts the resource in. -/
theorem Rep.insert {S : Finset Atom} {s : ℕ} (h : Rep S s) {a : Atom} (ha : s.testBit a.code = false) :
    Rep (insert a S) (s ^^^ 2 ^ a.code) := fun b => by
  rw [Finset.mem_insert, h b, testBit_flip]
  by_cases hb : b = a
  · subst hb; simp [ha]
  · have hc : a.code ≠ b.code := fun e => hb (Atom.code_injective e).symm
    simp [hb, hc]

section Move
variable {M : Type} [URA M] {T : Type} [AddCommMonoid T] (Φ : Atom → sProp M) (t : Atom → T)

/-- Resources taken by the check can be split off what is held; and a sum over what is held splits the same way. -/
theorem takeAll_split : ∀ (l : List Atom) (s s' : ℕ), takeAll l s = some s' → ∀ S, Rep S s →
    ∃ S', Rep S' s' ∧ bigSep S Φ = iprop(bigSepL l Φ ∗ bigSep S' Φ) ∧ ∑ a ∈ S, t a = ∑ a ∈ S', t a + (l.map t).sum
  | [], s, s', h, S, hS => by
    obtain rfl : s = s' := Option.some.inj h
    exact ⟨S, hS, (equiv_iff.mp emp_sep).symm, by simp⟩
  | a :: l, s, s', h, S, hS => by
    unfold takeAll at h
    split at h
    next ha =>
      obtain ⟨S', hS', h₁, h₂⟩ := takeAll_split l _ s' h _ (hS.erase ha)
      refine ⟨S', hS', ?_, ?_⟩
      · rw [bigSep_erase ((hS a).mpr ha), h₁, bigSepL_cons]
        exact sep_assoc'.antisymm sep_assoc
      · rw [← Finset.add_sum_erase S t ((hS a).mpr ha), h₂, List.map_cons, List.sum_cons]; ac_rfl
    next => exact absurd h (by simp)

/-- Resources put back by the check join what is held. -/
theorem putAll_join : ∀ (l : List Atom) (s s' : ℕ), putAll l s = some s' → ∀ S, Rep S s →
    ∃ S', Rep S' s' ∧ bigSep S' Φ = iprop(bigSepL l Φ ∗ bigSep S Φ) ∧ ∑ a ∈ S', t a = ∑ a ∈ S, t a + (l.map t).sum
  | [], s, s', h, S, hS => by
    obtain rfl : s = s' := Option.some.inj h
    exact ⟨S, hS, (equiv_iff.mp emp_sep).symm, by simp⟩
  | a :: l, s, s', h, S, hS => by
    unfold putAll at h
    split at h
    next => exact absurd h (by simp)
    next ha =>
      have ha : s.testBit a.code = false := by simpa using ha
      have hn : a ∉ S := fun hm => by rw [hS a, ha] at hm; exact absurd hm (by simp)
      obtain ⟨S', hS', h₁, h₂⟩ := putAll_join l _ s' h _ (hS.insert ha)
      refine ⟨S', hS', ?_, ?_⟩
      · rw [h₁, bigSep_insert hn, bigSepL_cons]
        exact (equiv_iff.mp ⟨BI.sep_assoc', BI.sep_assoc⟩).trans (congrArg (fun x => BI.sep x _) (equiv_iff.mp ⟨BI.sep_comm, BI.sep_comm⟩)) |>.trans rfl
      · rw [h₂, Finset.sum_insert hn, List.map_cons, List.sum_cons]; ac_rfl

end Move

/-- If only levels above `l` are owed, no bit of a level up to `l` is set. -/
theorem above_testBit {s l : ℕ} (h : above s l = true) {i : ℕ} (hi : i < 512 * (l + 1)) : s.testBit (1408 + i) = false := by
  have h0 : (s >>> 1408) % 2 ^ (512 * (l + 1)) = 0 := by simpa [above] using h
  have h1 := congrArg (fun x => x.testBit i) h0
  simp only [Nat.testBit_mod_two_pow, Nat.testBit_shiftRight, Nat.zero_testBit, hi, decide_true, Bool.true_and] at h1
  exact h1

/-- Where the check sees no right at level `l` or below, none is held: no right to raise a barrier if `1 ≤ l`, and none
    to raise a receipt whose level is at most `l`. -/
theorem above_btok {S : Finset Atom} {s l : ℕ} (hS : Rep S s) (h : above s l = true) {n : D} (hm : Atom.btok n ∈ S) : l < 1 := by
  by_contra hl
  have := above_testBit h (i := 512 * 1 + n.val) (by omega)
  rw [hS, Atom.code, this] at hm
  exact absurd hm (by simp)
/-- So every receipt that is still owed has a level above `l`. -/
theorem above_mtok {S : Finset Atom} {s l : ℕ} (hS : Rep S s) (h : above s l = true) {n : D} {u : Un} (hm : Atom.mtok n u ∈ S) : l < lev n u := by
  by_contra hl
  have := above_testBit h (i := 512 * lev n u + (32 * n.val + u.val)) (by omega)
  rw [hS, Atom.code, this] at hm
  exact absurd hm (by simp)

end Cert.AllReduce

end
-- ==== Proof.Sched.lean ====
/- The protocol: what each semaphore's raises carry, and what each resource of the check is. -/
module

public import proofs.«01_k».proof.Proof.Code
public import proofs.«01_k».proof.Proof.Holding
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the protocol's rounds, and that together with the pipeline's. -/
abbrev UB : Type := URounds (GSem nD τ sig) D
abbrev UU : Type := UR sig nD τ × UB

local notation "𝕄" => MT nD τ sig Unit (Elt F) ℕ UU ℕ

/-- Where the pipeline's and the protocol's ghost state lie in the whole. -/
abbrev EP : Emb (UR sig nD τ) (MT nD τ sig Unit (Elt F) ℕ UU ℕ) := embL
abbrev ER : Emb UB (MT nD τ sig Unit (Elt F) ℕ UU ℕ) := embR

/-! ## Semaphores -/

/-- Every semaphore is listed. -/
theorem mem_cells (x : Cell) : x ∈ cells := by
  rcases x with _ | u | u | ⟨a, k⟩
  · exact List.mem_cons_self
  · exact List.mem_cons_of_mem _ (List.mem_append_left _ (List.mem_map_of_mem (List.mem_finRange u)))
  · exact List.mem_cons_of_mem _ (List.mem_append_right _ (List.mem_append_left _ (List.mem_map_of_mem (List.mem_finRange u))))
  · exact List.mem_cons_of_mem _ (List.mem_append_right _ (List.mem_append_right _
      (List.mem_map.mpr ⟨(a, k), mem_slots a k, rfl⟩)))

/-- No semaphore is listed twice. -/
theorem cells_nodup : cells.Nodup := by decide +kernel

instance : Fintype Cell := ⟨cells.toFinset, fun x => List.mem_toFinset.mpr (mem_cells x)⟩

/-- The semaphore of the mesh's program. -/
def Cell.sem : Cell → SemLoc sig
  | .bar => .reg barS
  | .l u => .dma (lS u)
  | .m u => .dma (mS u)
  | .s a k => .dma (aS a k)

/-- The semaphores' places: those of the local copies, of the receipts and of the sends. -/
theorem lS_val : ∀ u : Un, (lS u).val = 1 + u.val := by decide +kernel
theorem mS_val : ∀ u : Un, (mS u).val = 33 + u.val := by decide +kernel
theorem aS_val : ∀ (a : Arr) (k : Fin 11), (aS a k).val = 65 + 11 * a.idx + k.val := by
  intro a; cases a <;> decide +kernel

/-- Different semaphores of the protocol are different semaphores of the device. -/
theorem Cell.sem_injective : Function.Injective Cell.sem := by
  have h0 : ∀ x : Cell, x ≠ .bar → ∃ q : DmaSem sig, x.sem = .dma q ∧ q.val = x.code := by
    rintro (_ | u | u | ⟨a, k⟩) h
    · exact absurd rfl h
    · exact ⟨_, rfl, lS_val u⟩
    · exact ⟨_, rfl, mS_val u⟩
    · exact ⟨_, rfl, aS_val a k⟩
  intro x y h
  by_cases hx : x = .bar <;> by_cases hy : y = .bar
  · rw [hx, hy]
  · obtain ⟨q, hq, -⟩ := h0 y hy
    rw [hx, hq] at h; exact absurd h (fun e => by cases e)
  · obtain ⟨q, hq, -⟩ := h0 x hx
    rw [hy, hq] at h; exact absurd h (fun e => by cases e)
  · obtain ⟨q, hq, hv⟩ := h0 x hx
    obtain ⟨q', hq', hv'⟩ := h0 y hy
    rw [hq, hq'] at h
    have : q = q' := by injection h
    exact Cell.code_injective (by rw [← hv, ← hv', this])

/-- The semaphore `x` of device `c`. -/
abbrev cell (c : D) (x : Cell) : GSem nD τ sig := (((c : Dev nD) : Thread nD τ), x.sem)

/-- A semaphore of the machine names its device and its place in the protocol. -/
theorem cell_inj {c c' : D} {x x' : Cell} (h : cell c x = cell c' x') : c = c' ∧ x = x' :=
  ⟨by have := congrArg (fun g : GSem nD τ sig => g.1.1) h; exact this, Cell.sem_injective (congrArg Prod.snd h)⟩

/-- Which of the protocol's semaphores one of the program's is. -/
def dec (sm : SemLoc sig) : Option Cell := cells.find? fun x => x.sem = sm

/-- A semaphore's place in the protocol is found again. -/
theorem dec_sem (x : Cell) : dec x.sem = some x := by
  unfold dec
  cases h : cells.find? fun y => y.sem = x.sem with
  | none => exact absurd (List.find?_eq_none.mp h x (mem_cells x)) (by simp)
  | some y => exact congrArg some (Cell.sem_injective (by simpa using List.find?_some h))

/-! ## Amounts and levels -/

/-- What a unit's local copy and what a unit's transfer count. -/
def NL : ℕ := (at' xfM 0).view.dmaCredit
/-- The amount by which a copy of a bf16 unit raises its semaphore. -/
def NM : ℕ := (at' mM 0).view.dmaCredit
/-- Every local copy of a unit raises its semaphore by the same amount. -/
theorem NL_eq (u : Un) : (at' xfM u).view.dmaCredit = NL := rfl
/-- Every receipt of a unit raises its semaphore by the same amount. -/
theorem NM_eq (u : Un) : (at' mM u).view.dmaCredit = NM := rfl
/-- Every send of a unit raises its semaphore by that amount too. -/
theorem NO_eq (b : Src) (u : Un) : (at' (srcM b) u).view.dmaCredit = NM := by cases b <;> rfl
/-- A copy of an f32 unit raises its semaphore. -/
theorem NL_pos : 0 < NL := View.dmaCredit_pos _ (by decide)
/-- A copy of a bf16 unit raises its semaphore. -/
theorem NM_pos : 0 < NM := View.dmaCredit_pos _ (by decide)

def amt : Cell → ℕ
  | .bar => 1
  | .l _ => NL
  | _ => NM
/-- Every raise is by a positive amount. -/
theorem amt_pos (x : Cell) : 0 < amt x := by cases x <;> first | exact Nat.one_pos | exact NL_pos | exact NM_pos

/-- Which devices raise semaphore `x` of device `c`. -/
def payers (c : D) : Cell → Finset D
  | .bar => (nbr c).toFinset
  | .l _ => {c}
  | .m u => {src c u}
  | .s a k => if (slot c a k).isSome then {c} else ∅

/-- Waits are ordered on the TensorCores' semaphores. -/
def L (g : GSem nD τ sig) : Finset Unit := if g.1.2 = .tc then {()} else ∅
/-- A barrier is at level 1, a receipt at its level, and every other semaphore at level 0. -/
def lv (g : GSem nD τ sig) (_ : Unit) : ℕ := match dec g.2 with
  | some .bar => 1
  | some (.m u) => lev g.1.1 u
  | _ => 0

/-- Elsewhere there is nothing to order. -/
theorem L_of_ne (g : GSem nD τ sig) (h : g.1.2 ≠ .tc) : L g = ∅ := if_neg h
/-- On a TensorCore every semaphore has one level. -/
theorem L_tc (c : Dev nD) (sm : SemLoc sig) : L ((c : Thread nD τ), sm) = {()} := if_pos rfl
/-- The level of each semaphore of the protocol. -/
theorem lv_cell (c : D) (x : Cell) : lv (cell c x) () = match x with | .bar => 1 | .m u => lev c u | _ => 0 := by
  unfold lv; rw [dec_sem]; cases x <;> rfl

/-! ## Contents -/

variable (m : (ℓ : Loc nD τ sig) → Buf (Elt F) ℓ)

/-- Device `d`'s half of the argument, its rounding, and the unit of a row. -/
def X (d : D) : S4096x1024.Idx → Elt F .f32 := m (((d : Dev nD) : Thread nD τ).loc main_arg0)
/-- Device `d`'s half, rounded. -/
def OWN (d : D) : S4096x1024.Idx → Elt F .bf16 := fun i => FloatOps.truncf .bf16 bitsLt_bf16_f32 (X m d i)
/-- The unit that an index lies in. -/
def unitOf (i : S4096x1024.Idx) : Un := Fin.ofNat 32 ((i 0).val / 128)
/-- What device `d` receives: each unit is the rounded unit of the device that it comes from. -/
def MB (d : D) : S4096x1024.Idx → Elt F .bf16 := fun i => OWN m (org d (unitOf i)) i
/-- The result on device `d`. -/
def OUT (d : D) : S4096x1024.Idx → Elt F .bf16 := fun i => FloatOps.addf (OWN m d i) (MB m d i)

/-! ## What is held -/

/-- Unit `u` of a device's buffer at given contents and share: the argument, its copy, its rounding, the units received, the result. -/
def hX (d : D) (u : Un) : sProp 𝕄 := ((d : Dev nD) : Thread nD τ).loc main_arg0 ↦[(rU u).set]{fullShare} X m d
def hF (d : D) (u : Un) (f : S4096x1024.Idx → Elt F .f32) : sProp 𝕄 := ((d : Dev nD) : Thread nD τ).loc cc0_scratch0 ↦[(rU u).set]{fullShare} f
def hO (d : D) (u : Un) (q : PosShare TreeShare) (f : S4096x1024.Idx → Elt F .bf16) : sProp 𝕄 :=
  ((d : Dev nD) : Thread nD τ).loc cc0_scratch1 ↦[(rU u).set]{q} f
def hM (d : D) (u : Un) (q : PosShare TreeShare) (f : S4096x1024.Idx → Elt F .bf16) : sProp 𝕄 :=
  ((d : Dev nD) : Thread nD τ).loc cc0_scratch2 ↦[(rU u).set]{q} f
def hR (d : D) (u : Un) (f : S4096x1024.Idx → Elt F .bf16) : sProp 𝕄 := ((d : Dev nD) : Thread nD τ).loc cc0_stg0_0 ↦[(rU u).set]{fullShare} f

/-- What a send on array `a` of unit `u` of buffer `b` lends. -/
def hLent (c : D) (b : Src) (a : Arr) (u : Un) : sProp 𝕄 := match b, a with
  | .own, _ => hO c u fullShare.left (OWN m c)
  | .mb, .x => hM c u fullShare.left (MB m c)
  | .mb, _ => hM c u fullShare.right.left (MB m c)

/-- What device `d`'s raise of semaphore `x` of device `c` hands over: of the barrier, the units of `d`'s receive buffer that
    `c` will send; of a local copy, the copied unit; of a receipt, the unit; of a send, what was lent to it. -/
def pay (c : D) (x : Cell) (d : D) : sProp 𝕄 := match x with
  | .bar => bigSepL (unitsFrom c d) fun u => iprop(∃ f, hM d u fullShare f)
  | .l u => iprop(hX m c u ∗ hF c u (X m c))
  | .m u => hM c u fullShare (MB m c)
  | .s a k => match slot c a k with
    | some (b, u) => hLent m c b a u
    | none => iprop(emp)

/-- The protocol: one round of raises per semaphore. -/
def sched : Rounds.Schedule (GSem nD τ sig) D 𝕄 where
  duties g r := if r = 0 ∧ g.1.2 = .tc then (match dec g.2 with | some x => payers g.1.1 x | none => ∅) else ∅
  unitless _ := False
  amount g _ _ := match dec g.2 with | some x => amt x | none => 1
  payload g _ d := match dec g.2 with | some x => pay m g.1.1 x d | none => iprop(emp)
  amount_pos g _ _ _ := by split; exacts [amt_pos _, Nat.one_pos]

/-- What a resource of the check is, on device `c`. -/
def interp (c : D) : Atom → sProp 𝕄
  | .xs u => hX m c u
  | .xfU u => iprop(∃ f, hF c u f)
  | .xfL u => hF c u (X m c)
  | .ownU u => iprop(∃ f, hO c u fullShare f)
  | .ownL u => hO c u fullShare.left (OWN m c)
  | .ownR u => hO c u fullShare.right (OWN m c)
  | .mU u => iprop(∃ f, hM c u fullShare f)
  | .m0 u => hM c u fullShare.left (MB m c)
  | .m1 u => hM c u fullShare.right.left (MB m c)
  | .m2 u => hM c u fullShare.right.right (MB m c)
  | .outU u => iprop(∃ f, hR c u f)
  | .outD u => hR c u (OUT m c)
  | .tok x => dutyTok ER (cell c x) 0 c
  | .pos x => atPos ER (cell c x) 0 ∅ 0
  | .cred x => cred (tallyAt (cell c x) () (match x with | .bar => (nbr c).length | x => amt x))
  | .zero x => semVal (cell c x) 0
  | .dst n u => iprop(∃ f, hM n u fullShare f)
  | .btok n => dutyTok ER (cell n .bar) 0 c
  | .mtok n u => dutyTok ER (cell n (.m u)) 0 c

/-- What a right to raise obliges to. -/
def due : Atom → CellTallies nD τ sig Unit
  | .btok n => tallyAt (cell n .bar) () 1
  | .mtok n u => tallyAt (cell n (.m u)) () NM
  | _ => 0

/-! ## The protocol's fields at its semaphores -/

section At
variable (c : D) (x : Cell)

/-- In its one round a semaphore is raised by its payers. -/
theorem duties_at : (sched (F := F) m).duties (cell c x) 0 = payers c x := by
  dsimp only [sched]; rw [if_pos ⟨rfl, rfl⟩, dec_sem]
/-- After it nobody raises the semaphore. -/
theorem duties_later (g : GSem nD τ sig) : ∀ r, 1 ≤ r → (sched (F := F) m).duties g r = ∅ :=
  fun r hr => by dsimp only [sched]; rw [if_neg fun h => by omega]
/-- Each payer raises it by the semaphore's amount. -/
theorem amount_at (d : D) : (sched (F := F) m).amount (cell c x) 0 d = amt x := by dsimp only [sched]; rw [dec_sem]
/-- Each payer's raise carries what the protocol says. -/
theorem payload_at (d : D) : (sched (F := F) m).payload (cell c x) 0 d = pay m c x d := by dsimp only [sched]; rw [dec_sem]
/-- The whole round is one amount for each payer. -/
theorem expect_at : (sched (F := F) m).expect (cell c x) 0 = (payers c x).card * amt x := by
  unfold Schedule.expect Schedule.amountOf
  rw [duties_at, Finset.sum_congr rfl fun d _ => amount_at m c x d, Finset.sum_const, smul_eq_mul]
/-- A wait for the whole round receives what all payers' raises carry. -/
theorem rest_at : bigSep ((sched (F := F) m).duties (cell c x) 0 \ ∅) (fun d => (sched (F := F) m).payload (cell c x) 0 d)
    = bigSep (payers c x) (pay m c x) := by
  rw [Finset.sdiff_empty, duties_at]; exact bigSep_congr fun d _ => payload_at m c x d

end At

/-- A unit of the receive buffer can be carried by a raise. -/
instance hM_storable (d : D) (u : Un) (q : PosShare TreeShare) (f) : BI.Storable (upEmb : UEmb _ 𝕄) (hM (F := F) d u q f) := by
  unfold hM; infer_instance

/-- What the protocol says a raise carries can be carried. -/
instance pay_storable (c : D) (x : Cell) (d : D) : BI.Storable (upEmb : UEmb _ 𝕄) (pay m c x d) := by
  unfold pay
  split
  · induction unitsFrom c d with
    | nil => exact (inferInstance : BI.Storable (upEmb : UEmb _ 𝕄) iprop(emp))
    | cons u l ih => rw [bigSepL_cons']; infer_instance
  · unfold hX hF; infer_instance
  · infer_instance
  · split
    · unfold hLent hO; split <;> infer_instance
    · infer_instance

/-- So can what the schedule says. -/
instance sched_payload_storable (g : GSem nD τ sig) (r : ℕ) (d : D) :
    BI.Storable (upEmb : UEmb _ 𝕄) ((sched (F := F) m).payload g r d) := by
  show BI.Storable upEmb (match dec g.2 with | some x => pay m g.1.1 x d | none => iprop(emp))
  split <;> infer_instance

end Cert.AllReduce

end
-- ==== Proof.Steps.lean ====
/- Each operation, run from the resources that it needs, leaves the resources that it yields. -/
module

public import proofs.«01_k».proof.Proof.Sched
public import Idealize.ShloMosaic.Lib.Pipeline.Value

@[expose] public section

set_option maxRecDepth 4000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : D × Cell → ℕ)

/-! ## What every step may use: the semaphores' invariants, that their round is open, and the levels -/

/-- Every semaphore's level. -/
@[irreducible] def levs : sProp 𝕄 := levAts L lv

/-- What is known of the levels stays known. -/
instance levs_persistent : BI.Persistent (levs (F := F)) := by unfold levs; infer_instance

/-- What is known of every semaphore: its invariant, that its round has begun, and the levels. -/
def records : sProp 𝕄 :=
  iprop((bigSep Finset.univ fun p : D × Cell => cellInv ER (sched m) (K p) (cell p.1 p.2))
    ∗ (bigSep Finset.univ fun p : D × Cell => reached ER (cell p.1 p.2) 0) ∗ levs)

/-- What is known of the semaphores stays known. -/
instance records_persistent : BI.Persistent (records (F := F) m K) := by unfold records; infer_instance

/-- It holds the invariant of each semaphore. -/
theorem inv_at (c : D) (x : Cell) : records (F := F) m K ⊢ cellInv ER (sched m) (K (c, x)) (cell c x) := by
  have h : (bigSep Finset.univ fun p : D × Cell => (cellInv ER (sched m) (K p) (cell p.1 p.2) : sProp 𝕄)) ⊢ cellInv ER (sched m) (K (c, x)) (cell c x) :=
    bigSep_elim (Finset.mem_univ (c, x))
  unfold records
  iintro ⟨H, -⟩
  iapply h; iexact H
/-- It holds that each semaphore's round has begun. -/
theorem reached_at (c : D) (x : Cell) : records (F := F) m K ⊢ reached ER (cell c x) 0 := by
  have h : (bigSep Finset.univ fun p : D × Cell => (reached ER (cell p.1 p.2) 0 : sProp 𝕄)) ⊢ reached ER (cell c x) 0 :=
    bigSep_elim (Finset.mem_univ (c, x))
  unfold records
  iintro ⟨-, H, -⟩
  iapply h; iexact H
/-- It holds the levels. -/
theorem levels_at : records (F := F) m K ⊢ levs (F := F) := by
  unfold records
  iintro ⟨-, -, H⟩; iexact H

/-- The right to wait on semaphore `x` of device `c` with the rights of `S` outstanding, none of them at or below `x`'s level. -/
theorem mayWait (c : D) (x : Cell) {S : Finset Atom} {s l : ℕ} (hS : Rep S s) (h : above s l = true) (hx : lv (cell c x) () ≤ l) :
    records (F := F) m K ⊢ MayWait ((c : Dev nD) : Thread nD τ) x.sem () (∑ a ∈ S, due a) := by
  have key : ∀ (g : GSem nD τ sig) (ι : Unit), 0 < (∑ a ∈ S, due a) g ι → () ∈ L g ∧ l < lv g () := by
    intro g ι hg
    rw [Finset.sum_apply, Finsupp.finset_sum_apply] at hg
    obtain ⟨a, ha, hpos⟩ : ∃ a ∈ S, 0 < due a g ι := by
      by_contra hn
      rw [Finset.sum_eq_zero fun a ha => Nat.eq_zero_of_not_pos fun hp => hn ⟨a, ha, hp⟩] at hg
      exact absurd hg (lt_irrefl 0)
    cases a with
    | btok n =>
      rw [due, tallyAt_apply] at hpos
      split at hpos
      next e => rw [e.1, L_tc, lv_cell]; exact ⟨Finset.mem_singleton_self _, above_btok hS h ha⟩
      next => exact absurd hpos (lt_irrefl 0)
    | mtok n u =>
      rw [due, tallyAt_apply] at hpos
      split at hpos
      next e => rw [e.1, L_tc, lv_cell]; exact ⟨Finset.mem_singleton_self _, above_mtok hS h ha⟩
      next => exact absurd hpos (lt_irrefl 0)
    | _ => simp only [due, Pi.zero_apply, Finsupp.coe_zero, lt_self_iff_false] at hpos
  generalize (∑ a ∈ S, due a) = O at key ⊢
  have h2 : levs (F := F) ⊢ MayWait ((c : Dev nD) : Thread nD τ) x.sem () O := by
    unfold levs
    refine MayOwe.of_cut (L := L) (lev := lv) l (fun p hp => ?_) (fun g ι hg => (key g ι hg).1) (fun p hp => ?_) (fun g ι hg => (key g ι hg).2)
    · rw [Finset.mem_singleton.mp hp, show L (((c : Dev nD) : Thread nD τ), x.sem) = {()} from L_tc c x.sem]; exact Finset.mem_singleton_self _
    · rw [Finset.mem_singleton.mp hp]; exact hx
  iintro H
  iapply h2
  iapply (levels_at m K)
  iexact H

/-! ## Windows -/

/-- The part of the argument that a unit's copy reads is that unit. -/
theorem xM_set (u : Un) : (at' xM u).view.set = (rU u).set := View.set_slice_whole _ _
/-- The part of the f32 copy that a unit's copy writes is that unit. -/
theorem xfM_set (u : Un) : (at' xfM u).view.set = (rU u).set := View.set_slice_whole _ _
/-- The part of the receive buffer that a send reads or writes is the unit. -/
theorem mM_set (u : Un) : (at' mM u).view.set = (rU u).set := View.set_slice_whole _ _
/-- The part of the rounded half that a send reads is the unit. -/
theorem ownM_set (u : Un) : (at' ownM u).view.set = (rU u).set := View.set_slice_whole _ _

/-- An element of a unit's rows is under the unit's window. -/
theorem mem_window {u : Un} {i : S4096x1024.Idx} (hi : i ∈ (rU u).set) : ∃ x, (rU u).emb x = i := by
  rw [← Rect.map_emb_univ] at hi
  obtain ⟨x, -, hx⟩ := Finset.mem_map.mp hi
  exact ⟨x, hx⟩

/-- A unit copied from one buffer to another holds what it was copied from. -/
theorem copy_x (u : Un) (fd fs : S4096x1024.Idx → Elt F .f32) : ∀ i ∈ (rU u).set,
    (at' xfM u).view.write (Elt F) fd ((at' xM u).view.read (Elt F) fs) Finset.univ i = fs i := by
  intro i hi
  obtain ⟨x, rfl⟩ := mem_window hi
  exact View.write_emb_of_mem (v := (at' xfM u).view) (Val := Elt F) fd _ (Finset.mem_univ x)
/-- Where a unit has been received, the receive buffer holds what the sender's buffer held. -/
theorem copy_m (b : Src) (u : Un) (fd fs : S4096x1024.Idx → Elt F .bf16) : ∀ i ∈ (rU u).set,
    (at' mM u).view.write (Elt F) fd (match b with | .own => (at' ownM u).view.read (Elt F) fs | .mb => (at' mM u).view.read (Elt F) fs) Finset.univ i = fs i := by
  intro i hi
  obtain ⟨x, rfl⟩ := mem_window hi
  cases b <;> exact View.write_emb_of_mem (v := (at' mM u).view) (Val := Elt F) fd _ (Finset.mem_univ x)

/-- The rows of unit `u` belong to unit `u`. -/
theorem unitOf_eq {u : Un} {i : S4096x1024.Idx} (hi : i ∈ (rU u).set) : unitOf i = u := by
  obtain ⟨x, rfl⟩ := mem_window hi
  have h0 : ((rU u).emb x 0).val = 128 * u.val + 1 * (x 0).val := rfl
  have h1 : (x 0).val < 128 := (x 0).isLt
  have h2 := u.isLt
  unfold unitOf
  refine Fin.ext ?_
  show ((rU u).emb x 0).val / 128 % 32 = u.val
  rw [h0]; omega

/-- Loads and stores of a unit are under its window. -/
theorem store_own (u : Un) (f : S4096x1024.Idx → Elt F .bf16) (w : S128x1024.Idx → Elt F .bf16) (x : S128x1024.Idx) :
    ((ownM.access (rU u)).write (Elt F) f w Finset.univ) ((rU u).emb x) = w x :=
  View.write_emb_of_mem (v := (ownM.access (rU u))) (Val := Elt F) f _ (Finset.mem_univ x)
/-- A stored unit of the result holds the words that were stored. -/
theorem store_out (u : Un) (f : S4096x1024.Idx → Elt F .bf16) (w : S128x1024.Idx → Elt F .bf16) (x : S128x1024.Idx) :
    ((outM.access (rU u)).write (Elt F) f w Finset.univ) ((rU u).emb x) = w x :=
  View.write_emb_of_mem (v := (outM.access (rU u))) (Val := Elt F) f _ (Finset.mem_univ x)

/-- A load of a unit of the f32 copy reads that unit only. -/
theorem sub_xf (u : Un) : (xfM.view.setOn (rU u).toLoadRect.set) ⊆ (rU u).set := by
  intro i hi; obtain ⟨x, hx, rfl⟩ := Finset.mem_map.mp hi; exact hx
/-- A load of a unit of the rounded half reads that unit only. -/
theorem sub_own (u : Un) : (ownM.view.setOn (rU u).toLoadRect.set) ⊆ (rU u).set := by
  intro i hi; obtain ⟨x, hx, rfl⟩ := Finset.mem_map.mp hi; exact hx
/-- A load of a unit of the receive buffer reads that unit only. -/
theorem sub_m (u : Un) : (mM.view.setOn (rU u).toLoadRect.set) ⊆ (rU u).set := by
  intro i hi; obtain ⟨x, hx, rfl⟩ := Finset.mem_map.mp hi; exact hx
/-- A load of a unit of the result reads that unit only. -/
theorem sub_out (u : Un) : (outM.view.setOn (rU u).toLoadRect.set) ⊆ (rU u).set := by
  intro i hi; obtain ⟨x, hx, rfl⟩ := Finset.mem_map.mp hi; exact hx
/-- A store of a unit of the rounded half writes that unit only. -/
theorem acc_own (u : Un) : (ownM.access (rU u)).setOn Finset.univ ⊆ (rU u).set := by
  rw [View.setOn_univ]; exact (View.set_slice_whole _ _).subset
/-- A store of a unit of the result writes that unit only. -/
theorem acc_out (u : Un) : (outM.access (rU u)).setOn Finset.univ ⊆ (rU u).set := by
  rw [View.setOn_univ]; exact (View.set_slice_whole _ _).subset

/-- The weakest precondition of a program on device `c`. -/
abbrev WP (c : D) (p : P F PUnit.{1}) (Q : PUnit.{1} → sProp 𝕄) : sProp 𝕄 :=
  wp frame (wpE (defs₀ (F := F)) Variants.none ((c : Dev nD) : Thread nD τ) none) Set.univ p Q

variable (c : D) (O : CellTallies nD τ sig Unit) (W : Waits sig Unit) (k : PUnit.{1} → P F PUnit.{1})
variable (Q : PUnit.{1} → sProp (MT nD τ sig Unit (Elt F) ℕ UU ℕ))

/-- Starting the local copy of a unit. -/
theorem step_ld (u : Un) :
    iprop(records m K ∗ hX m c u ∗ (∃ f, hF c u f) ∗ dutyTok ER (cell c (.l u)) 0 c)
      ⊢ iprop((cred (tallyAt (cell c (.l u)) () NL) -∗ WP c (k ⟨⟩) Q) -∗ WP c ((Op.ld u).prog >>= k) Q) := by
  have hd : c ∈ (sched (F := F) m).duties (((c : Dev nD) : Thread nD τ), SemLoc.dma (lS u)) 0 := by
    rw [show ((((c : Dev nD) : Thread nD τ), SemLoc.dma (lS u)) : GSem nD τ sig) = cell c (.l u) from rfl, duties_at]; exact Finset.mem_singleton_self _
  have hp (f : S4096x1024.Idx → Elt F .f32) : iprop((((at' xfM u).view.loc ((c : Dev nD) : Thread nD τ)) ↦[(at' xfM u).view.set]{fullShare} ((at' xfM u).view.write (Elt F) f ((at' xM u).view.read (Elt F) (X m c)) Finset.univ))
      ∗ (((at' xM u).view.loc ((c : Dev nD) : Thread nD τ)) ↦[(at' xM u).view.set]{fullShare} X m c)) ⊢ ((sched (F := F) m).payload (((c : Dev nD) : Thread nD τ), SemLoc.dma (lS u)) 0 c : sProp 𝕄) := by
    rw [show ((((c : Dev nD) : Thread nD τ), SemLoc.dma (lS u)) : GSem nD τ sig) = cell c (.l u) from rfl, payload_at, pay, hX, hF, xM_set, xfM_set]
    iintro ⟨H1, H2⟩
    isplitl [H2]; · iexact H2
    have h := Entails.of_eq (pointsTo_congr (ℓ := ((c : Dev nD) : Thread nD τ).loc cc0_scratch0) (q := fullShare) (Ix := Unit) (Name := ℕ) (U := UU) (Lvl := ℕ) (copy_x (F := F) u f (X m c)))
    iapply h; iexact H1
  unfold Op.prog hX hF
  simp only [Prog.lift, Prog.bind_op, Prog.bind_ret]
  iintro ⟨#HR, HX, ⟨%f, HF⟩, Ht⟩ Hk
  iapply (Rounds.wp_copy_pointsTo Variants.none ER (sched m) ((c : Dev nD) : Thread nD τ) none (κ := K (c, .l u)) (r := 0) (d := c) (q := fullShare)
      (fs := X m c) (fd := f) (src := at' xM u) (dst := at' xfM u) (sem := .dma (lS u)) hd () NL (NL_eq u) (amount_at m c (.l u) c) (hp f)) $$ [HX HF Ht]
  · isplitr; · iapply (inv_at m K c (.l u)); iexact HR
    isplitl [HX]; · rw [xM_set]; iexact HX
    isplitl [HF]; · rw [xfM_set]; iexact HF
    isplitl [Ht]; · iexact Ht
    iapply (reached_at m K c (.l u)); iexact HR
  iexact Hk

/-- Signalling a neighbour's barrier, handing it the units of the receive buffer that it sends. -/
theorem step_sig (n : D) (hn : c ∈ nbr n) :
    iprop(records m K ∗ owes ((c : Dev nD) : Thread nD τ) (O + tallyAt (cell n .bar) () 1) W ∗ dutyTok ER (cell n .bar) 0 c ∗ pay m n .bar c)
      ⊢ iprop((owes ((c : Dev nD) : Thread nD τ) O W -∗ WP c (k ⟨⟩) Q) -∗ WP c ((Op.sig n).prog >>= k) Q) := by
  unfold Op.prog
  simp only [semSignalWord, Prog.bind_op, Prog.bind_ret]
  iintro ⟨#HR, Ho, Ht, Hp⟩ Hk
  iapply (Rounds.wp_signal Variants.none ER (sched m) ((c : Dev nD) : Thread nD τ) none (dst := ((n : Dev nD) : Thread nD τ)) (κ := K (n, .bar)) (sem := barS) (r := 0)
      (d := c) (k' := 1) (by rw [show ((((n : Dev nD) : Thread nD τ), SemLoc.reg barS) : GSem nD τ sig) = cell n .bar from rfl, duties_at]; exact List.mem_toFinset.mpr hn)
      (amount_at m n .bar c) () O rfl) $$ [Ho Ht Hp]
  · isplitr; · iapply (inv_at m K n .bar); iexact HR
    isplitl [Ho]; · iexact Ho
    isplitl [Ht]; · iexact Ht
    isplitl [Hp]; · rw [show ((((n : Dev nD) : Thread nD τ), SemLoc.reg barS) : GSem nD τ sig) = cell n .bar from rfl, payload_at]; iexact Hp
    iapply (reached_at m K n .bar); iexact HR
  iexact Hk

/-- The number of neighbours, as the kernel's word, is that number. -/
theorem deg_word : ∀ c : D, (BitVec.ofNat 32 (nbr c).length).toInt = (((nbr c).length : ℕ) : ℤ) := by decide +kernel

/-- Waiting for every neighbour's signal. -/
theorem step_bar :
    iprop(records m K ∗ owes ((c : Dev nD) : Thread nD τ) O W ∗ MayWait ((c : Dev nD) : Thread nD τ) (Cell.bar.sem) () O
        ∗ atPos ER (cell c .bar) 0 ∅ 0 ∗ cred (tallyAt (cell c .bar) () (nbr c).length))
      ⊢ iprop((((∃ W', owes ((c : Dev nD) : Thread nD τ) O W') ∗ semVal (cell c .bar) 0 ∗ bigSep (payers c .bar) (pay m c .bar)) -∗ WP c (k ⟨⟩) Q)
          -∗ WP c ((Op.bar (nbr c).length).prog >>= k) Q) := by
  unfold Op.prog
  simp only [semWaitWord, Prog.bind_op, Prog.bind_ret]
  rw [deg_word c]
  iintro ⟨#HR, Ho, Hw, Hat, Hc⟩ Hk
  iapply (Rounds.wp_wait_rest_token Variants.none ER (sched m) ((c : Dev nD) : Thread nD τ) none (κ := K (c, .bar)) (sm := Cell.bar.sem)
      (wpE_semWait_eq Variants.none ((c : Dev nD) : Thread nD τ) none Set.univ) (Set.mem_univ _) () (O := O) (W := W) (R := 0) (m := 0) (T := ∅)
      (by rw [expect_at, Nat.zero_add]; show _ = (nbr c).toFinset.card * 1; rw [List.toFinset_card_of_nodup (nbr_nodup c), Nat.mul_one])) $$ [Ho Hw Hat Hc]
  · isplitr; · iapply (inv_at m K c .bar); iexact HR
    isplitl [Hc]; · iexact Hc
    isplitl [Ho]; · iexact Ho
    isplitl [Hw]; · iexact Hw
    iexact Hat
  iintro ⟨Ho, Hat, -, Hp⟩
  imod (Rounds.cell_close ER (sched m) (Set.mem_univ (K (c, .bar))) (fun h => h) (R := 0 + 1) (duties_later m (cell c .bar))) $$ [Hat] with Hz
  · isplitr; · iapply (inv_at m K c .bar); iexact HR
    iexact Hat
  iapply Hk
  isplitl [Ho]; · iexists _; iexact Ho
  isplitl [Hz]; · iexact Hz
  iapply (Entails.of_eq (rest_at m c .bar)); iexact Hp

/-- Waiting on a DMA semaphore that one device raises, once: what its raise carries comes, and the semaphore closes. -/
theorem step_wait (x : Cell) (d : D) (q : DmaSem sig) (hq : x.sem = .dma q) (hd : payers c x = {d})
    {sp sp' : Space} {s s' : Shape} {e e' : EltTy} (M : Memref sig .tc sp' s' e') (M' : Memref sig .tc sp s e)
    (hM : M.view.WordExact) (hM' : M'.view.WordExact) (ha : M'.view.dmaCredit = amt x) :
    iprop(records m K ∗ owes ((c : Dev nD) : Thread nD τ) O W ∗ MayWait ((c : Dev nD) : Thread nD τ) x.sem () O
        ∗ atPos ER (cell c x) 0 ∅ 0 ∗ cred (tallyAt (cell c x) () (amt x)))
      ⊢ iprop((((∃ W', owes ((c : Dev nD) : Thread nD τ) O W') ∗ semVal (cell c x) 0 ∗ pay m c x d) -∗ WP c (k ⟨⟩) Q)
          -∗ WP c (.op (.waitDma2 q M M' hM hM') k) Q) := by
  iintro ⟨#HR, Ho, Hw, Hat, Hc⟩ Hk
  iapply (Rounds.wp_wait_rest_token Variants.none ER (sched m) ((c : Dev nD) : Thread nD τ) none (κ := K (c, x)) (sm := x.sem) (k' := amt x)
      (by intro K'; rw [hq, ← ha]; exact wpE_waitDma2_eq Variants.none ((c : Dev nD) : Thread nD τ) none Set.univ K') (Set.mem_univ _) () (O := O) (W := W) (R := 0) (m := 0) (T := ∅)
      (by rw [expect_at, Nat.zero_add, hd, Finset.card_singleton, Nat.one_mul])) $$ [Ho Hw Hat Hc]
  · isplitr; · iapply (inv_at m K c x); iexact HR
    isplitl [Hc]; · iexact Hc
    isplitl [Ho]; · iexact Ho
    isplitl [Hw]; · iexact Hw
    iexact Hat
  iintro ⟨Ho, Hat, -, Hp⟩
  imod (Rounds.cell_close ER (sched m) (Set.mem_univ (K (c, x))) (fun h => h) (R := 0 + 1) (duties_later m (cell c x))) $$ [Hat] with Hz
  · isplitr; · iapply (inv_at m K c x); iexact HR
    iexact Hat
  iapply Hk
  isplitl [Ho]; · iexists _; iexact Ho
  isplitl [Hz]; · iexact Hz
  iapply (Entails.of_eq ((rest_at m c x).trans (by rw [hd, bigSep_singleton]))); iexact Hp

/-- Closing a semaphore that nobody raises. -/
theorem step_fin (x : Cell) (hd : payers c x = ∅) (p : P F PUnit) :
    iprop(records m K ∗ atPos ER (cell c x) 0 ∅ 0) ⊢ iprop((semVal (cell c x) 0 -∗ WP c p Q) -∗ WP c p Q) := by
  iintro ⟨#HR, Hat⟩ Hk
  imod (Rounds.cell_close ER (sched m) (Set.mem_univ (K (c, x))) (fun h => h) (R := 0) (fun r _ => by
    rcases Nat.eq_zero_or_pos r with h | h
    · rw [h, duties_at, hd]
    · exact duties_later m (cell c x) r h)) $$ [Hat] with Hz
  · isplitr; · iapply (inv_at m K c x); iexact HR
    iexact Hat
  iapply Hk; iexact Hz

/-- What a send lends, as a share of its source's unit. -/
def srcVal (c : D) (b : Src) : S4096x1024.Idx → Elt F .bf16 := match b with | .own => OWN m c | .mb => MB m c

/-- What is sent is what its receiver is to hold. -/
theorem sent_eq {n : D} {b : Src} {u : Un} (hs : src n u = c) (hb : direct n u = decide (b = .own)) :
    ∀ i ∈ (rU u).set, srcVal m c b i = MB m n i := by
  intro i hi
  unfold MB srcVal
  rw [unitOf_eq hi]
  cases b with
  | own => rw [org_direct n u (by rw [hb]; rfl), hs]
  | mb =>
    show MB m c i = _
    unfold MB
    rw [unitOf_eq hi, org_passed n u (by rw [hb]; rfl), hs]

/-- A send that has ended gives back the share of the unit that it read. -/
theorem pay_slot {b : Src} {u : Un} {a : Arr} {j : Fin 11} (hs : slot c a j = some (b, u)) : pay m c (.s a j) c = hLent m c b a u := by
  show (match slot c a j with | some (b, u) => hLent m c b a u | none => iprop(emp)) = _
  rw [hs]

/-- Sending a rounded unit. -/
theorem snd_own (u : Un) (n : D) (a : Arr) (j : Fin 11) (hp1 : c ∈ payers c (.s a j)) (hp2 : c ∈ payers n (.m u))
    (hl : pay m c (.s a j) c = hO c u fullShare.left (OWN m c)) (hc : ∀ i ∈ (rU u).set, OWN m c i = MB m n i) :
    iprop(records m K ∗ hO c u fullShare.left (OWN m c) ∗ (∃ f, hM n u fullShare f) ∗ owes ((c : Dev nD) : Thread nD τ) (O + tallyAt (cell n (.m u)) () NM) W
        ∗ dutyTok ER (cell c (.s a j)) 0 c ∗ dutyTok ER (cell n (.m u)) 0 c)
      ⊢ iprop(((cred (tallyAt (cell c (.s a j)) () NM) ∗ owes ((c : Dev nD) : Thread nD τ) O W) -∗ WP c (k ⟨⟩) Q)
          -∗ WP c ((Op.snd .own u n a j).prog >>= k) Q) := by
  have hd1 : c ∈ (sched (F := F) m).duties (((c : Dev nD) : Thread nD τ), SemLoc.dma (aS a j)) 0 := by
    rw [show ((((c : Dev nD) : Thread nD τ), SemLoc.dma (aS a j)) : GSem nD τ sig) = cell c (.s a j) from rfl, duties_at]; exact hp1
  have hd2 : c ∈ (sched (F := F) m).duties (((n : Dev nD) : Thread nD τ), SemLoc.dma (mS u)) 0 := by
    rw [show ((((n : Dev nD) : Thread nD τ), SemLoc.dma (mS u)) : GSem nD τ sig) = cell n (.m u) from rfl, duties_at]; exact hp2
  have hq1 : ((((at' ownM u).view.loc ((c : Dev nD) : Thread nD τ)) ↦[(at' ownM u).view.set]{fullShare.left} OWN m c) : sProp 𝕄)
      ⊢ (sched (F := F) m).payload (((c : Dev nD) : Thread nD τ), SemLoc.dma (aS a j)) 0 c := by
    rw [show ((((c : Dev nD) : Thread nD τ), SemLoc.dma (aS a j)) : GSem nD τ sig) = cell c (.s a j) from rfl, payload_at, hl, ownM_set]
    exact BI.Entails.refl _
  have hq2 (f : S4096x1024.Idx → Elt F .bf16) : ((((at' mM u).view.loc ((n : Dev nD) : Thread nD τ)) ↦[(at' mM u).view.set]{fullShare}
        ((at' mM u).view.write (Elt F) f ((at' ownM u).view.read (Elt F) (OWN m c)) Finset.univ)) : sProp 𝕄)
      ⊢ (sched (F := F) m).payload (((n : Dev nD) : Thread nD τ), SemLoc.dma (mS u)) 0 c := by
    rw [show ((((n : Dev nD) : Thread nD τ), SemLoc.dma (mS u)) : GSem nD τ sig) = cell n (.m u) from rfl, payload_at, pay, hM, mM_set]
    exact Entails.of_eq (pointsTo_congr (ℓ := ((n : Dev nD) : Thread nD τ).loc cc0_scratch2) (q := fullShare) (fun i hi => (copy_m .own u f (OWN m c) i hi).trans (hc i hi)))
  unfold Op.prog hM hO
  simp only [Prog.lift, Prog.bind_op, Prog.bind_ret]
  iintro ⟨#HR, HL, ⟨%f, HM⟩, Ho, Ht1, Ht2⟩ Hk
  iapply (Rounds.wp_send_pointsTo Variants.none ER (sched m) ((c : Dev nD) : Thread nD τ) none (c' := ((n : Dev nD) : Thread nD τ)) (κ₁ := K (c, .s a j)) (κ₂ := K (n, .m u)) (r₁ := 0) (r₂ := 0) (d₁ := c) (d₂ := c) (q := fullShare.left)
      (fs := OWN m c) (fd := f) (src := at' ownM u) (dst := at' mM u) (sS := .dma (aS a j)) (sem := .dma (mS u))
      hd1 hd2 () () NM (NM_eq u) (amount_at m c (.s a j) c) (amount_at m n (.m u) c) O rfl hq1 (hq2 f)) $$ [HL HM Ho Ht1 Ht2]
  · isplitr; · iapply (inv_at m K c (.s a j)); iexact HR
    isplitr; · iapply (inv_at m K n (.m u)); iexact HR
    isplitl [HL]; · rw [ownM_set]; iexact HL
    isplitl [HM]; · rw [mM_set]; iexact HM
    isplitl [Ho]; · iexact Ho
    isplitl [Ht1]; · iexact Ht1
    isplitr; · iapply (reached_at m K c (.s a j)); iexact HR
    isplitl [Ht2]; · iexact Ht2
    iapply (reached_at m K n (.m u)); iexact HR
  iexact Hk

/-- Sending a received unit. -/
theorem snd_mb (u : Un) (n : D) (a : Arr) (j : Fin 11) (q : PosShare TreeShare) (hp1 : c ∈ payers c (.s a j)) (hp2 : c ∈ payers n (.m u))
    (hl : pay m c (.s a j) c = hM c u q (MB m c)) (hc : ∀ i ∈ (rU u).set, MB m c i = MB m n i) :
    iprop(records m K ∗ hM c u q (MB m c) ∗ (∃ f, hM n u fullShare f) ∗ owes ((c : Dev nD) : Thread nD τ) (O + tallyAt (cell n (.m u)) () NM) W
        ∗ dutyTok ER (cell c (.s a j)) 0 c ∗ dutyTok ER (cell n (.m u)) 0 c)
      ⊢ iprop(((cred (tallyAt (cell c (.s a j)) () NM) ∗ owes ((c : Dev nD) : Thread nD τ) O W) -∗ WP c (k ⟨⟩) Q)
          -∗ WP c ((Op.snd .mb u n a j).prog >>= k) Q) := by
  have hd1 : c ∈ (sched (F := F) m).duties (((c : Dev nD) : Thread nD τ), SemLoc.dma (aS a j)) 0 := by
    rw [show ((((c : Dev nD) : Thread nD τ), SemLoc.dma (aS a j)) : GSem nD τ sig) = cell c (.s a j) from rfl, duties_at]; exact hp1
  have hd2 : c ∈ (sched (F := F) m).duties (((n : Dev nD) : Thread nD τ), SemLoc.dma (mS u)) 0 := by
    rw [show ((((n : Dev nD) : Thread nD τ), SemLoc.dma (mS u)) : GSem nD τ sig) = cell n (.m u) from rfl, duties_at]; exact hp2
  have hq1 : ((((at' mM u).view.loc ((c : Dev nD) : Thread nD τ)) ↦[(at' mM u).view.set]{q} MB m c) : sProp 𝕄)
      ⊢ (sched (F := F) m).payload (((c : Dev nD) : Thread nD τ), SemLoc.dma (aS a j)) 0 c := by
    rw [show ((((c : Dev nD) : Thread nD τ), SemLoc.dma (aS a j)) : GSem nD τ sig) = cell c (.s a j) from rfl, payload_at, hl, mM_set]
    exact BI.Entails.refl _
  have hq2 (f : S4096x1024.Idx → Elt F .bf16) : ((((at' mM u).view.loc ((n : Dev nD) : Thread nD τ)) ↦[(at' mM u).view.set]{fullShare}
        ((at' mM u).view.write (Elt F) f ((at' mM u).view.read (Elt F) (MB m c)) Finset.univ)) : sProp 𝕄)
      ⊢ (sched (F := F) m).payload (((n : Dev nD) : Thread nD τ), SemLoc.dma (mS u)) 0 c := by
    rw [show ((((n : Dev nD) : Thread nD τ), SemLoc.dma (mS u)) : GSem nD τ sig) = cell n (.m u) from rfl, payload_at, pay, hM, mM_set]
    exact Entails.of_eq (pointsTo_congr (ℓ := ((n : Dev nD) : Thread nD τ).loc cc0_scratch2) (q := fullShare) (fun i hi => (copy_m .mb u f (MB m c) i hi).trans (hc i hi)))
  unfold Op.prog hM
  simp only [Prog.lift, Prog.bind_op, Prog.bind_ret]
  iintro ⟨#HR, HL, ⟨%f, HM⟩, Ho, Ht1, Ht2⟩ Hk
  iapply (Rounds.wp_send_pointsTo Variants.none ER (sched m) ((c : Dev nD) : Thread nD τ) none (c' := ((n : Dev nD) : Thread nD τ)) (κ₁ := K (c, .s a j)) (κ₂ := K (n, .m u)) (r₁ := 0) (r₂ := 0) (d₁ := c) (d₂ := c) (q := q)
      (fs := MB m c) (fd := f) (src := at' mM u) (dst := at' mM u) (sS := .dma (aS a j)) (sem := .dma (mS u))
      hd1 hd2 () () NM (NM_eq u) (amount_at m c (.s a j) c) (amount_at m n (.m u) c) O rfl hq1 (hq2 f)) $$ [HL HM Ho Ht1 Ht2]
  · isplitr; · iapply (inv_at m K c (.s a j)); iexact HR
    isplitr; · iapply (inv_at m K n (.m u)); iexact HR
    isplitl [HL]; · rw [mM_set]; iexact HL
    isplitl [HM]; · rw [mM_set]; iexact HM
    isplitl [Ho]; · iexact Ho
    isplitl [Ht1]; · iexact Ht1
    isplitr; · iapply (reached_at m K c (.s a j)); iexact HR
    isplitl [Ht2]; · iexact Ht2
    iapply (reached_at m K n (.m u)); iexact HR
  iexact Hk

/-- Sending a unit to a device that handed it its place. -/
theorem step_snd (b : Src) (u : Un) (n : D) (a : Arr) (j : Fin 11) (hs : slot c a j = some (b, u)) (hn : src n u = c)
    (hb : direct n u = decide (b = .own)) :
    iprop(records m K ∗ hLent m c b a u ∗ (∃ f, hM n u fullShare f) ∗ owes ((c : Dev nD) : Thread nD τ) (O + tallyAt (cell n (.m u)) () NM) W
        ∗ dutyTok ER (cell c (.s a j)) 0 c ∗ dutyTok ER (cell n (.m u)) 0 c)
      ⊢ iprop(((cred (tallyAt (cell c (.s a j)) () NM) ∗ owes ((c : Dev nD) : Thread nD τ) O W) -∗ WP c (k ⟨⟩) Q)
          -∗ WP c ((Op.snd b u n a j).prog >>= k) Q) := by
  have hp1 : c ∈ payers c (.s a j) := by
    show c ∈ (if (slot c a j).isSome then {c} else ∅ : Finset D)
    rw [hs]; exact Finset.mem_singleton_self _
  have hp2 : c ∈ payers n (.m u) := by show c ∈ ({src n u} : Finset D); rw [hn]; exact Finset.mem_singleton_self _
  cases b with
  | own =>
    exact snd_own m K c O W k Q u n a j hp1 hp2 (pay_slot m c hs) (fun i hi => sent_eq m c hn hb i hi)
  | mb =>
    have hq : ∃ q, hLent m c .mb a u = hM c u q (MB m c) := by cases a <;> exact ⟨_, rfl⟩
    obtain ⟨q, hq⟩ := hq
    rw [hq]
    exact snd_mb m K c O W k Q u n a j q hp1 hp2 ((pay_slot m c hs).trans hq) (fun i hi => sent_eq m c hn hb i hi)

/-- What the rounding stores, and what the addition stores. -/
theorem stored_own (u : Un) (f : S4096x1024.Idx → Elt F .bf16) : ∀ i ∈ (rU u).set,
    (ownM.access (rU u)).write (Elt F) f (shapeCast S128x1024 (truncf .bf16 (xfM.view.readAt (Elt F) (rU u).toLoadRect (X m c) : FVec F S128x1024 .f32) bitsLt_bf16_f32 : FVec F S128x1024 .bf16) shapeCasts_S128x1024_S128x1024) Finset.univ i = OWN m c i := by
  intro i hi
  obtain ⟨x, rfl⟩ := mem_window hi
  rw [shapeCast_self]
  exact store_own u f _ x
/-- Once the sum of the own and the received unit is stored, the result there is the one claimed. -/
theorem stored_out (u : Un) (f : S4096x1024.Idx → Elt F .bf16) : ∀ i ∈ (rU u).set,
    (outM.access (rU u)).write (Elt F) f (addf (ownM.view.readAt (Elt F) (rU u).toLoadRect (OWN m c)) (mM.view.readAt (Elt F) (rU u).toLoadRect (MB m c)) : FVec F S128x1024 .bf16) Finset.univ i = OUT m c i := by
  intro i hi
  obtain ⟨x, rfl⟩ := mem_window hi
  exact store_out u f _ x

/-- Rounding a unit. -/
theorem step_cst (u : Un) :
    iprop(hF c u (X m c) ∗ (∃ f, hO c u fullShare f))
      ⊢ iprop(((hF c u (X m c) ∗ hO c u fullShare.left (OWN m c) ∗ hO c u fullShare.right (OWN m c)) -∗ WP c (k ⟨⟩) Q) -∗ WP c ((Op.cst u).prog >>= k) Q) := by
  unfold Op.prog hF hO
  simp only [Prog.lift, Prog.bind_op, Prog.bind_ret]
  iintro ⟨HF, ⟨%f, HO⟩⟩ Hk
  iapply (wp_load Variants.none ((c : Dev nD) : Thread nD τ) none Set.univ (m := xfM) (sub_xf u)) $$ HF; iintro HF
  iapply (wp_load Variants.none ((c : Dev nD) : Thread nD τ) none Set.univ (m := ownM) (sub_own u)) $$ HO; iintro HO
  iapply (wp_store Variants.none ((c : Dev nD) : Thread nD τ) none Set.univ (m := ownM) (r := rU u) (Mk := Finset.univ) (acc_own u)) $$ HO; iintro HO
  iapply Hk
  isplitl [HF]; · iexact HF
  iapply (pointsTo_share (PosShare.mem_left_op_right fullShare)).1
  ihave HO := (Entails.of_eq (pointsTo_congr (ℓ := ((c : Dev nD) : Thread nD τ).loc cc0_scratch1) (q := fullShare) (stored_own m c u f))) $$ HO
  iexact HO

/-- Adding a unit. -/
theorem step_add (u : Un) :
    iprop(hO c u fullShare.right (OWN m c) ∗ hM c u fullShare.right.right (MB m c) ∗ (∃ f, hR c u f))
      ⊢ iprop(((hO c u fullShare.right (OWN m c) ∗ hM c u fullShare.right.right (MB m c) ∗ hR c u (OUT m c)) -∗ WP c (k ⟨⟩) Q)
          -∗ WP c ((Op.add u).prog >>= k) Q) := by
  unfold Op.prog hO hM hR
  simp only [Prog.lift, Prog.bind_op, Prog.bind_ret]
  iintro ⟨HO, HM, ⟨%f, HR⟩⟩ Hk
  iapply (wp_load Variants.none ((c : Dev nD) : Thread nD τ) none Set.univ (m := ownM) (sub_own u)) $$ HO; iintro HO
  iapply (wp_load Variants.none ((c : Dev nD) : Thread nD τ) none Set.univ (m := mM) (sub_m u)) $$ HM; iintro HM
  iapply (wp_load Variants.none ((c : Dev nD) : Thread nD τ) none Set.univ (m := outM) (sub_out u)) $$ HR; iintro HR
  iapply (wp_store Variants.none ((c : Dev nD) : Thread nD τ) none Set.univ (m := outM) (r := rU u) (Mk := Finset.univ) (acc_out u)) $$ HR; iintro HR
  iapply Hk
  isplitl [HO]; · iexact HO
  isplitl [HM]; · iexact HM
  ihave HR := (Entails.of_eq (pointsTo_congr (ℓ := ((c : Dev nD) : Thread nD τ).loc cc0_stg0_0) (q := fullShare) (stored_out m c u f))) $$ HR
  iexact HR

end Cert.AllReduce

end
-- ==== Proof.Same.lean ====
/- The printed kernel's program is the run of the table. -/
module

public import proofs.«01_k».proof.Proof.Code
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-- A program that begins by asking for the device's id is known once its continuation is known at every id. -/
theorem program_ext (p : P F PUnit) (k k' : Dev nD → P F PUnit) (h : p = .op .deviceId k) (h' : ∀ d, k d = k' d) :
    p = .op .deviceId k' := by
  subst h; exact congrArg _ (funext h')

set_option maxRecDepth 100000 in
/-- The printed kernel asks for the device's id and then performs the table's operations for that device. -/
theorem body_eq : (body : P F PUnit) = .op .deviceId (fun d => run (ops d)) := by
  refine program_ext _ _ _ rfl fun d => ?_
  fin_cases d <;> sl_kernel_rfl

end Cert.AllReduce

end
-- ==== Proof.Run.lean ====
/- The whole run of a device, from what it starts with to what it ends with. -/
module

public import proofs.«01_k».proof.Proof.Steps
public import proofs.«01_k».proof.Proof.Same

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : D × Cell → ℕ)
variable (c : D) (W : Waits sig Unit) (k : PUnit.{1} → P F PUnit.{1})
variable (Q : PUnit.{1} → sProp (MT nD τ sig Unit (Elt F) ℕ UU ℕ))

/-- Holding the resources of a flattened list is holding each list's. -/
theorem bigSepL_flat {I J : Type} (l : List I) (f : I → List J) (Φ : J → sProp 𝕄) :
    bigSepL (l.flatMap f) Φ = bigSepL l fun i => bigSepL (f i) Φ := by
  induction l with
  | nil => rfl
  | cons i l ih => rw [List.flatMap_cons, bigSepL_append, ih, bigSepL_cons']

/-- Holding no resource is holding nothing. -/
theorem bigSepL_nil' {I : Type} (Φ : I → sProp 𝕄) : bigSepL [] Φ = iprop(emp) := rfl

/-- Resources that oblige to nothing oblige to nothing together. -/
theorem due_zero (l : List Atom) (h : ∀ a ∈ l, due a = 0) : (l.map due).sum = (0 : CellTallies nD τ sig Unit) :=
  List.sum_eq_zero fun x hx => by obtain ⟨a, ha, rfl⟩ := List.mem_map.mp hx; exact h a ha
/-- Units of the receive buffer oblige to nothing. -/
theorem due_mU (l : List Un) : ((l.map Atom.mU).map due).sum = (0 : CellTallies nD τ sig Unit) :=
  due_zero _ fun a ha => by obtain ⟨u, -, rfl⟩ := List.mem_map.mp ha; rfl
/-- A lent share obliges to nothing. -/
theorem due_lent (b : Src) (a : Arr) (u : Un) : due (lent b a u) = 0 := by cases b <;> cases a <;> rfl

/-- An operation yields no right to raise another device's semaphore. -/
theorem due_yields (o : Op) : ((yields c o).map due).sum = (0 : CellTallies nD τ sig Unit) := by
  refine due_zero _ fun a ha => ?_
  cases o with
  | bar d =>
    rcases List.mem_cons.mp ha with rfl | h
    · rfl
    · obtain ⟨n, -, h⟩ := List.mem_flatMap.mp h
      obtain ⟨u, -, rfl⟩ := List.mem_map.mp h
      rfl
  | ws b u a' j =>
    rcases List.mem_cons.mp ha with rfl | h
    · rfl
    · rw [List.mem_singleton.mp h]; exact due_lent b a' u
  | sig n => exact absurd ha (by simp [yields])
  | _ =>
    simp only [yields, List.mem_cons, List.not_mem_nil, or_false] at ha
    first
      | (subst ha; rfl)
      | (rcases ha with rfl | rfl | rfl <;> rfl)
      | (rcases ha with rfl | rfl | rfl | rfl <;> rfl)

/-- A share of a unit falls into its two halves. -/
theorem hM_split (u : Un) (q : PosShare TreeShare) (f : S4096x1024.Idx → Elt F .bf16) : hM c u q f ⊢ iprop(hM c u q.left f ∗ hM c u q.right f) :=
  (pointsTo_share (PosShare.mem_left_op_right q)).1

/-- An operation, run from the resources that it needs beside a set `S` of others. -/
theorem step (o : Op) {s : ℕ} {S : Finset Atom} (hS : Rep S s) (hs : side c s o = true) :
    iprop(records m K ∗ bigSepL (needs c o) (interp m c) ∗ owes ((c : Dev nD) : Thread nD τ) (∑ a ∈ S, due a + ((needs c o).map due).sum) W)
      ⊢ iprop((bigSepL (yields c o) (interp m c) -∗ (∃ W', owes ((c : Dev nD) : Thread nD τ) (∑ a ∈ S, due a) W') -∗ WP c (k ⟨⟩) Q)
          -∗ WP c (o.prog >>= k) Q) := by
  cases o with
  | ld u =>
    rw [show ((needs c (.ld u)).map due).sum = (0 : CellTallies nD τ sig Unit) from due_zero _ (by simp [needs, due]), add_zero]
    unfold needs yields
    simp only [bigSepL_cons', bigSepL_nil', interp, amt]
    iintro ⟨#HR, ⟨H1, H2, H3, -⟩, Ho⟩ Hk
    iapply (step_ld m K c k Q u) $$ [H1 H2 H3]
    · isplitr; · iexact HR
      isplitl [H1]; · iexact H1
      isplitl [H2]; · iexact H2
      iexact H3
    iintro Hc
    iapply Hk $$ [Hc]
    · isplitl [Hc]; · iexact Hc
      iempintro
    iexists W; iexact Ho
  | sig n =>
    rw [show ((needs c (.sig n)).map due).sum = tallyAt (cell n .bar) () 1 + (((unitsFrom n c).map Atom.mU).map due).sum from rfl, due_mU, add_zero]
    unfold needs yields
    rw [bigSepL_cons', bigSepL_map, bigSepL_nil', show interp m c (.btok n) = dutyTok ER (cell n .bar) 0 c from rfl,
      show (bigSepL (unitsFrom n c) fun i => interp m c (.mU i)) = pay m n .bar c from rfl]
    iintro ⟨#HR, ⟨H1, H2⟩, Ho⟩ Hk
    iapply (step_sig m K c _ W k Q n (of_decide_eq_true hs)) $$ [H1 H2 Ho]
    · isplitr; · iexact HR
      isplitl [Ho]; · iexact Ho
      isplitl [H1]; · iexact H1
      iexact H2
    iintro Ho
    iapply Hk
    · iempintro
    iexists W; iexact Ho
  | bar d =>
    obtain ⟨rfl, ha⟩ : d = (nbr c).length ∧ above s 1 = true := of_decide_eq_true hs
    rw [show ((needs c (.bar (nbr c).length)).map due).sum = (0 : CellTallies nD τ sig Unit) from due_zero _ (by simp [needs, due]), add_zero]
    unfold needs yields
    rw [bigSepL_cons', bigSepL_cons', bigSepL_cons', bigSepL_nil', bigSepL_flat]
    rw [show interp m c (.pos .bar) = atPos ER (cell c .bar) 0 ∅ 0 from rfl, show interp m c (.cred .bar) = cred (tallyAt (cell c .bar) () (nbr c).length) from rfl,
      show interp m c (.zero .bar) = semVal (cell c .bar) 0 from rfl]
    iintro ⟨#HR, ⟨H1, H2, -⟩, Ho⟩ Hk
    iapply (step_bar m K c _ W k Q) $$ [H1 H2 Ho]
    · isplitr; · iexact HR
      isplitl [Ho]; · iexact Ho
      isplitr; · iapply (mayWait m K c .bar hS ha (by rw [lv_cell])); iexact HR
      isplitl [H1]; · iexact H1
      iexact H2
    iintro ⟨Ho, Hz, Hp⟩
    iapply Hk $$ [Hz Hp]
    · isplitl [Hz]; · iexact Hz
      have hp : bigSep (payers c .bar) (pay m c .bar) = bigSepL (nbr c) fun n => bigSepL ((unitsFrom c n).map (.dst n)) (interp m c) :=
        (bigSep_eq_bigSepL_of_eq (nbr c) rfl (nbr_nodup c) (pay m c .bar)).trans
          (congrArg (bigSepL (nbr c)) (funext fun n => (bigSepL_map (Atom.dst n) (unitsFrom c n) (interp m c)).symm))
      ihave Hp := (Entails.of_eq hp) $$ Hp
      iexact Hp
    iexact Ho
  | wl u =>
    have ha : above s 0 = true := hs
    rw [show ((needs c (.wl u)).map due).sum = (0 : CellTallies nD τ sig Unit) from due_zero _ (by simp [needs, due]), add_zero]
    unfold needs yields
    simp only [bigSepL_cons', bigSepL_nil', interp]
    unfold Op.prog
    simp only [Prog.lift, Prog.bind_op, Prog.bind_ret]
    iintro ⟨#HR, ⟨H1, H2, -⟩, Ho⟩ Hk
    iapply (step_wait m K c _ W k Q (.l u) c (lS u) rfl rfl (at' xM u) (at' xfM u) _ _ rfl) $$ [H1 H2 Ho]
    · isplitr; · iexact HR
      isplitl [Ho]; · iexact Ho
      isplitr; · iapply (mayWait m K c (.l u) hS ha (by rw [lv_cell])); iexact HR
      isplitl [H1]; · iexact H1
      iexact H2
    rw [show pay m c (.l u) c = iprop(hX m c u ∗ hF c u (X m c)) from rfl]
    iintro ⟨Ho, Hz, ⟨H1, H2⟩⟩
    iapply Hk $$ [Hz H1 H2]
    · isplitl [Hz]; · iexact Hz
      isplitl [H1]; · iexact H1
      isplitl [H2]; · iexact H2
      iempintro
    iexact Ho
  | cst u =>
    rw [show ((needs c (.cst u)).map due).sum = (0 : CellTallies nD τ sig Unit) from due_zero _ (by simp [needs, due]), add_zero]
    unfold needs yields
    simp only [bigSepL_cons', bigSepL_nil', interp]
    iintro ⟨-, ⟨H1, H2, -⟩, Ho⟩ Hk
    iapply (step_cst m c k Q u) $$ [H1 H2]
    · isplitl [H1]; · iexact H1
      iexact H2
    iintro ⟨H1, H2, H3⟩
    iapply Hk $$ [H1 H2 H3]
    · isplitl [H1]; · iexact H1
      isplitl [H2]; · iexact H2
      isplitl [H3]; · iexact H3
      iempintro
    iexists W; iexact Ho
  | snd b u n a j =>
    obtain ⟨h1, h2, h3⟩ : slot c a j = some (b, u) ∧ src n u = c ∧ (direct n u = decide (b = .own)) := of_decide_eq_true hs
    rw [show ((needs c (.snd b u n a j)).map due).sum = tallyAt (cell n (.m u)) () NM from by
      unfold needs
      simp only [List.map_cons, List.map_nil, List.sum_cons, List.sum_nil, due_lent]
      simp only [due, zero_add, add_zero]]
    unfold needs yields
    have hl : interp m c (lent b a u) = hLent m c b a u := by cases b <;> cases a <;> rfl
    simp only [bigSepL_cons', bigSepL_nil', hl]
    simp only [interp, amt]
    iintro ⟨#HR, ⟨H1, H2, H3, H4, -⟩, Ho⟩ Hk
    iapply (step_snd m K c _ W k Q b u n a j h1 h2 h3) $$ [H1 H2 H3 H4 Ho]
    · isplitr; · iexact HR
      isplitl [H1]; · iexact H1
      isplitl [H2]; · iexact H2
      isplitl [Ho]; · iexact Ho
      isplitl [H3]; · iexact H3
      iexact H4
    iintro ⟨Hc, Ho⟩
    iapply Hk $$ [Hc]
    · isplitl [Hc]; · iexact Hc
      iempintro
    iexists W; iexact Ho
  | rcv u =>
    have ha : above s (lev c u) = true := hs
    rw [show ((needs c (.rcv u)).map due).sum = (0 : CellTallies nD τ sig Unit) from due_zero _ (by simp [needs, due]), add_zero]
    unfold needs yields
    simp only [bigSepL_cons', bigSepL_nil', interp]
    unfold Op.prog
    simp only [Prog.lift, Prog.bind_op, Prog.bind_ret]
    iintro ⟨#HR, ⟨H1, H2, -⟩, Ho⟩ Hk
    iapply (step_wait m K c _ W k Q (.m u) (src c u) (mS u) rfl rfl (at' mM u) (at' mM u) _ _ rfl) $$ [H1 H2 Ho]
    · isplitr; · iexact HR
      isplitl [Ho]; · iexact Ho
      isplitr; · iapply (mayWait m K c (.m u) hS ha (by rw [lv_cell])); iexact HR
      isplitl [H1]; · iexact H1
      iexact H2
    rw [show pay m c (.m u) (src c u) = hM c u fullShare (MB m c) from rfl]
    iintro ⟨Ho, Hz, Hp⟩
    iapply Hk $$ [Hz Hp]
    · isplitl [Hz]; · iexact Hz
      ihave Hp := (hM_split c u fullShare (MB m c)) $$ Hp
      icases Hp with ⟨H0, Hp⟩
      ihave Hp := (hM_split c u fullShare.right (MB m c)) $$ Hp
      icases Hp with ⟨H1, H2⟩
      isplitl [H0]; · iexact H0
      isplitl [H1]; · iexact H1
      isplitl [H2]; · iexact H2
      iempintro
    iexact Ho
  | add u =>
    rw [show ((needs c (.add u)).map due).sum = (0 : CellTallies nD τ sig Unit) from due_zero _ (by simp [needs, due]), add_zero]
    unfold needs yields
    simp only [bigSepL_cons', bigSepL_nil', interp]
    iintro ⟨-, ⟨H1, H2, H3, -⟩, Ho⟩ Hk
    iapply (step_add m c k Q u) $$ [H1 H2 H3]
    · isplitl [H1]; · iexact H1
      isplitl [H2]; · iexact H2
      iexact H3
    iintro ⟨H1, H2, H3⟩
    iapply Hk $$ [H1 H2 H3]
    · isplitl [H1]; · iexact H1
      isplitl [H2]; · iexact H2
      isplitl [H3]; · iexact H3
      iempintro
    iexists W; iexact Ho
  | ws b u a j =>
    obtain ⟨h1, ha⟩ : slot c a j = some (b, u) ∧ above s 0 = true := of_decide_eq_true hs
    have hp : payers c (.s a j) = {c} := by
      show (if (slot c a j).isSome then {c} else ∅ : Finset D) = {c}
      rw [h1]; rfl
    rw [show ((needs c (.ws b u a j)).map due).sum = (0 : CellTallies nD τ sig Unit) from due_zero _ (by simp [needs, due]), add_zero]
    unfold needs yields
    have hl : interp m c (lent b a u) = hLent m c b a u := by cases b <;> cases a <;> rfl
    simp only [bigSepL_cons', bigSepL_nil', hl]
    simp only [interp]
    unfold Op.prog
    simp only [Prog.lift, Prog.bind_op, Prog.bind_ret]
    iintro ⟨#HR, ⟨H1, H2, -⟩, Ho⟩ Hk
    iapply (step_wait m K c _ W k Q (.s a j) c (aS a j) rfl hp (at' mM u) (at' (srcM b) u) _ _ (NO_eq b u)) $$ [H1 H2 Ho]
    · isplitr; · iexact HR
      isplitl [Ho]; · iexact Ho
      isplitr; · iapply (mayWait m K c (.s a j) hS ha (by rw [lv_cell])); iexact HR
      isplitl [H1]; · iexact H1
      iexact H2
    rw [pay_slot m c h1]
    iintro ⟨Ho, Hz, Hp⟩
    iapply Hk $$ [Hz Hp]
    · isplitl [Hz]; · iexact Hz
      isplitl [Hp]; · iexact Hp
      iempintro
    iexact Ho
  | fin a j =>
    have h1 : (slot c a j).isNone = true := hs
    have hp : payers c (.s a j) = ∅ := by
      show (if (slot c a j).isSome then {c} else ∅ : Finset D) = ∅
      rw [Option.isNone_iff_eq_none.mp h1]; rfl
    rw [show ((needs c (.fin a j)).map due).sum = (0 : CellTallies nD τ sig Unit) from due_zero _ (by simp [needs, due]), add_zero]
    unfold needs yields
    simp only [bigSepL_cons', bigSepL_nil', interp]
    unfold Op.prog
    simp only [Prog.bind_ret]
    iintro ⟨#HR, ⟨H1, -⟩, Ho⟩ Hk
    iapply (step_fin m K c Q (.s a j) hp (k ⟨⟩)) $$ [H1]
    · isplitr; · iexact HR
      iexact H1
    iintro Hz
    iapply Hk $$ [Hz]
    · isplitl [Hz]; · iexact Hz
      iempintro
    iexists W; iexact Ho

/-- A list of operations that the check follows from the set `s` to the set `s'`. -/
theorem run_wp : ∀ (l : List Op) {s s' : ℕ} {S : Finset Atom} (W : Waits sig Unit), follow c l s = some s' → Rep S s →
    iprop(records m K ∗ bigSep S (interp m c) ∗ owes ((c : Dev nD) : Thread nD τ) (∑ a ∈ S, due a) W)
      ⊢ iprop((∀ S' W', ⌜Rep S' s'⌝ -∗ bigSep S' (interp m c) -∗ owes ((c : Dev nD) : Thread nD τ) (∑ a ∈ S', due a) W' -∗ Q ⟨⟩)
          -∗ WP c (run l) Q)
  | [], s, s', S, W, h, hS => by
    obtain rfl : s = s' := Option.some.inj h
    unfold run WP
    iintro ⟨-, HS, Ho⟩ Hk
    rw [wp_ret]
    imodintro
    iapply Hk $$ [] HS Ho
    ipureintro; exact hS
  | o :: l, s, s', S, W, h, hS => by
    unfold follow at h
    split at h
    next => exact absurd h (by simp)
    next s₁ h₁ =>
      split at h
      next hs =>
        split at h
        next => exact absurd h (by simp)
        next s₂ h₂ =>
          obtain ⟨S₁, hS₁, e₁, t₁⟩ := takeAll_split (interp m c) due _ _ _ h₁ S hS
          obtain ⟨S₂, hS₂, e₂, t₂⟩ := putAll_join (interp m c) due _ _ _ h₂ S₁ hS₁
          have hy : ((yields c o).map due).sum = (0 : CellTallies nD τ sig Unit) := due_yields c o
          rw [hy, add_zero] at t₂
          unfold run
          rw [e₁, t₁]
          iintro ⟨#HR, ⟨Hn, HS⟩, Ho⟩ Hk
          iapply (step m K c W (fun _ => run l) Q o hS₁ hs) $$ [Hn Ho]
          · isplitr; · iexact HR
            isplitl [Hn]; · iexact Hn
            iexact Ho
          iintro Hy ⟨%W', Ho⟩
          iapply (run_wp l W' h hS₂) $$ [Hy HS Ho]
          · isplitr; · iexact HR
            isplitl [Hy HS]
            · rw [e₂]; isplitl [Hy]; · iexact Hy
              iexact HS
            rw [t₂]; iexact Ho
          iexact Hk
      next => exact absurd h (by simp)

end Cert.AllReduce

end
-- ==== Proof.Body.lean ====
/- The kernel's body on one device, from the buffers and the rights it is launched with to the result. -/
module

public import proofs.«01_k».proof.Proof.Run
public import proofs.«01_k».proof.Proof.Checked
public import Idealize.ShloMosaic.Lib.Pipeline.TalkSched

@[expose] public section

set_option maxRecDepth 4000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : D × Cell → ℕ)

/-! ## A buffer is its units -/

/-- Two different units have no row in common. -/
theorem rows_disjoint : ∀ u ∈ (Finset.univ : Finset Un), ∀ u' ∈ (Finset.univ : Finset Un), u ≠ u' → Disjoint (rU u).set (rU u').set :=
  fun u _ u' _ h => Finset.disjoint_left.mpr fun i hi hi' => h ((unitOf_eq hi).symm.trans (unitOf_eq hi'))

/-- A row is one of its unit's rows. -/
theorem mem_unitOf (i : S4096x1024.Idx) : i ∈ (rU (unitOf i)).set := by
  have h0 : (i 0).val < 4096 := (i 0).isLt
  have h1 : (i 1).val < 1024 := (i 1).isLt
  rw [← Rect.map_emb_univ]
  let x : S128x1024.Idx := fun a => match a with
    | ⟨0, _⟩ => (⟨(i 0).val % 128, Nat.mod_lt _ (by decide)⟩ : Fin 128)
    | ⟨1, _⟩ => (⟨(i 1).val, h1⟩ : Fin 1024)
  refine Finset.mem_map.mpr ⟨x, Finset.mem_univ _, funext fun a => Fin.ext ?_⟩
  have hu : (unitOf i).val = (i 0).val / 128 := Nat.mod_eq_of_lt (by omega)
  match a with
  | ⟨0, _⟩ =>
    show 128 * (unitOf i).val + 1 * ((i 0).val % 128) = (i 0).val
    rw [hu]; omega
  | ⟨1, _⟩ =>
    show 0 + 1 * (i 1).val = (i 1).val
    omega

/-- The units together are the whole buffer. -/
theorem rows_cover : (Finset.univ : Finset Un).biUnion (fun u => (rU u).set) = Finset.univ :=
  Finset.eq_univ_of_forall fun i => Finset.mem_biUnion.mpr ⟨unitOf i, Finset.mem_univ _, mem_unitOf i⟩

/-- The list of the units holds every unit. -/
theorem univ_units : (Finset.univ : Finset Un) = units.toFinset := by decide +kernel
/-- No unit is listed twice. -/
theorem units_nodup : units.Nodup := by decide +kernel

/-- The whole argument is its units, held one by one. -/
theorem whole_X (c : D) : (((c : Dev nD) : Thread nD τ).loc main_arg0 ↦{fullShare} X m c : sProp 𝕄) = bigSepL units (hX m c) := by
  have h := pointsTo_biUnion (Ix := Unit) (Name := ℕ) (U := UU) (Lvl := ℕ) (Val := Elt F) (ℓ := ((c : Dev nD) : Thread nD τ).loc main_arg0) (q := fullShare) (f := X m c)
    Finset.univ (fun u => (rU u).set) rows_disjoint
  rw [bigSep_univ_eq_bigSepL units univ_units units_nodup] at h
  exact (congrArg (fun S => (((c : Dev nD) : Thread nD τ).loc main_arg0 ↦[S]{fullShare} X m c : sProp 𝕄)) rows_cover.symm).trans h

/-- The whole f32 copy is its units. -/
theorem whole_F (c : D) (f : S4096x1024.Idx → Elt F .f32) :
    (((c : Dev nD) : Thread nD τ).loc cc0_scratch0 ↦{fullShare} f : sProp 𝕄) = bigSepL units fun u => hF c u f := by
  have h := pointsTo_biUnion (Ix := Unit) (Name := ℕ) (U := UU) (Lvl := ℕ) (Val := Elt F) (ℓ := ((c : Dev nD) : Thread nD τ).loc cc0_scratch0) (q := fullShare) (f := f)
    Finset.univ (fun u => (rU u).set) rows_disjoint
  rw [bigSep_univ_eq_bigSepL units univ_units units_nodup] at h
  exact (congrArg (fun S => (((c : Dev nD) : Thread nD τ).loc cc0_scratch0 ↦[S]{fullShare} f : sProp 𝕄)) rows_cover.symm).trans h

/-- The whole buffer of the rounded half is its units, at any share. -/
theorem whole_O (c : D) (q : PosShare TreeShare) (f : S4096x1024.Idx → Elt F .bf16) :
    (((c : Dev nD) : Thread nD τ).loc cc0_scratch1 ↦{q} f : sProp 𝕄) = bigSepL units fun u => hO c u q f := by
  have h := pointsTo_biUnion (Ix := Unit) (Name := ℕ) (U := UU) (Lvl := ℕ) (Val := Elt F) (ℓ := ((c : Dev nD) : Thread nD τ).loc cc0_scratch1) (q := q) (f := f)
    Finset.univ (fun u => (rU u).set) rows_disjoint
  rw [bigSep_univ_eq_bigSepL units univ_units units_nodup] at h
  exact (congrArg (fun S => (((c : Dev nD) : Thread nD τ).loc cc0_scratch1 ↦[S]{q} f : sProp 𝕄)) rows_cover.symm).trans h

/-- The whole receive buffer is its units, at any share. -/
theorem whole_M (c : D) (q : PosShare TreeShare) (f : S4096x1024.Idx → Elt F .bf16) :
    (((c : Dev nD) : Thread nD τ).loc cc0_scratch2 ↦{q} f : sProp 𝕄) = bigSepL units fun u => hM c u q f := by
  have h := pointsTo_biUnion (Ix := Unit) (Name := ℕ) (U := UU) (Lvl := ℕ) (Val := Elt F) (ℓ := ((c : Dev nD) : Thread nD τ).loc cc0_scratch2) (q := q) (f := f)
    Finset.univ (fun u => (rU u).set) rows_disjoint
  rw [bigSep_univ_eq_bigSepL units univ_units units_nodup] at h
  exact (congrArg (fun S => (((c : Dev nD) : Thread nD τ).loc cc0_scratch2 ↦[S]{q} f : sProp 𝕄)) rows_cover.symm).trans h

/-- The whole staging buffer of the result is its units. -/
theorem whole_R (c : D) (f : S4096x1024.Idx → Elt F .bf16) :
    (((c : Dev nD) : Thread nD τ).loc cc0_stg0_0 ↦{fullShare} f : sProp 𝕄) = bigSepL units fun u => hR c u f := by
  have h := pointsTo_biUnion (Ix := Unit) (Name := ℕ) (U := UU) (Lvl := ℕ) (Val := Elt F) (ℓ := ((c : Dev nD) : Thread nD τ).loc cc0_stg0_0) (q := fullShare) (f := f)
    Finset.univ (fun u => (rU u).set) rows_disjoint
  rw [bigSep_univ_eq_bigSepL units univ_units units_nodup] at h
  exact (congrArg (fun S => (((c : Dev nD) : Thread nD τ).loc cc0_stg0_0 ↦[S]{fullShare} f : sProp 𝕄)) rows_cover.symm).trans h

/-! ## A device's run -/

/-- What a device starts with besides its buffers. -/
def startG (c : D) : List Atom :=
  cells.map Atom.pos ++ (units.map (fun u => Atom.tok (.l u))
    ++ ((used c).map (fun s => Atom.tok (.s s.1 s.2)) ++ (Atom.cred .bar :: (units.map (fun u => Atom.cred (.m u))
      ++ ((nbr c).map Atom.btok ++ devs.flatMap fun n => (unitsFrom c n).map (Atom.mtok n))))))

/-- What a device owes at its start: a raise for each of its rights. -/
@[irreducible] def O₀ (c : D) : CellTallies nD τ sig Unit := ((start c).map due).sum

/-- Nothing is owed once no right remains. -/
theorem due_none {S : Finset Atom} {s : ℕ} (hS : Rep S s) (h : above s 20 = true) : ∑ a ∈ S, due a = 0 := by
  refine Finset.sum_eq_zero fun a ha => ?_
  cases a with
  | btok n => exact absurd (above_btok hS h ha) (by decide)
  | mtok n u => exact absurd (above_mtok hS h ha) (by have := (lev_pos n u).2; omega)
  | _ => rfl

/-- A device's run, from all that it starts with to all that it ends with. -/
theorem device_wp (c : D) (W : Waits sig Unit) (Q : PUnit.{1} → sProp 𝕄) :
    iprop(records m K ∗ bigSepL (start c) (interp m c) ∗ owes ((c : Dev nD) : Thread nD τ) (O₀ c) W)
      ⊢ iprop((∀ W', bigSepL final (interp m c) -∗ owes ((c : Dev nD) : Thread nD τ) 0 W' -∗ Q ⟨⟩) -∗ WP c (run (ops c)) Q) := by
  have hg := good_all c
  unfold good at hg
  split at hg
  · exact absurd hg (by simp)
  rename_i s hs
  split at hg
  · exact absurd hg (by simp)
  rename_i s' hs'
  rw [Bool.and_eq_true] at hg
  obtain ⟨s'', hf⟩ := Option.isSome_iff_exists.mp hg.1
  obtain ⟨S, hS, h1, h2⟩ := putAll_join (interp m c) due (start c) 0 s hs ∅ Rep.empty
  rw [Finset.sum_empty, zero_add] at h2
  unfold O₀
  rw [← h2]
  iintro ⟨#HR, Hs, HO⟩
  iintro Hk
  iapply (run_wp m K c Q (ops c) W hs' hS) $$ [Hs HO]
  · isplitr; · iexact HR
    isplitl [Hs]
    · rw [h1, bigSep_empty]
      isplitl [Hs]; · iexact Hs
      iempintro
    iexact HO
  iintro %S' %W' %hS' Hs HO
  obtain ⟨S₂, -, h3, -⟩ := takeAll_split (interp m c) due final s' s'' hf S' hS'
  have h4 : (bigSep S' (interp m c) : sProp 𝕄) ⊢ bigSepL final (interp m c) := by
    rw [h3]; iintro ⟨H, -⟩; iexact H
  have h5 : (owes ((c : Dev nD) : Thread nD τ) (∑ a ∈ S', due a) W' : sProp 𝕄) ⊢ owes ((c : Dev nD) : Thread nD τ) 0 W' := by
    rw [due_none hS' hg.2]
  ihave Hs := h4 $$ Hs
  ihave HO := h5 $$ HO
  iapply Hk $$ Hs HO

/-! ## The kernel's body -/

/-- The scratch buffers, each with any contents. -/
def scratch (c : D) : sProp 𝕄 :=
  iprop((∃ f : S4096x1024.Idx → Elt F .f32, ((c : Dev nD) : Thread nD τ).loc cc0_scratch0 ↦{fullShare} f)
    ∗ (∃ f : S4096x1024.Idx → Elt F .bf16, ((c : Dev nD) : Thread nD τ).loc cc0_scratch1 ↦{fullShare} f)
    ∗ (∃ f : S4096x1024.Idx → Elt F .bf16, ((c : Dev nD) : Thread nD τ).loc cc0_scratch2 ↦{fullShare} f))

/-- Before the body: the records, the rights, the argument and the scratch buffers. -/
def Φ₀ (c : D) : sProp 𝕄 :=
  iprop((∃ K, records m K ∗ bigSepL (startG c) (interp m c)) ∗ (((c : Dev nD) : Thread nD τ).loc main_arg0 ↦{fullShare} X m c) ∗ scratch (F := F) c)
/-- After it: every semaphore at zero, the argument unchanged, and the scratch buffers. -/
def Φ₁ (c : D) : sProp 𝕄 :=
  iprop((bigSepL cells fun x => semVal (cell c x) 0) ∗ (((c : Dev nD) : Thread nD τ).loc main_arg0 ↦{fullShare} X m c) ∗ scratch (F := F) c)

/-- The rights and the buffers that a device is launched with are the resources that its run starts from. -/
theorem start_parts (c : D) : iprop(bigSepL (startG c) (interp m c) ∗ (((c : Dev nD) : Thread nD τ).loc main_arg0 ↦{fullShare} X m c) ∗ scratch (F := F) c
      ∗ ∃ f : S4096x1024.Idx → Elt F .bf16, ((c : Dev nD) : Thread nD τ).loc cc0_stg0_0 ↦{fullShare} f)
    ⊢ bigSepL (start c) (interp m c) := by
  have hF' : ∀ f, (bigSepL units (fun u => hF c u f) : sProp 𝕄) ⊢ bigSepL units fun u => iprop(∃ f, hF c u f) :=
    fun f => bigSepL_mono fun u _ => by iintro H; iexists f; iexact H
  have hO' : ∀ f, (bigSepL units (fun u => hO c u fullShare f) : sProp 𝕄) ⊢ bigSepL units fun u => iprop(∃ f, hO c u fullShare f) :=
    fun f => bigSepL_mono fun u _ => by iintro H; iexists f; iexact H
  have hM' : ∀ f, (bigSepL units (fun u => hM c u fullShare f) : sProp 𝕄) ⊢ bigSepL units fun u => iprop(∃ f, hM c u fullShare f) :=
    fun f => bigSepL_mono fun u _ => by iintro H; iexists f; iexact H
  have hR' : ∀ f, (bigSepL units (fun u => hR c u f) : sProp 𝕄) ⊢ bigSepL units fun u => iprop(∃ f, hR c u f) :=
    fun f => bigSepL_mono fun u _ => by iintro H; iexists f; iexact H
  rw [show start c = units.map Atom.xs ++ (units.map Atom.xfU ++ (units.map Atom.ownU ++ (units.map Atom.mU ++ (units.map Atom.outU ++ startG c)))) from rfl]
  simp only [bigSepL_append, bigSepL_map, interp]
  unfold scratch
  simp only [whole_X, whole_F, whole_O, whole_M, whole_R]
  iintro ⟨HG, HX, ⟨⟨%f0, H0⟩, ⟨%f1, H1⟩, ⟨%f2, H2⟩⟩, ⟨%f3, H3⟩⟩
  isplitl [HX]; · iexact HX
  isplitl [H0]; · iapply (hF' f0); iexact H0
  isplitl [H1]; · iapply (hO' f1); iexact H1
  isplitl [H2]; · iapply (hM' f2); iexact H2
  isplitl [H3]; · iapply (hR' f3); iexact H3
  iexact HG

/-- The resources that a run ends with are the argument unchanged, the buffers and counters to give back, and the
    result. -/
theorem final_parts (c : D) : bigSepL final (interp m c)
    ⊢ iprop(Φ₁ m c ∗ (((c : Dev nD) : Thread nD τ).loc cc0_stg0_0 ↦{fullShare} OUT m c)) := by
  unfold final Φ₁ scratch
  simp only [bigSepL_append, bigSepL_map, interp]
  simp only [← whole_X, ← whole_F, ← whole_O, ← whole_M, ← whole_R]
  iintro ⟨HX, H0, H1, H1', H2, H2', H2'', H3, HZ⟩
  isplitr [H3]
  · isplitl [HZ]; · iexact HZ
    isplitl [HX]; · iexact HX
    isplitl [H0]; · iexists (X m c); iexact H0
    isplitl [H1 H1']
    · iexists (OWN m c)
      iapply (pointsTo_share (PosShare.mem_left_op_right fullShare)).2
      isplitl [H1]; · iexact H1
      iexact H1'
    · iexists (MB m c)
      iapply (pointsTo_share (PosShare.mem_left_op_right fullShare)).2
      isplitl [H2]; · iexact H2
      iapply (pointsTo_share (PosShare.mem_left_op_right fullShare.right)).2
      isplitl [H2']; · iexact H2'
      iexact H2''
  iexact H3

/-- What the launch is told of the call: the contents at entry, the result that the body leaves, what is owed
    before and after it. -/
def dats (_ : Fin 1) (c : Dev nD) : Pipeline.Dat τ (Elt F) Unit ℕ UU ℕ cfg0 c where
  A w := m ((cfg0.win w).arr.view.loc (c : Thread nD τ))
  after w _ := match w with
    | ⟨0, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The result's staging buffer on device `c`, at contents known only to equal `Y`. -/
abbrev staged (c : Dev nD) (Y : S4096x1024.Idx → Elt F .bf16) : sProp 𝕄 :=
  iprop(∃ f : Buf (Elt F) (((c : Dev nD) : Thread nD τ).loc cc0_stg0_0), ⌜f = Y⌝ ∗ (((c : Thread nD τ).loc cc0_stg0_0) ↦{fullShare} f))

/-- Holding the reference to the result's staging buffer at `Y` is holding the buffer so. -/
theorem owns_staged (c : Dev nD) (Y : S4096x1024.Idx → Elt F .bf16) :
    (owns (Ix := Unit) (Name := ℕ) (U := UU) (Lvl := ℕ) (c : Thread nD τ) outM fullShare Y : sProp 𝕄) = staged c Y := by
  simp only [outM, staged, owns, Memref.view_whole, View.read_whole, View.set_whole]

/-- What a device holds when its body starts. -/
def bodyPre (c : Dev nD) : sProp 𝕄 :=
  iprop(Φ₀ m c ∗ (dats m 0 c).owesAt () t0_0.castSucc ∗ (∃ d, staged c ((dats m 0 c).before (0 : Fin 1) t0_0 d)))
/-- What a device holds when its body has ended. -/
def bodyPost (c : Dev nD) : sProp 𝕄 :=
  iprop(Φ₁ m c ∗ (dats m 0 c).owesAt () t0_0.succ ∗ staged c (OUT m c))

/-- At its start the body owes what the device owes at the launch. -/
theorem owes_in (c : Dev nD) : ((dats m 0 c).owesAt () t0_0.castSucc : sProp 𝕄) ⊢ iprop(∃ W, owes (c : Thread nD τ) (O₀ c) W) :=
  TalkSites.owesAt_elim (dats m 0 c) () t0_0.castSucc (O₀ c) rfl
/-- A body that owes nothing has what the end asks for. -/
theorem owes_out (c : Dev nD) (W : Waits sig Unit) : (owes (c : Thread nD τ) 0 W : sProp 𝕄) ⊢ (dats m 0 c).owesAt () t0_0.succ :=
  TalkSites.owesAt_intro (dats m 0 c) () t0_0.succ 0 rfl rfl W

/-- The table's run takes a device from the start to the end. -/
theorem sound_run (c : Dev nD) : bodyPre m c ⊢ WP c (run (ops c)) (fun _ => bodyPost m c) := by
  have hin := owes_in (F := F) m c
  have hout := owes_out (F := F) m c
  unfold bodyPre Φ₀
  iintro ⟨⟨⟨%K, #HR, HG⟩, HX, Hs⟩, Ho, ⟨%d, %f, -, Hst⟩⟩
  ihave Ho := hin $$ Ho
  icases Ho with ⟨%W, Ho⟩
  iapply (device_wp m K c W (fun _ => bodyPost m c)) $$ [HG HX Hs Ho Hst]
  · isplitr; · iexact HR
    isplitr [Ho]
    · iapply (start_parts m c)
      isplitl [HG]; · iexact HG
      isplitl [HX]; · iexact HX
      isplitl [Hs]; · iexact Hs
      iexists f; iexact Hst
    iexact Ho
  iintro %W' Hf Ho
  ihave Hf := (final_parts m c) $$ Hf
  icases Hf with ⟨H1, H2⟩
  unfold bodyPost
  isplitl [H1]; · iexact H1
  isplitl [Ho]; · iapply (hout W'); iexact Ho
  iexists (OUT m c); isplitr; · (ipureintro; rfl)
  iexact H2

/-- So does a program that asks for the device's id and then performs that run. -/
theorem sound_body (c : Dev nD) (p : P F PUnit.{1}) (hp : p = .op .deviceId (fun d => run (ops d))) :
    bodyPre m c ⊢ WP c p (fun _ => bodyPost m c) := by
  subst hp
  unfold WP
  rw [wp_deviceId]
  exact sound_run m c

/-- The body's obligation on device `c`. -/
theorem body_obligation (c : Dev nD) : Pipeline.BodyObligation (dats (F := F) m 0 c) (defs₀ (F := F)) Variants.none () Set.univ := fun t => by
  rw [fin_N0 t]
  rw [bigSep_W0, bigSep_W0]
  simp only [owns_staged]
  exact sound_body m c _ body_eq

end Cert.AllReduce

end
-- ==== Proof.Credit.lean ====
/- What the devices owe at the launch, and the credit that each semaphore has from it. -/
module

public import proofs.«01_k».proof.Proof.Body

@[expose] public section

set_option maxRecDepth 4000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A sum over the members of a list that pass a test. -/
theorem sum_filter {I M : Type} [AddCommMonoid M] (l : List I) (p : I → Prop) [DecidablePred p] (f : I → M) :
    ((l.filter p).map f).sum = (l.map fun i => if p i then f i else 0).sum := by
  induction l with
  | nil => rfl
  | cons i l ih =>
    by_cases h : p i
    · rw [List.filter_cons_of_pos (by simpa using h), List.map_cons, List.map_cons, List.sum_cons, List.sum_cons, ih, if_pos h]
    · rw [List.filter_cons_of_neg (by simpa using h), List.map_cons, List.sum_cons, ih, if_neg h, zero_add]

/-- A sum over lists one after the other. -/
theorem sum_flat {I J M : Type} [AddCommMonoid M] (l : List I) (f : I → List J) (t : J → M) :
    ((l.flatMap f).map t).sum = (l.map fun i => ((f i).map t).sum).sum := by
  induction l with
  | nil => rfl
  | cons i l ih => rw [List.flatMap_cons, List.map_append, List.sum_append, ih, List.map_cons, List.sum_cons]

/-- What does not count. -/
theorem due_map {I : Type} (l : List I) (f : I → Atom) (h : ∀ i, due (f i) = 0) : ((l.map f).map due).sum = (0 : CellTallies nD τ sig Unit) :=
  due_zero _ fun a ha => by obtain ⟨i, -, rfl⟩ := List.mem_map.mp ha; exact h i

/-- A device owes one raise to each neighbour's barrier, and each receipt that it sends. -/
theorem O₀_eq (d : D) : O₀ d = (∑ n ∈ (nbr d).toFinset, tallyAt (cell n .bar) () 1)
    + ∑ n : D, ∑ u : Un, if src n u = d then tallyAt (cell n (.m u)) () NM else 0 := by
  have hb : (((nbr d).map Atom.btok).map due).sum = ∑ n ∈ (nbr d).toFinset, (tallyAt (cell n .bar) () 1 : CellTallies nD τ sig Unit) := by
    rw [List.sum_toFinset _ (nbr_nodup d), List.map_map]; rfl
  have hm : ((devs.flatMap fun n => (unitsFrom d n).map (Atom.mtok n)).map due).sum
      = ∑ n : D, ∑ u : Un, if src n u = d then (tallyAt (cell n (.m u)) () NM : CellTallies nD τ sig Unit) else 0 := by
    rw [sum_flat, Fin.sum_univ_def]
    refine congrArg List.sum (List.map_congr_left fun n _ => ?_)
    rw [Fin.sum_univ_def, List.map_map]
    exact sum_filter units (fun u => src n u = d) (fun u => (tallyAt (cell n (.m u)) () NM : CellTallies nD τ sig Unit))
  unfold O₀ start
  simp only [List.map_append, List.sum_append, List.map_cons, List.sum_cons]
  rw [hb, hm]
  have h0 : ∀ (f : Un → Atom), (∀ i, due (f i) = 0) → ((units.map f).map due).sum = (0 : CellTallies nD τ sig Unit) := fun f h => due_map units f h
  rw [h0 _ fun _ => rfl, h0 _ fun _ => rfl, h0 _ fun _ => rfl, h0 _ fun _ => rfl, h0 _ fun _ => rfl, h0 _ fun _ => rfl, h0 _ fun _ => rfl,
    due_map cells _ fun _ => rfl, due_map (used d) _ fun _ => rfl, show due (Atom.cred .bar) = 0 from rfl]
  simp only [zero_add]

/-- A tally at one semaphore of one device, read at another, is zero. -/
theorem tally_cell (n c : D) (y x : Cell) (k : ℕ) : (tallyAt (cell n y) () k : CellTallies nD τ sig Unit) (cell c x) () = if c = n ∧ x = y then k else 0 := by
  rw [tallyAt_apply]
  by_cases h : c = n ∧ x = y
  · obtain ⟨rfl, rfl⟩ := h; rw [if_pos ⟨rfl, rfl⟩, if_pos ⟨rfl, rfl⟩]
  · rw [if_neg fun h' => h (cell_inj h'.1), if_neg h]

/-- Device `d` owes the receipt of unit `u` on `c` exactly if it is its sender. -/
theorem owed_m (d c : D) (u : Un) : O₀ d (cell c (.m u)) () = if src c u = d then NM else 0 := by
  rw [O₀_eq, Pi.add_apply, Finsupp.add_apply, Finset.sum_apply, Finsupp.finset_sum_apply, Finset.sum_apply, Finsupp.finset_sum_apply,
    Finset.sum_eq_zero fun n _ => by rw [tally_cell, if_neg fun h => by cases h.2], zero_add]
  rw [Finset.sum_eq_single c (fun n _ hn => ?_) (fun h => absurd (Finset.mem_univ _) h), Finset.sum_apply, Finsupp.finset_sum_apply,
    Finset.sum_eq_single u (fun v _ hv => ?_) (fun h => absurd (Finset.mem_univ _) h)]
  · split
    · rw [tally_cell, if_pos ⟨rfl, rfl⟩]
    · rfl
  · split
    · rw [tally_cell, if_neg fun h => hv (by injection h.2 with e; exact e.symm)]
    · rfl
  · rw [Finset.sum_apply, Finsupp.finset_sum_apply]
    refine Finset.sum_eq_zero fun v _ => ?_
    split
    · rw [tally_cell, if_neg fun h => hn h.1.symm]
    · rfl

/-- Device `d` owes one signal to the barrier of each of its neighbours. -/
theorem owed_bar (d c : D) : O₀ d (cell c .bar) () = if c ∈ nbr d then 1 else 0 := by
  rw [O₀_eq, Pi.add_apply, Finsupp.add_apply, Finset.sum_apply, Finsupp.finset_sum_apply, Finset.sum_apply, Finsupp.finset_sum_apply,
    Finset.sum_eq_zero (s := Finset.univ) fun n _ => ?_, add_zero]
  · rw [Finset.sum_congr rfl fun n _ => show _ = if c = n then 1 else 0 by
      rw [tally_cell]; exact if_congr ⟨fun h => h.1, fun h => ⟨h, rfl⟩⟩ rfl rfl]
    rw [Finset.sum_ite_eq]
    exact if_congr List.mem_toFinset rfl rfl
  · rw [Finset.sum_apply, Finsupp.finset_sum_apply]
    refine Finset.sum_eq_zero fun v _ => ?_
    split
    · rw [tally_cell, if_neg fun h => by cases h.2]
    · rfl

/-- As many devices have `c` as a neighbour as `c` has neighbours. -/
theorem sum_nbr : ∀ c : D, (∑ d : D, if c ∈ nbr d then 1 else 0) = (nbr c).length := by decide +kernel

/-- The only semaphores that a device owes are barriers and receipts. -/
theorem O₀_pos {d : D} {g : GSem nD τ sig} {i : Unit} (h : 0 < O₀ d g i) : ∃ (n : D) (x : Cell), g = cell n x ∧ 1 ≤ lv g () := by
  rw [O₀_eq, Pi.add_apply, Finsupp.add_apply, Finset.sum_apply, Finsupp.finset_sum_apply, Finset.sum_apply, Finsupp.finset_sum_apply] at h
  by_contra hn
  rw [Finset.sum_eq_zero, Finset.sum_eq_zero] at h
  · exact absurd h (lt_irrefl 0)
  · intro n _
    rw [Finset.sum_apply, Finsupp.finset_sum_apply]
    refine Finset.sum_eq_zero fun v _ => ?_
    split
    · rw [tallyAt_apply, if_neg]
      rintro ⟨rfl, -⟩
      refine hn ⟨n, .m v, rfl, ?_⟩
      rw [lv_cell]; exact le_trans (by decide) (lev_pos n v).1
    · rfl
  · intro n _
    rw [tallyAt_apply, if_neg]
    rintro ⟨rfl, -⟩
    exact hn ⟨n, .bar, rfl, by rw [lv_cell]⟩

/-! ## The launch's credit -/

/-- The launch's credit at a receipt is the bytes of one unit. -/
theorem launch_m (c : D) (u : Un) :
    tallyOn (cell c (.m u)) (launchCredit (Pipeline.owing O₀) 0 (cell c (.m u))) = (tallyAt (cell c (.m u)) () NM : CellTallies nD τ sig Unit) := by
  unfold tallyAt; refine congrArg _ (Finsupp.ext fun i => ?_); cases i
  rw [Pipeline.launchCredit_owing, Finsupp.single_eq_same]
  refine (Finset.sum_congr rfl fun d _ => owed_m d c u).trans ?_
  rw [Finset.sum_ite_eq, if_pos (Finset.mem_univ _)]

/-- The launch's credit at a barrier is one for each neighbour. -/
theorem launch_bar (c : D) :
    tallyOn (cell c .bar) (launchCredit (Pipeline.owing O₀) 0 (cell c .bar)) = (tallyAt (cell c .bar) () (nbr c).length : CellTallies nD τ sig Unit) := by
  unfold tallyAt; refine congrArg _ (Finsupp.ext fun i => ?_); cases i
  rw [Pipeline.launchCredit_owing, Finsupp.single_eq_same]
  exact (Finset.sum_congr rfl fun d _ => owed_bar d c).trans (sum_nbr c)

/-- The list of the semaphores holds every semaphore. -/
theorem univ_cells : (Finset.univ : Finset Cell) = cells.toFinset := rfl

/-- The credit of a device's semaphores at the launch: its barrier's and its receipts'. -/
theorem creds (m : (ℓ : Loc nD τ sig) → Buf (Elt F) ℓ) (c : D) :
    (Pipeline.launchCred O₀ c : sProp 𝕄) ⊢ iprop(interp m c (.cred .bar) ∗ bigSepL units fun u => interp m c (.cred (.m u))) := by
  have h1 : (Pipeline.launchCred O₀ c : sProp 𝕄)
      ⊢ bigSep (Finset.univ.map ⟨Cell.sem, Cell.sem_injective⟩) fun sm : SemLoc sig => cred (tallyOn (((c : Dev nD) : Thread nD τ), sm) (launchCredit (Pipeline.owing O₀) 0 (((c : Dev nD) : Thread nD τ), sm))) := by
    unfold Pipeline.launchCred; exact BI.bigSep_subset (Finset.subset_univ _)
  rw [bigSep_map, bigSep_univ_eq_bigSepL cells univ_cells cells_nodup] at h1
  have h2 : (bigSepL cells fun x => (cred (tallyOn (cell c x) (launchCredit (Pipeline.owing O₀) 0 (cell c x))) : sProp 𝕄))
      ⊢ iprop(interp m c (.cred .bar) ∗ bigSepL units fun u => interp m c (.cred (.m u))) := by
    unfold cells
    rw [bigSepL_cons', bigSepL_append, bigSepL_append, bigSepL_map, bigSepL_map]
    simp only [launch_m, launch_bar, interp]
    iintro ⟨HB, -, HM, -⟩
    isplitl [HB]; · iexact HB
    iexact HM
  exact h1.trans h2

end Cert.AllReduce

end
-- ==== Proof.Launch.lean ====
/- The launch: the protocol's rights dealt to the devices, and the run of the whole program. -/
module

public import proofs.«01_k».proof.Proof.Credit
public import Idealize.ShloMosaic.Lib.Pipeline.CollectiveSegs

@[expose] public section

set_option maxRecDepth 4000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own semaphores: all but the barrier. -/
abbrev Own : Type := {x : Cell // x ≠ .bar}
abbrev osem (k : Own) : SemLoc sig := k.1.sem

/-- Every semaphore of the protocol but the barrier is one of the kernel's own, and none is the result's. -/
theorem own_ok : ∀ x : Cell, x ≠ .bar → x.sem.isScoped .tc = true ∧ ∀ (w : Fin 1) (s : Fin (spec0 w).nbuf), x.sem ≠ .dma ((spec0 w).sem s) := by
  have h : ∀ x ∈ cells, x ≠ .bar → x.sem.isScoped .tc = true ∧ ∀ (w : Fin 1) (s : Fin (spec0 w).nbuf), x.sem ≠ .dma ((spec0 w).sem s) := by decide +kernel
  exact fun x => h x (mem_cells x)

/-- The kernel's own semaphores are scoped, different from each other and from the staging buffer's. -/
theorem ownSemFacts : Pipeline.OwnSemFacts spec0 osem :=
  ⟨fun k => (own_ok k.1 k.2).1, fun k k' h => Subtype.ext (Cell.sem_injective h), fun k => (own_ok k.1 k.2).2⟩

/-- The counters at zero of a device's own semaphores and of its barrier are those of all its semaphores. -/
theorem sems_eq (c : D) : (iprop(Pipeline.ownSems0 (Ix := Unit) (Name := ℕ) (U := UU) (Lvl := ℕ) (Val := Elt F) (τ := τ) osem c ∗ unscopedSems0 c) : sProp 𝕄)
    = bigSep Finset.univ fun x : Cell => semVal (cell c x) 0 := by
  have h1 : (Pipeline.ownSems0 (Ix := Unit) (Name := ℕ) (U := UU) (Lvl := ℕ) (Val := Elt F) (τ := τ) osem c : sProp 𝕄)
      = bigSep (Finset.univ.erase Cell.bar) fun x : Cell => semVal (cell c x) 0 := by
    unfold Pipeline.ownSems0; exact bigSep_subtype_ne Cell.bar fun x : Cell => (semVal (cell c x) 0 : sProp 𝕄)
  have h2 : (unscopedSems0 c : sProp 𝕄) = semVal (cell c .bar) 0 := by
    unfold unscopedSems0; rw [bigSep_eq_bigSepL_of_eq [SemLoc.reg barS] (by decide) (by decide)]; rfl
  rw [h1, h2, bigSep_univ_at (fun x : Cell => (semVal (cell c x) 0 : sProp 𝕄)) .bar]
  exact equiv_iff.mp ⟨BI.sep_comm, BI.sep_comm⟩

/-! ## The rights, as made and as dealt -/

/-- The rights that device `c` holds: the semaphores that it raises. -/
def toksOf (c : D) : List (D × Cell) :=
  units.map (fun u => (c, Cell.l u)) ++ ((used c).map (fun s => (c, Cell.s s.1 s.2)) ++ ((nbr c).map (fun n => (n, Cell.bar))
    ++ devs.flatMap fun n => (unitsFrom c n).map fun u => (n, Cell.m u)))

/-- No device has the right to raise one semaphore twice. -/
theorem toksOf_nodup : ∀ c : D, (toksOf c).Nodup := by decide +kernel

/-- The right of device `i.1` to raise semaphore `i.2`. -/
abbrev tokOf (i : D × (D × Cell)) : GSem nD τ sig × ℕ × D := (cell i.2.1 i.2.2, 0, i.1)
/-- Different rights are different tokens. -/
theorem tokOf_injective : Function.Injective tokOf := by
  rintro ⟨d, c, x⟩ ⟨d', c', x'⟩ h
  obtain ⟨rfl, rfl⟩ := cell_inj (congrArg (fun t : GSem nD τ sig × ℕ × D => t.1) h)
  have : d = d' := congrArg (fun t : GSem nD τ sig × ℕ × D => t.2.2) h
  rw [this]

/-- A semaphore of a device. -/
abbrev cellAt (p : D × Cell) : GSem nD τ sig := cell p.1 p.2
/-- Different pairs of device and semaphore are different semaphores of the machine. -/
theorem cellAt_injective : Function.Injective cellAt := by
  rintro ⟨c, x⟩ ⟨c', x'⟩ h
  obtain ⟨rfl, rfl⟩ := cell_inj h
  rfl

/-- All semaphores of all devices. -/
def allCells : Finset (GSem nD τ sig) := Finset.univ.map ⟨cellAt, cellAt_injective⟩
/-- The rights of device `c`. -/
def toksAt (c : D) : Finset (D × (D × Cell)) := (toksOf c).toFinset.map ⟨fun p => (c, p), fun p p' h => congrArg Prod.snd h⟩
/-- All rights of all devices. -/
def allToks : Finset (GSem nD τ sig × ℕ × D) := ((Finset.univ : Finset D).biUnion toksAt).map ⟨tokOf, tokOf_injective⟩

/-- Two devices have no right in common. -/
theorem toksAt_disjoint : ∀ c ∈ (Finset.univ : Finset D), ∀ c' ∈ (Finset.univ : Finset D), c ≠ c' → Disjoint (toksAt c) (toksAt c') := by
  intro c _ c' _ h
  refine Finset.disjoint_left.mpr fun i hi hi' => h ?_
  obtain ⟨p, -, rfl⟩ := Finset.mem_map.mp hi
  obtain ⟨p', -, e⟩ := Finset.mem_map.mp hi'
  exact (congrArg Prod.fst e).symm

/-- The ghost state at the launch: the pipeline's and the protocol's. -/
def u₀ : UU := (initOf (Pipeline.cells cfgs cellOf_inj) (Pipeline.launchToks cfgs cellOf_inj), initOf allCells allToks)

/-- The rights of device `c`. -/
def toks (c : D) : sProp 𝕄 := bigSepL (toksOf c) fun p => dutyTok ER (cell p.1 p.2) 0 c

/-- What the launch element deals device `c`. -/
def G (c : Dev nD) : sProp 𝕄 :=
  iprop((bigSep Finset.univ fun x : Cell => roundState ER (sched m) (cell c x) 0)
    ∗ (bigSep Finset.univ fun x : Cell => iprop(atPos ER (cell c x) 0 ∅ 0 ∗ reached ER (cell c x) 0)) ∗ toks c)

/-- The protocol's ghost state is every device's positions and rights. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Cell => Φ (cell c x) := by
    unfold allCells; rw [bigSep_map, bigSep_univ_prod]; rfl
  have hT : bigSep allToks (fun x => (dutyTok ER x.1 x.2.1 x.2.2 : sProp 𝕄)) = bigSep Finset.univ fun c : Dev nD => toks c := by
    unfold allToks
    rw [bigSep_map, bigSep_biUnion_eq _ _ _ toksAt_disjoint]
    refine bigSep_congr fun c _ => ?_
    unfold toksAt toks
    rw [bigSep_map, bigSep_eq_bigSepL_of_eq (toksOf c) rfl (toksOf_nodup c)]
    rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

/-- On each device the counters at zero and the positions make every semaphore's invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (sched m) κ (cell c x)))
          ∗ (bigSep Finset.univ fun x : Cell => iprop(atPos ER (cell c x) 0 ∅ 0 ∗ reached ER (cell c x) 0)) ∗ toks c) := by
  unfold G
  iintro ⟨Hos, Hus, Hst, Hat, Htok⟩
  ihave Hv := (Entails.of_eq (sems_eq (F := F) c)) $$ [Hos Hus]
  · isplitl [Hos] <;> iassumption
  imod (show iprop((bigSep Finset.univ fun x : Cell => semVal (cell c x) 0) ∗ bigSep Finset.univ fun x : Cell => roundState ER (sched m) (cell c x) 0)
      ⊢ (|={Set.univ}=> bigSep Finset.univ fun x => iprop(∃ κ : ℕ, cellInv ER (sched m) κ (cell c x)) : sProp 𝕄) from by
        rw [← bigSep_sep']
        exact (bigSep_mono fun x _ => (Rounds.body_intro ER (sched m) (cell c x)).trans inv_alloc).trans (bigSep_fupd _ _)) $$ [Hv Hst] with Hinv
  · isplitl [Hv] <;> iassumption
  imodintro
  isplitl [Hinv]; · iexact Hinv
  isplitl [Hat]; · iexact Hat
  iexact Htok

/-- The records but for the levels. -/
def known (K : D × Cell → ℕ) : sProp 𝕄 :=
  iprop((bigSep Finset.univ fun p : D × Cell => cellInv ER (sched m) (K p) (cell p.1 p.2))
    ∗ bigSep Finset.univ fun p : D × Cell => reached ER (cell p.1 p.2) 0)
/-- What is known of all semaphores stays known. -/
instance known_persistent (K : D × Cell → ℕ) : BI.Persistent (known (F := F) m K) := by unfold known; infer_instance

/-- The positions and the rights of device `c`. -/
def rights (c : D) : sProp 𝕄 := iprop((bigSep Finset.univ fun x : Cell => atPos ER (cell c x) 0 ∅ 0) ∗ toks c)

/-- What a device starts from: what is known of all semaphores, and its rights. -/
def G' (c : Dev nD) : sProp 𝕄 := iprop(∃ K, known m K ∗ rights c)

/-- The invariants made on each device are known on all of them. -/
theorem regroup :
    (bigSep Finset.univ fun c : Dev nD => iprop((bigSep Finset.univ fun x => iprop(∃ κ : ℕ, cellInv ER (sched m) κ (cell c x)))
          ∗ (bigSep Finset.univ fun x : Cell => iprop(atPos ER (cell c x) 0 ∅ 0 ∗ reached ER (cell c x) 0)) ∗ toks c) : sProp 𝕄)
      ⊢ bigSep Finset.univ (G' m) := by
  rw [bigSep_sep', bigSep_sep', ← bigSep_univ_prod (fun p : Dev nD × Cell => iprop(∃ κ : ℕ, cellInv ER (sched m) κ (cell p.1 p.2))),
    bigSep_congr (s := Finset.univ) (fun (c : Dev nD) _ => bigSep_sep' Finset.univ (fun x : Cell => (atPos ER (cell c x) 0 ∅ 0 : sProp 𝕄)) (fun x => reached ER (cell c x) 0)),
    bigSep_sep', ← bigSep_univ_prod (fun p : Dev nD × Cell => (reached ER (cell p.1 p.2) 0 : sProp 𝕄))]
  iintro ⟨HI, ⟨Hat, #HR⟩, Htok⟩
  ihave HK := (BI.bigSep_exists_pi Finset.univ (fun (p : Dev nD × Cell) (κ : ℕ) => (cellInv ER (sched m) κ (cell p.1 p.2) : sProp 𝕄))) $$ HI
  icases HK with ⟨%K, #HI⟩
  have hG : ∀ c : Dev nD, iprop(known m K ∗ rights c) ⊢ G' m c := fun c => by unfold G'; iintro H; iexists K; iexact H
  iapply (bigSep_with_persistent (S := Finset.univ) (R := known m K) (Φ := fun c : Dev nD => rights c) fun c _ => hG c)
  isplitr
  · unfold known; isplitl; · iexact HI
    iexact HR
  · unfold rights; simp only [bigSep_sep']
    isplitl [Hat] <;> iassumption

/-- Every device's semaphores and rights at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device starts from and ends in -/

/-- What a device brings to the kernel: the records, its rights and its argument. -/
def begin (c : Dev nD) : sProp 𝕄 :=
  iprop((∃ K, records m K ∗ bigSepL (startG c) (interp m c)) ∗ (((c : Dev nD) : Thread nD τ).loc main_arg0 ↦{fullShare} X m c))

/-- The rights and the launch's credit are the resources of the protocol that a run starts from. -/
theorem rights_start (c : D) : iprop(rights c ∗ Pipeline.launchCred O₀ c) ⊢ (bigSepL (startG c) (interp m c) : sProp 𝕄) := by
  have hc := creds m c
  unfold rights toks toksOf startG
  rw [bigSep_univ_eq_bigSepL cells univ_cells cells_nodup]
  simp only [bigSepL_append, bigSepL_map, bigSepL_cons', bigSepL_flat]
  iintro ⟨⟨HP, H1, H2, H3, H4⟩, HC⟩
  ihave HC := hc $$ HC
  icases HC with ⟨HB, HM⟩
  isplitl [HP]; · simp only [interp]; iexact HP
  isplitl [H1]; · simp only [interp]; iexact H1
  isplitl [H2]; · simp only [interp]; iexact H2
  isplitl [HB]; · iexact HB
  isplitl [HM]; · iexact HM
  isplitl [H3]; · simp only [interp]; iexact H3
  simp only [interp]; iexact H4

/-- What the launch deals to a device is what the device begins with. -/
theorem begin_intro (c : Dev nD) :
    iprop(Pipeline.unscopedRestP Pipeline.Prefetch.none spec0 c (fun b => m ((c : Thread nD τ).loc b)) ∗ levAts L lv
        ∗ Pipeline.launchCred O₀ c ∗ prngReg c (ρ c) ∗ G' m c)
      ⊢ |={Set.univ}=> iprop(begin m c ∗ emp) := by
  rw [Pipeline.unscopedRestP_none, unscopedRest0_eq]
  have hl : (levAts L lv : sProp 𝕄) ⊢ levs (F := F) := by unfold levs; exact BI.Entails.refl _
  unfold G' begin records known
  iintro ⟨HX, HL, Hcr, -, ⟨%K, ⟨HI, HR⟩, Hr⟩⟩
  imodintro
  isplitl
  · isplitr [HX]
    · iexists K
      isplitl [HI HR HL]
      · isplitl [HI]; · iexact HI
        isplitl [HR]; · iexact HR
        iapply hl; iexact HL
      · iapply (rights_start m c)
        isplitl [Hr]; · iexact Hr
        iexact Hcr
    iexact HX
  · iempintro

/-- With the scoped buffers it is the body's start. -/
theorem phi0_intro (c : Dev nD) :
    iprop(begin m c ∗ Pipeline.prefHeld Pipeline.Prefetch.none c (fun _ => fullShare.right) (fun k => k.elim0) ∗ Pipeline.scopedRest spec0 c)
      ⊢ (dats m 0 c).Φ 0 := by
  rw [show (dats m 0 c).Φ 0 = Φ₀ m c from rfl, scopedRest0_eq]
  unfold Φ₀ begin scratch
  iintro ⟨⟨H1, H2⟩, -, H3⟩
  isplitl [H1]; · iexact H1
  isplitl [H2]; · iexact H2
  iexact H3

/-- What a device takes from the kernel: the barrier at zero and its argument. -/
def finish (c : Dev nD) : sProp 𝕄 := iprop(unscopedSems0 c ∗ (((c : Dev nD) : Thread nD τ).loc main_arg0 ↦{fullShare} X m c))

/-- The body's end gives back the scoped buffers and the counters at zero. -/
theorem phi1_exit (c : Dev nD) :
    (dats m 0 c).Φ (Fin.last cfg0.N) ⊢ iprop(finish m c ∗ Pipeline.ownSems0 osem c ∗ Pipeline.scopedRest spec0 c) := by
  rw [show (dats m 0 c).Φ (Fin.last cfg0.N) = Φ₁ m c from rfl, scopedRest0_eq]
  have h := Entails.of_eq ((sems_eq (F := F) c).trans (bigSep_univ_eq_bigSepL cells univ_cells cells_nodup _)).symm
  unfold Φ₁ finish scratch
  iintro ⟨HZ, HX, Hs⟩
  ihave HZ := h $$ HZ
  icases HZ with ⟨HO, HB⟩
  isplitl [HB HX]
  · isplitl [HB]; · iexact HB
    iexact HX
  isplitl [HO]; · iexact HO
  iexact Hs

/-- The staging buffer's semaphore is none of the protocol's. -/
theorem dec_stage : ∀ (w : Fin 1) (s : Fin (spec0 w).nbuf), dec (.dma ((spec0 w).sem s)) = none := by decide +kernel

/-- The result's own semaphore may be waited on whatever is owed. -/
theorem mayWait_stage (c : Dev nD) (w : Fin 1) (s : Fin (spec0 w).nbuf) (O : CellTallies nD τ sig Unit) (hO : O = O₀ c ∨ O = 0) :
    levs (F := F) ⊢ MayWait (c : Thread nD τ) (.dma ((spec0 w).sem s)) () O := by
  rcases hO with rfl | rfl
  · unfold levs
    refine MayOwe.of_cut (L := L) (lev := lv) 0 (fun p hp => ?_) (fun g i hg => ?_) (fun p hp => ?_) (fun g i hg => ?_)
    · rw [Finset.mem_singleton.mp hp, L_tc]; exact Finset.mem_singleton_self _
    · obtain ⟨n, x, rfl, -⟩ := O₀_pos hg
      rw [L_tc]; exact Finset.mem_singleton_self _
    · rw [Finset.mem_singleton.mp hp]; unfold lv; rw [dec_stage]
    · obtain ⟨n, x, rfl, h⟩ := O₀_pos hg
      exact h
  · rw [MayWait_zero]; iintro -; iempintro

/-- A wait for the result's write-back is allowed: nothing is owed below it. -/
theorem waits (c : Dev nD) : (levAts L lv : sProp 𝕄) ⊢ Pipeline.cellsWaits cfgs (dats m) () 0 c := by
  have h : levs (F := F) ⊢ Pipeline.cellsWaits cfgs (dats m) () 0 c :=
    Pipeline.cellsWaits_intro cfgs (dats m) () 0 c fun w s t =>
      mayWait_stage c w s _ (by
        rcases t with ⟨_ | _, ht⟩
        · exact Or.inl rfl
        · exact Or.inr rfl)
  unfold levs at h
  exact h

/-! ## The run -/

/-- What the array of window `w` on device `c` holds at the end. -/
def finalA (c : Dev nD) (w : Fin cfg0.W) : Buf (Elt F) ((cfg0.win w).arr.view.loc (c : Thread nD τ)) := (dats m 0 c).arrAt w cfg0.N

/-- The result's array is held with the full share. -/
theorem share_eq (c : Dev nD) (w : Fin cfg0.W) : (dats m 0 c).share w = fullShare := by unfold Pipeline.Dat.share; split <;> rfl

/-- What holds of the memory at the end: the result, the argument and the semaphores. -/
def QC (r : PUnit.{1} × MemSt nD τ sig (Elt F)) : Prop :=
  (∀ c : Dev nD, (∀ w : Fin cfg0.W, r.2.mem ((cfg0.win w).arr.view.loc (c : Thread nD τ)) = finalA m c w)
    ∧ r.2.mem ((c : Thread nD τ).loc main_arg0) = m ((c : Thread nD τ).loc main_arg0)) ∧ r.2.sem = fun _ => 0

/-- At the end a device's unscoped counters are zero and its argument is unchanged. -/
theorem read_end (c : Dev nD) (s' : Phys nD τ sig (Elt F)) :
    iprop(finish m c ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg0) = m ((c : Thread nD τ).loc main_arg0)⌝ ∗ SI s') : sProp 𝕄) := by
  unfold finish
  iintro ⟨⟨Hu, HX⟩, -, HSI⟩
  icombine HSI HX gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => h i (Finset.mem_univ _)⟩
  iexact HSI

set_option maxRecDepth 8000 in
/-- On the mesh of sixteen devices, for any float values and from any memory with every counter at zero, every run of the
    program ends, with each device's result as computed, its argument unchanged and every counter at zero. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := begin m) (Y := finish m) (Z := fun _ => iprop(emp))
    (hX := begin_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := read_end m)
    (hQ := fun _ h hs => ⟨fun c => ⟨fun w => (h c).1 w, (h c).2.2.2⟩, sem_eq_zero hs fun c => (h c).2.2.1⟩)

end Cert.AllReduce

end
-- ==== Proof.Values.lean ====
/- What the result holds: on every device the sum of the argument's two halves, rounded, as the reference has it. -/
module

public import proofs.«01_k».proof.Proof.Launch
public import proofs.«01_k».proof.Proof.Gen.ReferenceIdeal.Run
public import proofs.«01_k».proof.Defs
public import Idealize.ShloMosaic.Lib.Pipeline.ValueKit
public import Idealize.ShloMosaic.Lib.IdealHost
public import Idealize.ShloMosaic.Lib.ValueIdx
public import Idealize.ShloMosaic.PureOps.Ideal.Laws

@[expose] public section

set_option maxRecDepth 4000

noncomputable section

namespace Cert.AllReduce

open Cert.KernelIdeal Cert.KernelIdeal.Gen
open Idealize.ShloMosaic Idealize.ShloMosaic.TcCoe

/-- The result buffer ends holding what the body left in the staging buffer. -/
theorem final_result {F : FTy → Type} [FloatOps F] (m : (ℓ : Loc nD τ sig) → Buf (Elt F) ℓ) (c : Dev nD) :
    finalA m c 0 = OUT m c := by
  refine (dats m 0 c).arrAt_eq_of_covers 0 _ (by decide +kernel) fun t hf y => ?_
  obtain rfl := fin_N0 t
  show OUT m c _ = OUT m c _
  congr 1
  funext a
  fin_cases a <;> (apply Fin.ext; symm; exact Pipeline.Window.rect_emb_val_of_index_zero win0_0 t0_0 _ (by decide +kernel) y)

/-- The shape of the whole argument. -/
abbrev Whole : Shape := ⟨2, ![8192, 1024]⟩

/-- The row and column of half `k` that a block's index names in the whole argument. -/
def half (k : Fin 2) (i : S4096x1024.Idx) : Whole.Idx :=
  ix2 ⟨k.val * 4096 + (i 0).val, by have h : (i 0).val < 4096 := (i 0).isLt; have := k.isLt; omega⟩ (i 1)

/-- The sum of the two halves of `v`. -/
def total (v : Whole.Idx → EReal) (i : S4096x1024.Idx) : EReal := v (half 0 i) + v (half 1 i)

/-- The reference's result at `Ideal` is the sum of the two halves. -/
theorem reference_total (v : Whole.Idx → EReal) (hs : Whole.ShapeCasts ⟨3, ![2, 4096, 1024]⟩)
    (hr : Shape.ReducesTo ⟨3, ![2, 4096, 1024]⟩ [0] S4096x1024) (hu : 0 < Shape.numel ⟨0, ![]⟩) (hb) :
    (truncf (F := Ideal) .bf16 (Host.reduceAdd (F := Ideal) (φ := .f32) (shapeCast ⟨3, ![2, 4096, 1024]⟩ v hs) (constant (F := Ideal) ⟨0, ![]⟩ .f32 0x00000000#32) hr hu) hb
      : S4096x1024.Idx → EReal) = total v := by
  funext i
  have hred : Shape.Reduces ⟨3, ![2, 4096, 1024]⟩ [0] S4096x1024 := by decide
  have key : ∀ k : Fin 2, shapeCast ⟨3, ![2, 4096, 1024]⟩ v hs (hred.lift i k) = v (half k i) := fun k =>
    shapeCast_apply v hs _ _ (by
      rw [Shape.rowMajor_val_three, Shape.rowMajor_val_two]
      show (k.val * 4096 + (i 0).val) * 1024 + (i 1).val = (k.val * 4096 + (i 0).val) * 1024 + (i 1).val
      rfl)
  show Ideal.hostReduceAdd hr (shapeCast ⟨3, ![2, 4096, 1024]⟩ v hs) (FloatOps.ofBits (F := Ideal) .f32 0x00000000#32) i = _
  rw [Ideal.hostReduceAdd_single hr hred]
  refine (congrArg₂ (· + ·) Ideal.ofBits_zero_f32 (Fin.sum_univ_two _)).trans ?_
  rw [zero_add, key, key]; rfl

/-- What device `c` holds of the whole argument `v`. -/
abbrev piece (v : Whole.Idx → EReal) (c : Dev nD) : S4096x1024.Idx → EReal :=
  Layout.blockN ⟨2, ![4096, 1024]⟩ ⟨2, ![8192, 1024]⟩ (Layout.meshBlock [2, 2, 4] ![[1], []] c) v

/-- Device `c` holds the half that its `y` coordinate names. -/
theorem piece_half (v : Whole.Idx → EReal) (c : Dev nD) (i : S4096x1024.Idx) : piece v c i = v (half (Fin.ofNat 2 (cy c)) i) := by
  have hc : ∀ c : Dev nD, Layout.meshLin [2, 2, 4] c.val [1] = (Fin.ofNat 2 (cy c)).val := by decide +kernel
  show v _ = v _
  congr 1
  funext a
  apply Fin.ext
  fin_cases a
  · show Layout.meshLin [2, 2, 4] c.val [1] * 4096 + (i 0).val = (Fin.ofNat 2 (cy c)).val * 4096 + (i 0).val
    rw [hc]
  · show Layout.meshLin [2, 2, 4] c.val [] * 1024 + (i 1).val = (i 1).val
    show 0 * 1024 + (i 1).val = _
    omega

/-- When every device holds its half of `v`, each result is the sum of the two halves. -/
theorem out_total (m : (ℓ : Loc nD τ sig) → Buf (Elt Ideal) ℓ) (v : Whole.Idx → EReal)
    (h : ∀ c : Dev nD, m ((c : Thread nD τ).loc main_arg0) = piece v c) (c : Dev nD) : OUT m c = total v := by
  funext i
  have hX : ∀ d : Dev nD, X m d i = piece v d i := fun d => congrFun (h d) i
  show @HAdd.hAdd EReal EReal EReal _ (X m c i) (X m (org c (unitOf i)) i) = _
  rw [hX, hX, piece_half, piece_half, cy_org]
  have hc : cy c = 0 ∨ cy c = 1 := by unfold cy; omega
  unfold total
  rcases hc with e | e <;> rw [e]
  · rfl
  · exact add_comm _ _

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem

/-- The idealized kernel ends with its argument unchanged and every counter at zero. -/
theorem frame_kernelIdeal : Cert.quiescent_KernelIdeal := fun m ρ _ =>
  (θ_run Cert.KernelIdeal.defs _ _).mono (fun _ h => ⟨fun c => (h.1 c).2, h.2⟩) (AllReduce.run_main (F := Ideal) m ρ)

/-- The two printed programs have the same runs: they have the same text. -/
theorem same {F : FTy → Type} [FloatOps F] : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) := by sl_kernel_rfl

/-- The kernel, at the bit-exact values, ends so too: its text is the idealized kernel's. -/
theorem frame_kernel : Cert.quiescent_Kernel := fun m ρ _ => by
  have h := AllReduce.run_main (F := Bits) m ρ
  have h' := (θ_run Cert.KernelIdeal.defs _ _).mono (Q' := fun r => (∀ c : Dev Cert.KernelIdeal.nD,
      r.2.mem ((c : Thread Cert.KernelIdeal.nD Cert.KernelIdeal.τ).loc Cert.KernelIdeal.main_arg0)
        = m ((c : Thread Cert.KernelIdeal.nD Cert.KernelIdeal.τ).loc Cert.KernelIdeal.main_arg0)) ∧ r.2.sem = fun _ => 0)
    (fun _ H => ⟨fun c => (H.1 c).2, H.2⟩) h
  rw [← same] at h'
  exact h'

/-- The reference ends with its argument unchanged and every counter at zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Both programs end with the sum of the argument's two halves, the kernel on every device. -/
theorem values : Cert.algebraic_KernelIdeal_ReferenceIdeal := fun m ρ m' ρ' _ h =>
  ⟨AllReduce.total (m' ((0 : Dev Cert.ReferenceIdeal.nD).tc.loc Cert.ReferenceIdeal.main_arg0)),
    (θ_run Cert.KernelIdeal.defs _ _).mono
      (fun _ H c => ⟨((H.1 c).1 0).trans ((AllReduce.final_result m c).trans (AllReduce.out_total m _ h c)), (H.1 c).2⟩)
      (AllReduce.run_main (F := Ideal) m ρ),
    (θ_run Cert.ReferenceIdeal.defs _ _).mono
      (fun _ H => ⟨(H 0).1.trans (AllReduce.reference_total _ _ _ _ _), (H 0).2⟩)
      (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_kernelIdeal, frame_reference, trivial, values⟩

end Cert.Proof

end
